-- ==== Defs.lean ====
def Pre_Kernel [hPre_pre_int : Cert.Pre_pre_int.Facts] (m : (ℓ : Loc Cert.Kernel.nD Cert.Kernel.τ Cert.Kernel.sig) → Buf (Elt Bits) ℓ) : Prop :=
  ∀ c : Dev Cert.Kernel.nD,
    (Cert.Pre_pre_int.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_pre_int : Cert.Pre_pre_int.Facts] (m : (ℓ : Loc Cert.KernelIdeal.nD Cert.KernelIdeal.τ Cert.KernelIdeal.sig) → Buf (Elt Ideal) ℓ) : Prop :=
  ∀ c : Dev Cert.KernelIdeal.nD,
    (Cert.Pre_pre_int.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_pre_int : Cert.Pre_pre_int.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_pre_int : Cert.Pre_pre_int.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "neg" .f32 0xF149F2CA#32 ⊥
  ∧ IdealRules.named_const.Statement Cert.KernelIdeal.κ "ln2" .f32 0x3F317218#32 ((Real.log 2 : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10_0) = v0 c
          ∧ r.2.mem ((c.tc : Thread Cert.ReferenceIdeal.nD Cert.ReferenceIdeal.τ).loc Cert.ReferenceIdeal.main_v10_1) = v1 c
          ∧ r.2.mem ((c.tc : Thread Cert.ReferenceIdeal.nD Cert.ReferenceIdeal.τ).loc Cert.ReferenceIdeal.main_v10_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_pre_int : Cert.Pre_pre_int.Facts) (hPre_pre : Cert.Pre_pre.Facts),
    quiescent_Kernel (hKernel := hKernel) (hPre_pre_int := hPre_pre_int)
    ∧ quiescent_KernelIdeal (hKernelIdeal := hKernelIdeal) (hPre_pre_int := hPre_pre_int)
    ∧ quiescent_KernelIdeal_pre_pre (hKernelIdeal := hKernelIdeal) (hPre_pre := hPre_pre)
    ∧ quiescent_ReferenceIdeal (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S4x129x768x896 : Shape := ⟨4, ![4, 129, 768, 896]⟩
abbrev S129x4x768 : Shape := ⟨3, ![129, 4, 768]⟩
abbrev S5000x896 : Shape := ⟨2, ![5000, 896]⟩
abbrev S5000 : Shape := ⟨1, ![5000]⟩
abbrev S4x128 : Shape := ⟨2, ![4, 128]⟩
abbrev S4 : Shape := ⟨1, ![4]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel
  bcast_S_S4x128 : S_.BroadcastsInDim S4x128 (![] : Fin 0 → Fin S4x128.rank)
  reducesTo_S4x128_S_d0_1 : S4x128.ReducesTo [0, 1] S_
  bcast_S_S4x129x768x896 : S_.BroadcastsInDim S4x129x768x896 (![] : Fin 0 → Fin S4x129x768x896.rank)
  reducesTo_S4x129x768x896_S_d0_1_2_3 : S4x129x768x896.ReducesTo [0, 1, 2, 3] S_
  bcast_S_S5000x896 : S_.BroadcastsInDim S5000x896 (![] : Fin 0 → Fin S5000x896.rank)
  reducesTo_S5000x896_S_d0_1 : S5000x896.ReducesTo [0, 1] S_
  bcast_S_S129x4x768 : S_.BroadcastsInDim S129x4x768 (![] : Fin 0 → Fin S129x4x768.rank)
  reducesTo_S129x4x768_S_d0_1_2 : S129x4x768.ReducesTo [0, 1, 2] S_
  bcast_S_S5000 : S_.BroadcastsInDim S5000 (![] : Fin 0 → Fin S5000.rank)
  reducesTo_S5000_S_d0 : S5000.ReducesTo [0] S_

variable [Facts]

def fn_part3 {F : FTy → Type} [FloatOps F] (main_v46 : IVec S_ 1) (main_v47 : FVec F S5000 .f32) (main_v48 : FVec F S5000 .f32) : IVec S_ 1 :=
  let main_v49 : IVec S5000 1 := cmpf .olt main_v47 main_v48
  let main_c_21 : IVec S_ 1 := constantI S_ 1 1#1
  let main_v50 : IVec S_ 1 := (fun x v => Host.reduce IntOp.andi x v reducesTo_S5000_S_d0 h_S_) main_v49 main_c_21
  let main_v51 : IVec S_ 1 := andi main_v46 main_v50
  main_v51

def fn_part2 {F : FTy → Type} [FloatOps F] (main_arg1 : FVec F S129x4x768 .f32) (main_arg2 : IVec S5000x896 8) (main_arg3 : FVec F S5000 .f32) (main_arg4 : FVec F S5000 .f32) (main_v29 : IVec S_ 1) (main_v31 : IVec S5000x896 1) : IVec S_ 1 :=
  let main_c_15 : IVec S_ 8 := constantI S_ 8 255#8
  let main_v32 : IVec S5000x896 8 := broadcastInDim S5000x896 ![] bcast_S_S5000x896 main_c_15
  let main_v33 : IVec S5000x896 1 := cmpi .ne main_arg2 main_v32
  let main_v34 : IVec S5000x896 1 := andi main_v31 main_v33
  let main_c_16 : IVec S_ 1 := constantI S_ 1 1#1
  let main_v35 : IVec S_ 1 := (fun x v => Host.reduce IntOp.andi x v reducesTo_S5000x896_S_d0_1 h_S_) main_v34 main_c_16
  let main_v36 : IVec S_ 1 := andi main_v29 main_v35
  let main_v37 : FVec F S129x4x768 .f32 := Host.absf main_arg1
  let main_cst : FVec F S_ .f32 := constant S_ .f32 0x7F800000#32
  let main_v38 : FVec F S129x4x768 .f32 := broadcastInDim S129x4x768 ![] bcast_S_S129x4x768 main_cst
  let main_v39 : IVec S129x4x768 1 := cmpf .olt main_v37 main_v38
  let main_c_17 : IVec S_ 1 := constantI S_ 1 1#1
  let main_v40 : IVec S_ 1 := (fun x v => Host.reduce IntOp.andi x v reducesTo_S129x4x768_S_d0_1_2 h_S_) main_v39 main_c_17
  let main_v41 : IVec S_ 1 := andi main_v36 main_v40
  let main_v42 : FVec F S5000 .f32 := Host.absf main_arg3
  let main_cst_18 : FVec F S_ .f32 := constant S_ .f32 0x7F800000#32
  let main_v43 : FVec F S5000 .f32 := broadcastInDim S5000 ![] bcast_S_S5000 main_cst_18
  let main_v44 : IVec S5000 1 := cmpf .olt main_v42 main_v43
  let main_c_19 : IVec S_ 1 := constantI S_ 1 1#1
  let main_v45 : IVec S_ 1 := (fun x v => Host.reduce IntOp.andi x v reducesTo_S5000_S_d0 h_S_) main_v44 main_c_19
  let main_v46 : IVec S_ 1 := andi main_v41 main_v45
  let main_v47 : FVec F S5000 .f32 := Host.absf main_arg4
  let main_cst_20 : FVec F S_ .f32 := constant S_ .f32 0x7F800000#32
  let main_v48 : FVec F S5000 .f32 := broadcastInDim S5000 ![] bcast_S_S5000 main_cst_20
  fn_part3 (F := F) main_v46 main_v47 main_v48

def fn_part1 {F : FTy → Type} [FloatOps F] (main_arg0 : IVec S4x129x768x896 8) (main_arg1 : FVec F S129x4x768 .f32) (main_arg2 : IVec S5000x896 8) (main_arg3 : FVec F S5000 .f32) (main_arg4 : FVec F S5000 .f32) (main_arg5 : IVec S4x128 32) (main_v14 : IVec S_ 1) (main_c_7 : IVec S_ 32) : IVec S_ 1 :=
  let main_v15 : IVec S4x128 32 := broadcastInDim S4x128 ![] bcast_S_S4x128 main_c_7
  let main_v16 : IVec S4x128 1 := cmpi .sge main_arg5 main_v15
  let main_c_8 : IVec S_ 1 := constantI S_ 1 1#1
  let main_v17 : IVec S_ 1 := (fun x v => Host.reduce IntOp.andi x v reducesTo_S4x128_S_d0_1 h_S_) main_v16 main_c_8
  let main_v18 : IVec S_ 1 := andi main_v14 main_v17
  let main_c_9 : IVec S_ 32 := constantI S_ 32 5000#32
  let main_v19 : IVec S4x128 32 := broadcastInDim S4x128 ![] bcast_S_S4x128 main_c_9
  let main_v20 : IVec S4x128 1 := cmpi .slt main_arg5 main_v19
  let main_c_10 : IVec S_ 1 := constantI S_ 1 1#1
  let main_v21 : IVec S_ 1 := (fun x v => Host.reduce IntOp.andi x v reducesTo_S4x128_S_d0_1 h_S_) main_v20 main_c_10
  let main_v22 : IVec S_ 1 := andi main_v18 main_v21
  let main_c_11 : IVec S_ 8 := constantI S_ 8 127#8
  let main_v23 : IVec S4x129x768x896 8 := broadcastInDim S4x129x768x896 ![] bcast_S_S4x129x768x896 main_c_11
  let main_v24 : IVec S4x129x768x896 1 := cmpi .ne main_arg0 main_v23
  let main_c_12 : IVec S_ 8 := constantI S_ 8 255#8
  let main_v25 : IVec S4x129x768x896 8 := broadcastInDim S4x129x768x896 ![] bcast_S_S4x129x768x896 main_c_12
  let main_v26 : IVec S4x129x768x896 1 := cmpi .ne main_arg0 main_v25
  let main_v27 : IVec S4x129x768x896 1 := andi main_v24 main_v26
  let main_c_13 : IVec S_ 1 := constantI S_ 1 1#1
  let main_v28 : IVec S_ 1 := (fun x v => Host.reduce IntOp.andi x v reducesTo_S4x129x768x896_S_d0_1_2_3 h_S_) main_v27 main_c_13
  let main_v29 : IVec S_ 1 := andi main_v22 main_v28
  let main_c_14 : IVec S_ 8 := constantI S_ 8 127#8
  let main_v30 : IVec S5000x896 8 := broadcastInDim S5000x896 ![] bcast_S_S5000x896 main_c_14
  let main_v31 : IVec S5000x896 1 := cmpi .ne main_arg2 main_v30
  fn_part2 (F := F) main_arg1 main_arg2 main_arg3 main_arg4 main_v29 main_v31

def fn {F : FTy → Type} [FloatOps F] (main_arg0 : IVec S4x129x768x896 8) (main_arg1 : FVec F S129x4x768 .f32) (main_arg2 : IVec S5000x896 8) (main_arg3 : FVec F S5000 .f32) (main_arg4 : FVec F S5000 .f32) (main_arg5 : IVec S4x128 32) (main_arg6 : IVec S4 32) (main_arg7 : IVec S4 32) : IVec S_ 1 :=
  let main_c : IVec S_ 32 := constantI S_ 32 1#32
  let main_v0 : IVec S4 32 := broadcastInDim S4 ![] bcast_S_S4 main_c
  let main_v1 : IVec S4 1 := cmpi .sge main_arg6 main_v0
  let main_c_0 : IVec S_ 1 := constantI S_ 1 1#1
  let main_v2 : IVec S_ 1 := (fun x v => Host.reduce IntOp.andi x v reducesTo_S4_S_d0 h_S_) main_v1 main_c_0
  let main_c_1 : IVec S_ 32 := constantI S_ 32 768#32
  let main_v3 : IVec S4 32 := broadcastInDim S4 ![] bcast_S_S4 main_c_1
  let main_v4 : IVec S4 1 := cmpi .sle main_arg6 main_v3
  let main_c_2 : IVec S_ 1 := constantI S_ 1 1#1
  let main_v5 : IVec S_ 1 := (fun x v => Host.reduce IntOp.andi x v reducesTo_S4_S_d0 h_S_) main_v4 main_c_2
  let main_v6 : IVec S_ 1 := andi main_v2 main_v5
  let main_c_3 : IVec S_ 32 := constantI S_ 32 0#32
  let main_v7 : IVec S4 32 := broadcastInDim S4 ![] bcast_S_S4 main_c_3
  let main_v8 : IVec S4 1 := cmpi .sge main_arg7 main_v7
  let main_c_4 : IVec S_ 1 := constantI S_ 1 1#1
  let main_v9 : IVec S_ 1 := (fun x v => Host.reduce IntOp.andi x v reducesTo_S4_S_d0 h_S_) main_v8 main_c_4
  let main_v10 : IVec S_ 1 := andi main_v6 main_v9
  let main_c_5 : IVec S_ 32 := constantI S_ 32 128#32
  let main_v11 : IVec S4 32 := broadcastInDim S4 ![] bcast_S_S4 main_c_5
  let main_v12 : IVec S4 1 := cmpi .sle main_arg7 main_v11
  let main_c_6 : IVec S_ 1 := constantI S_ 1 1#1
  let main_v13 : IVec S_ 1 := (fun x v => Host.reduce IntOp.andi x v reducesTo_S4_S_d0 h_S_) main_v12 main_c_6
  let main_v14 : IVec S_ 1 := andi main_v10 main_v13
  let main_c_7 : IVec S_ 32 := constantI S_ 32 0#32
  fn_part1 (F := F) main_arg0 main_arg1 main_arg2 main_arg3 main_arg4 main_arg5 main_v14 main_c_7
-- ==== Pre_pre_int.lean ====
abbrev S4x129x768x896 : Shape := ⟨4, ![4, 129, 768, 896]⟩
abbrev S129x4x768 : Shape := ⟨3, ![129, 4, 768]⟩
abbrev S5000x896 : Shape := ⟨2, ![5000, 896]⟩
abbrev S5000 : Shape := ⟨1, ![5000]⟩
abbrev S4x128 : Shape := ⟨2, ![4, 128]⟩
abbrev S4 : Shape := ⟨1, ![4]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_arg5 : IVec S4x128 32) (main_v14 : IVec S_ 1) (main_c_7 : IVec S_ 32) : IVec S_ 1 :=
  let main_v15 : IVec S4x128 32 := broadcastInDim S4x128 ![] bcast_S_S4x128 main_c_7
  let main_v16 : IVec S4x128 1 := cmpi .sge main_arg5 main_v15
  let main_c_8 : IVec S_ 1 := constantI S_ 1 1#1
  let main_v17 : IVec S_ 1 := (fun x v => Host.reduce IntOp.andi x v reducesTo_S4x128_S_d0_1 h_S_) main_v16 main_c_8
  let main_v18 : IVec S_ 1 := andi main_v14 main_v17
  let main_c_9 : IVec S_ 32 := constantI S_ 32 5000#32
  let main_v19 : IVec S4x128 32 := broadcastInDim S4x128 ![] bcast_S_S4x128 main_c_9
  let main_v20 : IVec S4x128 1 := cmpi .slt main_arg5 main_v19
  let main_c_10 : IVec S_ 1 := constantI S_ 1 1#1
  let main_v21 : IVec S_ 1 := (fun x v => Host.reduce IntOp.andi x v reducesTo_S4x128_S_d0_1 h_S_) main_v20 main_c_10
  let main_v22 : IVec S_ 1 := andi main_v18 main_v21
  main_v22

def fn {F : FTy → Type} [FloatOps F] (main_arg0 : IVec S4x129x768x896 8) (main_arg1 : FVec F S129x4x768 .f32) (main_arg2 : IVec S5000x896 8) (main_arg3 : FVec F S5000 .f32) (main_arg4 : FVec F S5000 .f32) (main_arg5 : IVec S4x128 32) (main_arg6 : IVec S4 32) (main_arg7 : IVec S4 32) : IVec S_ 1 :=
  let main_c : IVec S_ 32 := constantI S_ 32 1#32
  let main_v0 : IVec S4 32 := broadcastInDim S4 ![] bcast_S_S4 main_c
  let main_v1 : IVec S4 1 := cmpi .sge main_arg6 main_v0
  let main_c_0 : IVec S_ 1 := constantI S_ 1 1#1
  let main_v2 : IVec S_ 1 := (fun x v => Host.reduce IntOp.andi x v reducesTo_S4_S_d0 h_S_) main_v1 main_c_0
  let main_c_1 : IVec S_ 32 := constantI S_ 32 768#32
  let main_v3 : IVec S4 32 := broadcastInDim S4 ![] bcast_S_S4 main_c_1
  let main_v4 : IVec S4 1 := cmpi .sle main_arg6 main_v3
  let main_c_2 : IVec S_ 1 := constantI S_ 1 1#1
  let main_v5 : IVec S_ 1 := (fun x v => Host.reduce IntOp.andi x v reducesTo_S4_S_d0 h_S_) main_v4 main_c_2
  let main_v6 : IVec S_ 1 := andi main_v2 main_v5
  let main_c_3 : IVec S_ 32 := constantI S_ 32 0#32
  let main_v7 : IVec S4 32 := broadcastInDim S4 ![] bcast_S_S4 main_c_3
  let main_v8 : IVec S4 1 := cmpi .sge main_arg7 main_v7
  let main_c_4 : IVec S_ 1 := constantI S_ 1 1#1
  let main_v9 : IVec S_ 1 := (fun x v => Host.reduce IntOp.andi x v reducesTo_S4_S_d0 h_S_) main_v8 main_c_4
  let main_v10 : IVec S_ 1 := andi main_v6 main_v9
  let main_c_5 : IVec S_ 32 := constantI S_ 32 128#32
  let main_v11 : IVec S4 32 := broadcastInDim S4 ![] bcast_S_S4 main_c_5
  let main_v12 : IVec S4 1 := cmpi .sle main_arg7 main_v11
  let main_c_6 : IVec S_ 1 := constantI S_ 1 1#1
  let main_v13 : IVec S_ 1 := (fun x v => Host.reduce IntOp.andi x v reducesTo_S4_S_d0 h_S_) main_v12 main_c_6
  let main_v14 : IVec S_ 1 := andi main_v10 main_v13
  let main_c_7 : IVec S_ 32 := constantI S_ 32 0#32
  fn_part1 (F := F) main_arg5 main_v14 main_c_7
-- ==== Kernel.lean ====
abbrev S4x129x768x896 : Shape := ⟨4, ![4, 129, 768, 896]⟩
abbrev S129x4x768 : Shape := ⟨3, ![129, 4, 768]⟩
abbrev S5000x896 : Shape := ⟨2, ![5000, 896]⟩
abbrev S5000 : Shape := ⟨1, ![5000]⟩
abbrev S4x128 : Shape := ⟨2, ![4, 128]⟩
abbrev S4 : Shape := ⟨1, ![4]⟩
abbrev S_ : Shape := ⟨0, ![]⟩
abbrev S5024x896 : Shape := ⟨2, ![5024, 896]⟩
abbrev S5024 : Shape := ⟨1, ![5024]⟩
abbrev S5024x1 : Shape := ⟨2, ![5024, 1]⟩
abbrev S5024x128 : Shape := ⟨2, ![5024, 128]⟩
abbrev S1x896 : Shape := ⟨2, ![1, 896]⟩
abbrev S1x128 : Shape := ⟨2, ![1, 128]⟩
abbrev S128 : Shape := ⟨1, ![128]⟩
abbrev S3x896 : Shape := ⟨2, ![3, 896]⟩
abbrev S16x896 : Shape := ⟨2, ![16, 896]⟩
abbrev S1x1 : Shape := ⟨2, ![1, 1]⟩
abbrev S128x4x768 : Shape := ⟨3, ![128, 4, 768]⟩
abbrev S1x1x128x896 : Shape := ⟨4, ![1, 1, 128, 896]⟩
abbrev S1 : Shape := ⟨1, ![1]⟩
abbrev S32x896 : Shape := ⟨2, ![32, 896]⟩
abbrev S128x896 : Shape := ⟨2, ![128, 896]⟩
abbrev S1x4x128 : Shape := ⟨3, ![1, 4, 128]⟩
abbrev S256x896 : Shape := ⟨2, ![256, 896]⟩
abbrev S256x128 : Shape := ⟨2, ![256, 128]⟩
abbrev S160x896 : Shape := ⟨2, ![160, 896]⟩
abbrev S160x128 : Shape := ⟨2, ![160, 128]⟩
abbrev S32x128 : Shape := ⟨2, ![32, 128]⟩
abbrev S16x128 : Shape := ⟨2, ![16, 128]⟩
abbrev S4x896 : Shape := ⟨2, ![4, 896]⟩
abbrev S4x768x129 : Shape := ⟨3, ![4, 768, 129]⟩
abbrev S4x768x128 : Shape := ⟨3, ![4, 768, 128]⟩

abbrev nBuf : Space → Nat
  | .hbm => 43
  | .vmem => 14
  | .smem => 4
  | _ => 0

abbrev bufTy : (tb : Table) → Fin (tcTables nBuf tb) → BufTy
  | .hbm, ⟨0, _⟩ => ⟨S4x129x768x896, .i8⟩
  | .hbm, ⟨1, _⟩ => ⟨S129x4x768, .f32⟩
  | .hbm, ⟨2, _⟩ => ⟨S5000x896, .i8⟩
  | .hbm, ⟨3, _⟩ => ⟨S5000, .f32⟩
  | .hbm, ⟨4, _⟩ => ⟨S5000, .f32⟩
  | .hbm, ⟨5, _⟩ => ⟨S4x129x768x896, .fp8e4m3⟩
  | .hbm, ⟨6, _⟩ => ⟨S_, .i32⟩
  | .hbm, ⟨7, _⟩ => ⟨S_, .i8⟩
  | .hbm, ⟨8, _⟩ => ⟨S5024x896, .i8⟩
  | .hbm, ⟨9, _⟩ => ⟨S5024x896, .fp8e4m3⟩
  | .hbm, ⟨10, _⟩ => ⟨S_, .i32⟩
  | .hbm, ⟨11, _⟩ => ⟨S_, .f32⟩
  | .hbm, ⟨12, _⟩ => ⟨S5024, .f32⟩
  | .hbm, ⟨13, _⟩ => ⟨S5024x1, .f32⟩
  | .hbm, ⟨14, _⟩ => ⟨S5024x128, .f32⟩
  | .hbm, ⟨15, _⟩ => ⟨S_, .i32⟩
  | .hbm, ⟨16, _⟩ => ⟨S_, .f32⟩
  | .hbm, ⟨17, _⟩ => ⟨S5024, .f32⟩
  | .hbm, ⟨18, _⟩ => ⟨S5024x1, .f32⟩
  | .hbm, ⟨19, _⟩ => ⟨S5024x128, .f32⟩
  | .hbm, ⟨20, _⟩ => ⟨S1x896, .f32⟩
  | .hbm, ⟨21, _⟩ => ⟨S1x896, .bf16⟩
  | .hbm, ⟨22, _⟩ => ⟨S1x896, .f32⟩
  | .hbm, ⟨23, _⟩ => ⟨S1x896, .f32⟩
  | .hbm, ⟨24, _⟩ => ⟨S1x896, .bf16⟩
  | .hbm, ⟨25, _⟩ => ⟨S1x896, .f32⟩
  | .hbm, ⟨26, _⟩ => ⟨S1x896, .f32⟩
  | .hbm, ⟨27, _⟩ => ⟨S1x896, .bf16⟩
  | .hbm, ⟨28, _⟩ => ⟨S3x896, .bf16⟩
  | .hbm, ⟨29, _⟩ => ⟨S_, .i32⟩
  | .hbm, ⟨30, _⟩ => ⟨S_, .bf16⟩
  | .hbm, ⟨31, _⟩ => ⟨S16x896, .bf16⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1x1, .f32⟩
  | .hbm, ⟨37, _⟩ => ⟨S129x4x768, .f32⟩
  | .hbm, ⟨38, _⟩ => ⟨S128x4x768, .f32⟩
  | .hbm, ⟨39, _⟩ => ⟨S129x4x768, .f32⟩
  | .hbm, ⟨40, _⟩ => ⟨S4x768x129, .f32⟩
  | .hbm, ⟨41, _⟩ => ⟨S4x768x128, .f32⟩
  | .hbm, ⟨42, _⟩ => ⟨S4x768x129, .f32⟩
  | .local _ .vmem, ⟨0, _⟩ => ⟨S5024x896, .fp8e4m3⟩
  | .local _ .vmem, ⟨1, _⟩ => ⟨S5024x128, .f32⟩
  | .local _ .vmem, ⟨2, _⟩ => ⟨S1x896, .f32⟩
  | .local _ .vmem, ⟨3, _⟩ => ⟨S1x1x128x896, .fp8e4m3⟩
  | .local _ .vmem, ⟨4, _⟩ => ⟨S1x1x128x896, .fp8e4m3⟩
  | .local _ .vmem, ⟨5, _⟩ => ⟨S129x4x768, .f32⟩
  | .local _ .vmem, ⟨6, _⟩ => ⟨S5024x896, .fp8e4m3⟩
  | .local _ .vmem, ⟨7, _⟩ => ⟨S5024x128, .f32⟩
  | .local _ .vmem, ⟨8, _⟩ => ⟨S5024x128, .f32⟩
  | .local _ .vmem, ⟨9, _⟩ => ⟨S16x896, .bf16⟩
  | .local _ .vmem, ⟨10, _⟩ => ⟨S129x4x768, .f32⟩
  | .local _ .vmem, ⟨11, _⟩ => ⟨S128x4x768, .f32⟩
  | .local _ .vmem, ⟨12, _⟩ => ⟨S129x4x768, .f32⟩
  | .local _ .vmem, ⟨13, _⟩ => ⟨S32x896, .fp8e4m3⟩
  | .local _ .smem, ⟨0, _⟩ => ⟨S4, .i32⟩
  | .local _ .smem, ⟨1, _⟩ => ⟨S4, .i32⟩
  | .local _ .smem, ⟨2, _⟩ => ⟨S4x128, .i32⟩
  | .local _ .smem, ⟨3, _⟩ => ⟨S1x1, .f32⟩
  | _, _ => ⟨S4x129x768x896, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨3, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_call2_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_call3_v0 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22_0 : Ref sig .tc := ⟨.hbm, 37, rfl⟩
abbrev main_v22_1 : Ref sig .tc := ⟨.hbm, 38, rfl⟩
abbrev main_v22_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_arg6 : Ref sig .tc := ⟨.smem, 0, rfl⟩
abbrev main_arg7 : Ref sig .tc := ⟨.smem, 1, rfl⟩
abbrev main_arg5 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg9_0 : Ref sig .tc := ⟨.vmem, 12, rfl⟩
abbrev cc1_scratch0 : Ref sig .tc := ⟨.vmem, 13, rfl⟩
abbrev cc1_stg6_0 : Ref sig .tc := ⟨.smem, 3, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem9_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S5024x896 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S5024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x896 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨3, ![4, 129, 6], ![false, false, false]⟩

abbrev pre1 : Pipeline.Prefetch sig := ⟨3, ![main_arg6.idx, main_arg7.idx, main_arg5.idx], fun | 0 => main_arg6.names | 1 => main_arg7.names | 2 => main_arg5.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_off2 (i : grid1.Coords) : Fin 3 → Nat :=
  let arg1 : BitVec 32 := BitVec.ofNat 32 (i 1).val
  let v20 : Index := Scalar.indexCast arg1
  let c0_8 : Index := 0#32
  let arg2 : BitVec 32 := BitVec.ofNat 32 (i 2).val
  let c128_i32 : BitVec 32 := 128#32
  let v0 : BitVec 32 := Scalar.muli arg2 c128_i32
  let v21 : Index := Scalar.indexCast v0
  ![v20.toNat, 0, v21.toNat]
@[reducible] def k1_t1_loop : Scf.Loop 32 :=
  let c0_i32_13 : BitVec 32 := 0#32
  let c19_i32 : BitVec 32 := 19#32
  let v35 : BitVec 32 := Scalar.addi c0_i32_13 c19_i32
  let c1_i32 : BitVec 32 := 1#32
  ⟨c0_i32_13, v35, c1_i32⟩
def k1_off3 (k1_t1 : Fin k1_t1_loop.trips) : Fin 2 → Nat :=
  let c0_i32_13 : BitVec 32 := 0#32
  let c1_i32 : BitVec 32 := 1#32
  let arg17 : BitVec 32 := Scf.iv c0_i32_13 c1_i32 k1_t1
  let c256_i32 : BitVec 32 := 256#32
  let v150 : BitVec 32 := Scalar.muli arg17 c256_i32
  let v151 : Index := Scalar.indexCast v150
  let c0_49 : Index := 0#32
  ![v151.toNat, 0]
def k1_off4 (k1_t1 : Fin k1_t1_loop.trips) : Fin 2 → Nat :=
  let c0_i32_13 : BitVec 32 := 0#32
  let c1_i32 : BitVec 32 := 1#32
  let arg17 : BitVec 32 := Scf.iv c0_i32_13 c1_i32 k1_t1
  let c256_i32 : BitVec 32 := 256#32
  let v150 : BitVec 32 := Scalar.muli arg17 c256_i32
  let v155 : Index := Scalar.indexCast v150
  let c0_51 : Index := 0#32
  ![v155.toNat, 0]
def k1_off5 (i : grid1.Coords) : Fin 1 → Nat :=
  let arg0 : BitVec 32 := BitVec.ofNat 32 (i 0).val
  let v75 : Index := Scalar.indexCast arg0
  ![v75.toNat]
def k1_off6 (i : grid1.Coords) : Fin 2 → Nat :=
  let arg0 : BitVec 32 := BitVec.ofNat 32 (i 0).val
  let v150 : Index := Scalar.indexCast arg0
  let arg1 : BitVec 32 := BitVec.ofNat 32 (i 1).val
  let v151 : Index := Scalar.indexCast arg1
  ![v150.toNat, v151.toNat]
def k1_cond2 (i : grid1.Coords) (v9 : BitVec 32) (v13 : BitVec 32) : BitVec 1 :=
  let arg1 : BitVec 32 := BitVec.ofNat 32 (i 1).val
  let v10 : BitVec 1 := Scalar.cmpi .sle arg1 v9
  let arg2 : BitVec 32 := BitVec.ofNat 32 (i 2).val
  let c128_i32_3 : BitVec 32 := 128#32
  let v11 : BitVec 32 := Scalar.muli arg2 c128_i32_3
  let v14 : BitVec 1 := Scalar.cmpi .slt v11 v13
  let v15 : BitVec 1 := Scalar.andi v10 v14
  let v16 : BitVec 32 := Scalar.extui v15
  let c0_i32_4 : BitVec 32 := 0#32
  let v17 : BitVec 1 := Scalar.cmpi .ne v16 c0_i32_4
  v17

def k1_cond3 (i : grid1.Coords) (v146 : BitVec 32) : BitVec 1 :=
  let arg1 : BitVec 32 := BitVec.ofNat 32 (i 1).val
  let v147 : BitVec 1 := Scalar.cmpi .slt arg1 v146
  let v148 : BitVec 32 := Scalar.extui v147
  let c0_i32_48 : BitVec 32 := 0#32
  let v149 : BitVec 1 := Scalar.cmpi .ne v148 c0_i32_48
  v149

def k1_off7 (v152 : BitVec 32) : Fin 2 → Nat :=
  let v153 : Index := Scalar.indexCast v152
  let c0_49 : Index := 0#32
  ![v153.toNat, 0]

def k1_off8 (v152 : BitVec 32) : Fin 2 → Nat :=
  let v162 : Index := Scalar.indexCast v152
  let c0_55 : Index := 0#32
  ![v162.toNat, 0]

def k1_chk2 (i : grid1.Coords) (v9 : BitVec 32) (v13 : BitVec 32) (v146 : BitVec 32) (v152 : BitVec 32) : Prop :=
  (∀ (k1_h2 : k1_cond2 i v9 v13 = 1#1), ∀ (k1_h3 : k1_cond3 i v146 = 1#1), ∀ a, (k1_off7 v152) a + S1x896.size a ≤ S5024x896.size a) ∧
  (∀ (k1_h2 : k1_cond2 i v9 v13 = 1#1), ∀ (k1_h3 : k1_cond3 i v146 = 1#1), ∀ a, (k1_off8 v152) a + S1x128.size a ≤ S5024x128.size a)
theorem k1_off7_inb : ∀ (i : grid1.Coords) (v9 : BitVec 32) (v13 : BitVec 32) (v146 : BitVec 32) (v152 : BitVec 32) (k1_hw2 : k1_chk2 i v9 v13 v146 v152), ∀ (k1_h2 : k1_cond2 i v9 v13 = 1#1), ∀ (k1_h3 : k1_cond3 i v146 = 1#1), ∀ a, (k1_off7 v152) a + S1x896.size a ≤ S5024x896.size a := fun i v9 v13 v146 v152 k1_hw2 k1_h2 k1_h3 => k1_hw2.1 k1_h2 k1_h3
theorem k1_off8_inb : ∀ (i : grid1.Coords) (v9 : BitVec 32) (v13 : BitVec 32) (v146 : BitVec 32) (v152 : BitVec 32) (k1_hw2 : k1_chk2 i v9 v13 v146 v152), ∀ (k1_h2 : k1_cond2 i v9 v13 = 1#1), ∀ (k1_h3 : k1_cond3 i v146 = 1#1), ∀ a, (k1_off8 v152) a + S1x128.size a ≤ S5024x128.size a := fun i v9 v13 v146 v152 k1_hw2 k1_h2 k1_h3 => k1_hw2.2 k1_h2 k1_h3

def k1_off9 (i : grid1.Coords) : Fin 3 → Nat :=
  let arg1 : BitVec 32 := BitVec.ofNat 32 (i 1).val
  let v178 : Index := Scalar.indexCast arg1
  let c0_60 : Index := 0#32
  let arg2 : BitVec 32 := BitVec.ofNat 32 (i 2).val
  let c128_i32 : BitVec 32 := 128#32
  let v0 : BitVec 32 := Scalar.muli arg2 c128_i32
  let v179 : Index := Scalar.indexCast v0
  ![v178.toNat, 0, v179.toNat]

def k1_chk1 (i : grid1.Coords) (v9 : BitVec 32) (v13 : BitVec 32) (v146 : BitVec 32) : Prop :=
  (∀ (k1_h2 : k1_cond2 i v9 v13 = 1#1), ∀ (k1_h3 : k1_cond3 i v146 = 1#1), ∀ a, (k1_off6 i) a + S1x1.size a ≤ S4x128.size a) ∧
  (∀ (k1_h2 : k1_cond2 i v9 v13 = 1#1), ∀ (k1_h3 : k1_cond3 i v146 = 1#1), ∀ a, (k1_off9 i) a + S1x4x128.size a ≤ S128x4x768.size a)
theorem k1_off6_inb : ∀ (i : grid1.Coords) (v9 : BitVec 32) (v13 : BitVec 32) (v146 : BitVec 32) (k1_hw1 : k1_chk1 i v9 v13 v146), ∀ (k1_h2 : k1_cond2 i v9 v13 = 1#1), ∀ (k1_h3 : k1_cond3 i v146 = 1#1), ∀ a, (k1_off6 i) a + S1x1.size a ≤ S4x128.size a := fun i v9 v13 v146 k1_hw1 k1_h2 k1_h3 => k1_hw1.1 k1_h2 k1_h3
theorem k1_off9_inb : ∀ (i : grid1.Coords) (v9 : BitVec 32) (v13 : BitVec 32) (v146 : BitVec 32) (k1_hw1 : k1_chk1 i v9 v13 v146), ∀ (k1_h2 : k1_cond2 i v9 v13 = 1#1), ∀ (k1_h3 : k1_cond3 i v146 = 1#1), ∀ a, (k1_off9 i) a + S1x4x128.size a ≤ S128x4x768.size a := fun i v9 v13 v146 k1_hw1 k1_h2 k1_h3 => k1_hw1.2 k1_h2 k1_h3

def k1_cond1 (i : grid1.Coords) : BitVec 1 :=
  let arg0 : BitVec 32 := BitVec.ofNat 32 (i 0).val
  let c0_i32 : BitVec 32 := 0#32
  let v1 : BitVec 1 := Scalar.cmpi .eq arg0 c0_i32
  let arg1 : BitVec 32 := BitVec.ofNat 32 (i 1).val
  let c0_i32_0 : BitVec 32 := 0#32
  let v2 : BitVec 1 := Scalar.cmpi .eq arg1 c0_i32_0
  let v3 : BitVec 1 := Scalar.andi v1 v2
  let arg2 : BitVec 32 := BitVec.ofNat 32 (i 2).val
  let c0_i32_1 : BitVec 32 := 0#32
  let v4 : BitVec 1 := Scalar.cmpi .eq arg2 c0_i32_1
  let v5 : BitVec 1 := Scalar.andi v3 v4
  let v6 : BitVec 32 := Scalar.extui v5
  let c0_i32_2 : BitVec 32 := 0#32
  let v7 : BitVec 1 := Scalar.cmpi .ne v6 c0_i32_2
  v7

def cc1_transform_0 (k1_off1_inb : ∀ i : grid1.Coords, ∀ a, (k1_off1 i) a + S1.size a ≤ S4.size a) (numel1_S1 : S1.numel = 1) (pf : pre1.Contents (Elt F)) (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 1 (Rect.unit (s := S4) ![v0.toNat] S1.size (k1_off1_inb i)) numel1_S1
  let v2 : BitVec 1 := Scalar.cmpi .sle arg1 v1
  let v3 : Index := Scalar.indexCast arg0
  let v4 : BitVec 32 := pf.at 1 (Rect.unit (s := S4) ![v3.toNat] S1.size (k1_off1_inb i)) numel1_S1
  let v5 : BitVec 32 := Scalar.minsi arg1 v4
  let c6_i32 : BitVec 32 := 6#32
  let v6 : BitVec 32 := Scalar.select v2 arg2 c6_i32
  let v7 : Index := Scalar.indexCast arg0
  let v8 : BitVec 32 := pf.at 0 (Rect.unit (s := S4) ![v7.toNat] S1.size (k1_off1_inb i)) numel1_S1
  let c1_i32 : BitVec 32 := 1#32
  let v9 : BitVec 32 := Scalar.subi v8 c1_i32
  let c128_i32 : BitVec 32 := 128#32
  let v10 : BitVec 32 := Scalar.divsi v9 c128_i32
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c0_i32_1 : BitVec 32 := 0#32
  let v16 : BitVec 1 := Scalar.cmpi .sgt c128_i32 c0_i32_1
  let v17 : BitVec 32 := Scalar.extui v16
  let c0_i32_2 : BitVec 32 := 0#32
  let v18 : BitVec 1 := Scalar.cmpi .slt c128_i32 c0_i32_2
  let v19 : BitVec 32 := Scalar.extui v18
  let v20 : BitVec 32 := Scalar.subi v17 v19
  let v21 : BitVec 1 := Scalar.cmpi .ne v15 v20
  let v22 : BitVec 32 := Scalar.remsi v9 c128_i32
  let c0_i32_3 : BitVec 32 := 0#32
  let v23 : BitVec 1 := Scalar.cmpi .ne v22 c0_i32_3
  let v24 : BitVec 1 := Scalar.andi v21 v23
  let c1_i32_4 : BitVec 32 := 1#32
  let v25 : BitVec 32 := Scalar.subi v10 c1_i32_4
  let v26 : BitVec 32 := Scalar.select v24 v25 v10
  let v27 : BitVec 32 := Scalar.minsi v6 v26
  let c0_i32_5 : BitVec 32 := 0#32
  let c0_i32_6 : BitVec 32 := 0#32
  ![arg0.toNat, v5.toNat, v27.toNat, c0_i32_5.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S1x1x128x896 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 1 → Memref sig .tc .vmem S129x4x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 1 → Memref sig .tc .vmem S5024x896 .fp8e4m3 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S5024x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S5024x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S16x896 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .smem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 1 → Memref sig .tc .vmem S129x4x768 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false, false]

abbrev stage1_8 : Fin 1 → Memref sig .tc .vmem S128x4x768 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false, false]

abbrev stage1_9 : Fin 1 → Memref sig .tc .vmem S129x4x768 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false, false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "neg" => some ⊥
  | _ => none
-- ==== ReferenceIdeal.lean ====
abbrev S4x129x768x896 : Shape := ⟨4, ![4, 129, 768, 896]⟩
abbrev S129x4x768 : Shape := ⟨3, ![129, 4, 768]⟩
abbrev S5000x896 : Shape := ⟨2, ![5000, 896]⟩
abbrev S5000 : Shape := ⟨1, ![5000]⟩
abbrev S4x128 : Shape := ⟨2, ![4, 128]⟩
abbrev S4 : Shape := ⟨1, ![4]⟩
abbrev S4x768x129x896 : Shape := ⟨4, ![4, 768, 129, 896]⟩
abbrev S4x768x129 : Shape := ⟨3, ![4, 768, 129]⟩
abbrev S4x768x129x1 : Shape := ⟨4, ![4, 768, 129, 1]⟩
abbrev S1x1x1x5000 : Shape := ⟨4, ![1, 1, 1, 5000]⟩
abbrev S4x1x128x1 : Shape := ⟨4, ![4, 1, 128, 1]⟩
abbrev S4x1x1 : Shape := ⟨3, ![4, 1, 1]⟩
abbrev S4x768x128 : Shape := ⟨3, ![4, 768, 128]⟩
abbrev S396288x896 : Shape := ⟨2, ![396288, 896]⟩
abbrev S396288x5000 : Shape := ⟨2, ![396288, 5000]⟩
abbrev S4x768x129x5000 : Shape := ⟨4, ![4, 768, 129, 5000]⟩
abbrev S4x768x128x5000 : Shape := ⟨4, ![4, 768, 128, 5000]⟩

abbrev nBuf : Space → Nat
  | .hbm => 21
  | .vmem => 11
  | .smem => 0
  | _ => 0

abbrev bufTy : (tb : Table) → Fin (tcTables nBuf tb) → BufTy
  | .hbm, ⟨0, _⟩ => ⟨S4x129x768x896, .i8⟩
  | .hbm, ⟨1, _⟩ => ⟨S129x4x768, .f32⟩
  | .hbm, ⟨2, _⟩ => ⟨S5000x896, .i8⟩
  | .hbm, ⟨3, _⟩ => ⟨S5000, .f32⟩
  | .hbm, ⟨4, _⟩ => ⟨S5000, .f32⟩
  | .hbm, ⟨5, _⟩ => ⟨S4x128, .i32⟩
  | .hbm, ⟨6, _⟩ => ⟨S4, .i32⟩
  | .hbm, ⟨7, _⟩ => ⟨S4, .i32⟩
  | .hbm, ⟨8, _⟩ => ⟨S4x768x129x896, .i8⟩
  | .hbm, ⟨9, _⟩ => ⟨S4x768x129x896, .fp8e4m3⟩
  | .hbm, ⟨10, _⟩ => ⟨S4x768x129, .f32⟩
  | .hbm, ⟨11, _⟩ => ⟨S5000x896, .fp8e4m3⟩
  | .hbm, ⟨12, _⟩ => ⟨S4x768x129x1, .f32⟩
  | .hbm, ⟨13, _⟩ => ⟨S1x1x1x5000, .f32⟩
  | .hbm, ⟨14, _⟩ => ⟨S1x1x1x5000, .f32⟩
  | .hbm, ⟨15, _⟩ => ⟨S4x1x128x1, .i32⟩
  | .hbm, ⟨16, _⟩ => ⟨S4x1x1, .i32⟩
  | .hbm, ⟨17, _⟩ => ⟨S4x1x1, .i32⟩
  | .hbm, ⟨18, _⟩ => ⟨S4x768x129, .f32⟩
  | .hbm, ⟨19, _⟩ => ⟨S4x768x128, .f32⟩
  | .hbm, ⟨20, _⟩ => ⟨S4x768x129, .f32⟩
  | .local _ .vmem, ⟨0, _⟩ => ⟨S4x768x129x896, .fp8e4m3⟩
  | .local _ .vmem, ⟨1, _⟩ => ⟨S4x768x129x1, .f32⟩
  | .local _ .vmem, ⟨2, _⟩ => ⟨S5000x896, .fp8e4m3⟩
  | .local _ .vmem, ⟨3, _⟩ => ⟨S1x1x1x5000, .f32⟩
  | .local _ .vmem, ⟨4, _⟩ => ⟨S1x1x1x5000, .f32⟩
  | .local _ .vmem, ⟨5, _⟩ => ⟨S4x1x128x1, .i32⟩
  | .local _ .vmem, ⟨6, _⟩ => ⟨S4x1x1, .i32⟩
  | .local _ .vmem, ⟨7, _⟩ => ⟨S4x1x1, .i32⟩
  | .local _ .vmem, ⟨8, _⟩ => ⟨S4x768x129, .f32⟩
  | .local _ .vmem, ⟨9, _⟩ => ⟨S4x768x128, .f32⟩
  | .local _ .vmem, ⟨10, _⟩ => ⟨S4x768x129, .f32⟩
  | _, _ => ⟨S4x129x768x896, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S4x768x129x896 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x768x129x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5000x896 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x1x5000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x1x5000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1x128x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x1x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x768x129 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x768x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x768x129 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.PreInt.lean ====
/- The integer precondition, read: the lengths, the label counts and the labels are in range. -/
module

public import proofs.«01_k».proof.Pre_pre_int
public import proofs.«01_k».proof.Proof.Gen.Pre_pre_int
public import Idealize.ShloMosaic.Lib.Affine
public import Idealize.ShloMosaic.Lib.ReduceAll

@[expose] public section

noncomputable section

namespace Cert.Pre_pre_int.Hand

open Cert.Pre_pre_int Idealize.ShloMosaic

/-- The tables' words are in range. -/
structure InRange (lab : IVec S4x128 32) (el tl : IVec S4 32) : Prop where
  el_ge : ∀ b, 1 ≤ (el b).toInt
  el_le : ∀ b, (el b).toInt ≤ 768
  tl_ge : ∀ b, 0 ≤ (tl b).toInt
  tl_le : ∀ b, (tl b).toInt ≤ 128
  lab_ge : ∀ b, 0 ≤ (lab b).toInt
  lab_lt : ∀ b, (lab b).toInt < 5000

instance : Subsingleton S_.Idx := ⟨fun a b => funext fun k => k.elim0⟩

/-- The precondition gives the ranges. -/
theorem inRange {F : FTy → Type} [FloatOps F] [Facts] {a0 : IVec S4x129x768x896 8} {a1 : FVec F S129x4x768 .f32} {a2 : IVec S5000x896 8} {a3 a4 : FVec F S5000 .f32}
    {lab : IVec S4x128 32} {el tl : IVec S4 32} (h : fn a0 a1 a2 a3 a4 lab el tl = fun _ => 1#1) : InRange lab el tl := by
  have e := congrFun h (fun k => k.elim0)
  dsimp only [fn, fn_part1, andi] at e
  simp only [IntOp.andi_eq_one] at e
  obtain ⟨⟨⟨⟨⟨h1, h2⟩, h3⟩, h4⟩, h5⟩, h6⟩ := e
  refine ⟨fun b => ?_, fun b => ?_, fun b => ?_, fun b => ?_, fun b => ?_, fun b => ?_⟩
  · exact IntOp.cmpi_sge.mp (Host.reduce_andi_all _ _ _ _ _ h1 b)
  · exact IntOp.cmpi_sle.mp (Host.reduce_andi_all _ _ _ _ _ h2 b)
  · exact IntOp.cmpi_sge.mp (Host.reduce_andi_all _ _ _ _ _ h3 b)
  · exact IntOp.cmpi_sle.mp (Host.reduce_andi_all _ _ _ _ _ h4 b)
  · exact IntOp.cmpi_sge.mp (Host.reduce_andi_all _ _ _ _ _ h5 b)
  · exact IntOp.cmpi_slt.mp (Host.reduce_andi_all _ _ _ _ _ h6 b)

end Cert.Pre_pre_int.Hand

end
-- ==== Proof.PrePre.lean ====
/- The full precondition, read at the ideal instance: the integer ranges, no code byte is one of the two not-a-number
   patterns, and the scales and the bias are finite. -/
module

public import proofs.«01_k».proof.Pre_pre
public import proofs.«01_k».proof.Proof.Gen.Pre_pre
public import proofs.«01_k».proof.Proof.PreInt
public import Idealize.ShloMosaic.PureOps.Ideal
public import Idealize.ShloMosaic.Lib.Pointwise

@[expose] public section

noncomputable section

namespace Cert.Pre_pre.Hand

open Cert.Pre_pre Idealize.ShloMosaic

instance : Subsingleton S_.Idx := ⟨fun a b => funext fun k => k.elim0⟩

/-- What the full precondition says of the arguments, at the ideal instance. -/
structure Good (a0 : IVec S4x129x768x896 8) (a1 : FVec Ideal S129x4x768 .f32) (a2 : IVec S5000x896 8) (a3 a4 : FVec Ideal S5000 .f32)
    (lab : IVec S4x128 32) (el tl : IVec S4 32) : Prop where
  rng : Cert.Pre_pre_int.Hand.InRange lab el tl
  z127 : ∀ i, a0 i ≠ 127#8
  z255 : ∀ i, a0 i ≠ 255#8
  w127 : ∀ i, a2 i ≠ 127#8
  w255 : ∀ i, a2 i ≠ 255#8
  zs_fin : ∀ i, ∃ r : ℝ, a1 i = (r : EReal)
  ws_fin : ∀ i, ∃ r : ℝ, a3 i = (r : EReal)
  b_fin : ∀ i, ∃ r : ℝ, a4 i = (r : EReal)

theorem fin_of {x : EReal} (h : max x (-x) < ⊤) : ∃ r : ℝ, x = (r : EReal) := by
  induction x using EReal.rec with
  | bot => simp at h
  | coe r => exact ⟨r, rfl⟩
  | top => simp at h

theorem inf_eq : Ideal.ofBits .f32 0x7F800000#32 = ⊤ := by simp [Ideal.ofBits, Ideal.ieee]

/-- The test `|x| < ∞` at an index says the entry is finite. -/
theorem fin_lt {s : Shape} {x : FVec Ideal s .f32} {i : s.Idx}
    (q : cmpf (F := Ideal) .olt (Host.absf x) (fun _ => Ideal.ofBits .f32 0x7F800000#32) i = 1#1) : ∃ r : ℝ, x i = (r : EReal) := by
  refine fin_of ?_
  have q' : BitVec.ofBool (decide (max (x i) (-x i) < Ideal.ofBits .f32 0x7F800000#32)) = 1#1 := q
  rw [inf_eq] at q'
  by_contra hc
  rw [decide_eq_false hc] at q'
  exact absurd q' (by decide)

/-- The precondition gives these facts. -/
theorem good [Facts] {a0 : IVec S4x129x768x896 8} {a1 : FVec Ideal S129x4x768 .f32} {a2 : IVec S5000x896 8} {a3 a4 : FVec Ideal S5000 .f32}
    {lab : IVec S4x128 32} {el tl : IVec S4 32} (h : fn a0 a1 a2 a3 a4 lab el tl = fun _ => 1#1) : Good a0 a1 a2 a3 a4 lab el tl := by
  have e := congrFun h (fun k => k.elim0)
  dsimp only [fn, fn_part1, fn_part2, fn_part3, andi] at e
  simp only [IntOp.andi_eq_one] at e
  obtain ⟨⟨⟨⟨⟨⟨⟨⟨⟨⟨h1, h2⟩, h3⟩, h4⟩, h5⟩, h6⟩, h7⟩, h8⟩, h9⟩, h10⟩, h11⟩ := e
  have k7 := fun b => IntOp.andi_eq_one.mp (Host.reduce_andi_all _ _ _ _ _ h7 b)
  have k8 := fun b => IntOp.andi_eq_one.mp (Host.reduce_andi_all _ _ _ _ _ h8 b)
  refine ⟨⟨fun b => ?_, fun b => ?_, fun b => ?_, fun b => ?_, fun b => ?_, fun b => ?_⟩, fun b => ?_, fun b => ?_, fun b => ?_, fun b => ?_, fun b => ?_, fun b => ?_, fun b => ?_⟩
  · exact IntOp.cmpi_sge.mp (Host.reduce_andi_all _ _ _ _ _ h1 b)
  · exact IntOp.cmpi_sle.mp (Host.reduce_andi_all _ _ _ _ _ h2 b)
  · exact IntOp.cmpi_sge.mp (Host.reduce_andi_all _ _ _ _ _ h3 b)
  · exact IntOp.cmpi_sle.mp (Host.reduce_andi_all _ _ _ _ _ h4 b)
  · exact IntOp.cmpi_sge.mp (Host.reduce_andi_all _ _ _ _ _ h5 b)
  · exact IntOp.cmpi_slt.mp (Host.reduce_andi_all _ _ _ _ _ h6 b)
  · exact IntOp.cmpi_ne.mp (k7 b).1
  · exact IntOp.cmpi_ne.mp (k7 b).2
  · exact IntOp.cmpi_ne.mp (k8 b).1
  · exact IntOp.cmpi_ne.mp (k8 b).2
  · have q := Host.reduce_andi_all _ _ _ _ _ h9 b
    exact fin_lt q
  · have q := Host.reduce_andi_all _ _ _ _ _ h10 b
    exact fin_lt q
  · have q := Host.reduce_andi_all _ _ _ _ _ h11 b
    exact fin_lt q

end Cert.Pre_pre.Hand

end
-- ==== Proof.Body.lean ====
/- What one run of the head's body does, as a function of the contents it meets: the values it computes by
   name (`lp` the running maximum and sum over the chunks of the vocabulary, `lse` the log-sum-exp, `blank`,
   `label`, `mean` the slabs it writes), and the state of the three result windows and the label scratch after
   one grid point (`step`). The run itself is symbolic, in the cases of the body's three conditions. -/
module

public import proofs.«01_k».proof.Proof.Gen.Kernel.Skeleton
public import proofs.«01_k».proof.Proof.Gen.Kernel.Loops
public import proofs.«01_k».proof.Proof.Gen.Kernel.Launch
public import Idealize.ShloMosaic.Lib.VecWindow

@[expose] public section

set_option maxHeartbeats 1000000
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The values -/

/-- What the body reads and does not change: the three tables, the block of codes, the scales, the weight, its
    scales, the bias, the weight sums and the mean bias. -/
structure HeadIn (F : FTy → Type) where
  el : Vec F S4 .i32
  tl : Vec F S4 .i32
  lab : Vec F S4x128 .i32
  z : Vec F S1x1x128x896 .fp8e4m3
  zs : Vec F S129x4x768 .f32
  w : Vec F S5024x896 .fp8e4m3
  ws : Vec F S5024x128 .f32
  b2 : Vec F S5024x128 .f32
  wl : Vec F S16x896 .bf16
  bm : Vec F S1x1 .f32

/-- What the body reads and writes: the three results and the scratch that holds the label's row. -/
structure HeadSt (F : FTy → Type) where
  o13 : Vec F S129x4x768 .f32
  o14 : Vec F S128x4x768 .f32
  o15 : Vec F S129x4x768 .f32
  l16 : Vec F S32x896 .fp8e4m3

/-- The grid's first coordinate, as the kernel's word. -/
abbrev a0 (i : grid1.Coords) : BitVec 32 := BitVec.ofNat 32 (i 0).val
/-- The grid's third coordinate, as the kernel's word. -/
abbrev a2 (i : grid1.Coords) : BitVec 32 := BitVec.ofNat 32 (i 2).val

/-- A length table at the grid's first coordinate. -/
abbrev wd (T : Vec F S4 .i32) (i : grid1.Coords) : Elt F .i32 :=
  View.ld (Val := Elt F) (e' := .i32) T (Rect.unit (s := S4) (k1_off1 i) S1.size (k1_off1_inb i)) (Shape.Idx.first (numel1_S1.symm ▸ Nat.one_pos))

/-- A label of the label table. -/
abbrev wdLab (L : Vec F S4x128 .i32) (i : grid1.Coords) (h : ∀ a, (k1_off6 i) a + S1x1.size a ≤ S4x128.size a) : Elt F .i32 :=
  View.ld (Val := Elt F) (e' := .i32) L (Rect.unit (s := S4x128) (k1_off6 i) S1x1.size h) (Shape.Idx.first (numel1_S1x1.symm ▸ Nat.one_pos))

/-- The tables meet what the body assumes of them at a grid point. -/
structure TabOK (el tl : Vec F S4 .i32) (lab : Vec F S4x128 .i32) (i : grid1.Coords) : Prop where
  chk1 : k1_chk1 i (wd tl i) (wd el i) (wd tl i)
  chk2 : ∀ (h2 : k1_cond2 i (wd tl i) (wd el i) = 1#1) (h3 : k1_cond3 i (wd tl i) = 1#1),
    k1_chk2 i (wd tl i) (wd el i) (wd tl i) (wdLab lab i (k1_off6_inb i _ _ _ chk1 h2 h3))
  first : k1_cond1 i = 1#1 → k1_cond2 i (wd tl i) (wd el i) = 1#1

/-- The block of codes, as loaded. -/
abbrev v18 (X : HeadIn F) : Vec F S1x1x128x896 .fp8e4m3 :=
  View.ld (Val := Elt F) (e' := .fp8e4m3) X.z (Rect.unit (s := S1x1x128x896) ![0, 0, 0, 0] S1x1x128x896.size inb_S1x1x128x896_S1x1x128x896_0_0_0_0)
/-- The slab of scales, as loaded. -/
abbrev v22 (i : grid1.Coords) (X : HeadIn F) : Vec F S1x4x128 .f32 :=
  View.ld (Val := Elt F) (e' := .f32) X.zs (Rect.unit (s := S129x4x768) (k1_off2 i) S1x4x128.size (k1_off2_inb i))

/-- The running maximum and the running sum before chunk `k` of the vocabulary. -/
def lp (i : grid1.Coords) (X : HeadIn F) : ℕ → FVec F S1x128 .f32 × FVec F S1x128 .f32
  | 0 => (k1_pay10, k1_pay11)
  | k + 1 =>
    if h : k < k1_t1_loop.trips then
      (k1_pay13 (a0 i) (v18 X) (v22 i X) (lp i X k).1
          (View.ld (Val := Elt F) (e' := .fp8e4m3) X.w (Rect.unit (s := S5024x896) (k1_off3 ⟨k, h⟩) S256x896.size (k1_off3_inb ⟨k, h⟩)))
          (View.ld (Val := Elt F) (e' := .f32) X.ws (Rect.unit (s := S5024x128) (k1_off4 ⟨k, h⟩) S256x128.size (k1_off4_inb ⟨k, h⟩)))
          (View.ld (Val := Elt F) (e' := .f32) X.b2 (Rect.unit (s := S5024x128) (k1_off4 ⟨k, h⟩) S256x128.size (k1_off4_inb ⟨k, h⟩))),
        k1_pay14 (a0 i) (v18 X) (v22 i X) (lp i X k).1 (lp i X k).2
          (View.ld (Val := Elt F) (e' := .fp8e4m3) X.w (Rect.unit (s := S5024x896) (k1_off3 ⟨k, h⟩) S256x896.size (k1_off3_inb ⟨k, h⟩)))
          (View.ld (Val := Elt F) (e' := .f32) X.ws (Rect.unit (s := S5024x128) (k1_off4 ⟨k, h⟩) S256x128.size (k1_off4_inb ⟨k, h⟩)))
          (View.ld (Val := Elt F) (e' := .f32) X.b2 (Rect.unit (s := S5024x128) (k1_off4 ⟨k, h⟩) S256x128.size (k1_off4_inb ⟨k, h⟩))))
    else lp i X k

/-- The last chunk's logits. -/
def tailv (i : grid1.Coords) (X : HeadIn F) : FVec F S160x128 .f32 :=
  k1_pay15 (a0 i) (v18 X) (v22 i X)
    (View.ld (Val := Elt F) (e' := .fp8e4m3) X.w (Rect.unit (s := S5024x896) ![4864, 0] S160x896.size inb_S5024x896_S160x896_4864_0))
    (View.ld (Val := Elt F) (e' := .f32) X.ws (Rect.unit (s := S5024x128) ![4864, 0] S160x128.size inb_S5024x128_S160x128_4864_0))
    (View.ld (Val := Elt F) (e' := .f32) X.b2 (Rect.unit (s := S5024x128) ![4864, 0] S160x128.size inb_S5024x128_S160x128_4864_0))

/-- The log-sum-exp (base two) of the lane block. -/
def lse (i : grid1.Coords) (X : HeadIn F) : FVec F S1x128 .f32 :=
  k1_pay18 (lp i X k1_t1_loop.trips).1 (lp i X k1_t1_loop.trips).2 (tailv i X) k1_pay16 k1_pay17

/-- The row of blank log-probabilities. -/
def blank (i : grid1.Coords) (X : HeadIn F) : FVec F S1x128 .f32 :=
  k1_pay20 (a2 i) (k1_pay7 (v18 X)) (k1_pay9 (a0 i) (v22 i X)) (lp i X k1_t1_loop.trips).1 (lp i X k1_t1_loop.trips).2 (tailv i X) k1_pay16 k1_pay17 (wd X.el i)
    (View.ld (Val := Elt F) (e' := .fp8e4m3) X.w (Rect.unit (s := S5024x896) ![0, 0] S32x896.size inb_S5024x896_S32x896_0_0))
    (View.ld (Val := Elt F) (e' := .f32) X.ws (Rect.unit (s := S5024x128) ![0, 0] S32x128.size inb_S5024x128_S32x128_0_0))
    (View.ld (Val := Elt F) (e' := .f32) X.b2 (Rect.unit (s := S5024x128) ![0, 0] S32x128.size inb_S5024x128_S32x128_0_0))

/-- The slab of the first result, rewritten. -/
def slab13 (i : grid1.Coords) (X : HeadIn F) (o : Vec F S129x4x768 .f32) : FVec F S1x4x128 .f32 :=
  k1_pay21 (a0 i) (blank i X) (View.ld (Val := Elt F) (e' := .f32) o (Rect.unit (s := S129x4x768) (k1_off2 i) S1x4x128.size (k1_off2_inb i)))

/-- The slab of the third result, rewritten. -/
def slab15 (i : grid1.Coords) (X : HeadIn F) (o : Vec F S129x4x768 .f32) : FVec F S1x4x128 .f32 :=
  k1_pay22 (a0 i) (k1_pay7 (v18 X)) (k1_pay8 (a0 i) (v22 i X)) (k1_pay19 (a2 i) (wd X.el i))
    (View.ld (Val := Elt F) (e' := .bf16) X.wl (Rect.unit (s := S16x896) ![0, 0] S16x896.size inb_S16x896_S16x896_0_0))
    (View.ld (Val := Elt F) (e' := .f32) X.bm (Rect.unit (s := S1x1) ![0, 0] S1x1.size inb_S1x1_S1x1_0_0) (Shape.Idx.first (numel1_S1x1.symm ▸ Nat.one_pos)))
    (View.ld (Val := Elt F) (e' := .f32) o (Rect.unit (s := S129x4x768) (k1_off2 i) S1x4x128.size (k1_off2_inb i)))

/-- The scratch once the label's row of the weight is in its first row. -/
def newL (X : HeadIn F) (v : BitVec 32) (h : ∀ a, (k1_off7 v) a + S1x896.size a ≤ S5024x896.size a) (l : Vec F S32x896 .fp8e4m3) : Vec F S32x896 .fp8e4m3 :=
  VecWindow.put l ![0, 0] S4x896.size
    (updateSlice (View.ld (Val := Elt F) (e' := .fp8e4m3) l (Rect.unit (s := S32x896) ![0, 0] S4x896.size inb_S32x896_S4x896_0_0))
      (k1_pay5 (View.ld (Val := Elt F) (e' := .fp8e4m3) X.w (Rect.unit (s := S5024x896) (k1_off7 v) S1x896.size h)))
      ![0, 0] slices_S4x896_S1x896_0_0)

/-- The slab of the second result, rewritten. -/
def slab14 (i : grid1.Coords) (X : HeadIn F) (v : BitVec 32) (h7 : ∀ a, (k1_off7 v) a + S1x896.size a ≤ S5024x896.size a)
    (h8 : ∀ a, (k1_off8 v) a + S1x128.size a ≤ S5024x128.size a) (h9 : ∀ a, (k1_off9 i) a + S1x4x128.size a ≤ S128x4x768.size a)
    (o : Vec F S128x4x768 .f32) (l : Vec F S32x896 .fp8e4m3) : FVec F S1x4x128 .f32 :=
  k1_pay6 i (k1_pay7 (v18 X)) (k1_pay9 (a0 i) (v22 i X)) (lse i X) (k1_pay19 (a2 i) (wd X.el i))
    (View.ld (Val := Elt F) (e' := .fp8e4m3) (newL X v h7 l) (Rect.unit (s := S32x896) ![0, 0] S32x896.size inb_S32x896_S32x896_0_0))
    (View.ld (Val := Elt F) (e' := .f32) X.ws (Rect.unit (s := S5024x128) (k1_off8 v) S1x128.size h8))
    (View.ld (Val := Elt F) (e' := .f32) X.b2 (Rect.unit (s := S5024x128) (k1_off8 v) S1x128.size h8))
    (View.ld (Val := Elt F) (e' := .f32) o (Rect.unit (s := S128x4x768) (k1_off9 i) S1x4x128.size h9))

/-- The state once the first grid point has zeroed it. -/
def start (i : grid1.Coords) (S : HeadSt F) : HeadSt F :=
  if k1_cond1 i = 1#1 then ⟨k1_pay1, k1_pay2, k1_pay3, k1_pay4⟩ else S

/-- The state after the label's part. -/
def lblStep (i : grid1.Coords) (X : HeadIn F) (hT : TabOK X.el X.tl X.lab i) (h2 : k1_cond2 i (wd X.tl i) (wd X.el i) = 1#1) (S : HeadSt F) : HeadSt F :=
  if h3 : k1_cond3 i (wd X.tl i) = 1#1 then
    ⟨S.o13,
      VecWindow.put S.o14 (k1_off9 i) S1x4x128.size
        (slab14 i X (wdLab X.lab i (k1_off6_inb i _ _ _ hT.chk1 h2 h3)) (k1_off7_inb i _ _ _ _ (hT.chk2 h2 h3) h2 h3) (k1_off8_inb i _ _ _ _ (hT.chk2 h2 h3) h2 h3)
          (k1_off9_inb i _ _ _ hT.chk1 h2 h3) S.o14 S.l16),
      S.o15,
      newL X (wdLab X.lab i (k1_off6_inb i _ _ _ hT.chk1 h2 h3)) (k1_off7_inb i _ _ _ _ (hT.chk2 h2 h3) h2 h3) S.l16⟩
  else S

/-- The state after a grid point. -/
def step (i : grid1.Coords) (X : HeadIn F) (hT : TabOK X.el X.tl X.lab i) (S : HeadSt F) : HeadSt F :=
  if h2 : k1_cond2 i (wd X.tl i) (wd X.el i) = 1#1 then
    lblStep i X hT h2
      ⟨VecWindow.put (start i S).o13 (k1_off2 i) S1x4x128.size (slab13 i X (start i S).o13), (start i S).o14,
        VecWindow.put (start i S).o15 (k1_off2 i) S1x4x128.size (slab15 i X (start i S).o15), (start i S).l16⟩
  else start i S

instance closedOff_k1_off9 (i : grid1.Coords) : ClosedOff (k1_off9 i) := ⟨![(i 1).val, 0, 128 * (i 2).val], (show k1_off9 i = k1_off2 i from rfl).trans (k1_off2_eq i)⟩

/-! ## The loop's recursion is `lp` -/

section
variable (c : Dev nD) (i : grid1.Coords)
    (M3 : Memref sig .tc .smem S4 .i32) (h3 : M3.IsWhole)
    (M4 : Memref sig .tc .smem S4 .i32) (h4 : M4.IsWhole)
    (M5 : Memref sig .tc .smem S4x128 .i32) (h5 : M5.IsWhole)
    (M6 : Memref sig .tc .vmem S1x1x128x896 .fp8e4m3) (h6 : M6.IsWhole)
    (M7 : Memref sig .tc .vmem S129x4x768 .f32) (h7 : M7.IsWhole)
    (M8 : Memref sig .tc .vmem S5024x896 .fp8e4m3) (h8 : M8.IsWhole)
    (M9 : Memref sig .tc .vmem S5024x128 .f32) (h9 : M9.IsWhole)
    (M10 : Memref sig .tc .vmem S5024x128 .f32) (h10 : M10.IsWhole)
    (M11 : Memref sig .tc .vmem S16x896 .bf16) (h11 : M11.IsWhole)
    (M12 : Memref sig .tc .smem S1x1 .f32) (h12 : M12.IsWhole)
    (M13 : Memref sig .tc .vmem S129x4x768 .f32) (h13 : M13.IsWhole)
    (M14 : Memref sig .tc .vmem S128x4x768 .f32) (h14 : M14.IsWhole)
    (M15 : Memref sig .tc .vmem S129x4x768 .f32) (h15 : M15.IsWhole)
    (M16 : Memref sig .tc .vmem S32x896 .fp8e4m3) (h16 : M16.IsWhole)

set_option maxRecDepth 65536 in
theorem st_eq (f8 : BufTy.Contents (Elt F) M8.view.ty) (f9 : BufTy.Contents (Elt F) M9.view.ty) (f10 : BufTy.Contents (Elt F) M10.view.ty)
    (X : HeadIn F) (e8 : M8.view.read (Elt F) f8 = X.w) (e9 : M9.view.read (Elt F) f9 = X.ws) (e10 : M10.view.read (Elt F) f10 = X.b2) (p1 p2 : BitVec 32) (k : ℕ) :
    st_k1_t1 (F := F) Variants.none c none i M3 h3 M4 h4 M5 h5 M6 h6 M7 h7 M8 h8 M9 h9 M10 h10 M11 h11 M12 h12 M13 h13 M14 h14 M15 h15 M16 h16 (a0 i) p1 p2 (v18 X) (v22 i X) f8 f9 f10 (k1_pay10, k1_pay11) k = lp i X k := by
  induction k with
  | zero => rfl
  | succ k ih =>
    rw [st_k1_t1, ih, lp]
    unfold st_k1_t1Step
    by_cases h : k < k1_t1_loop.trips
    · rw [dif_pos h, dif_pos h]
      unfold tripR_k1_t1 trip_k1_t1
      rw [← e8, ← e9, ← e10]
      rfl
    · rw [dif_neg h, dif_neg h]

/-- What the scratch reads once the label's row is written is `newL`. -/
theorem newL_eq (M8 : Memref sig .tc .vmem S5024x896 .fp8e4m3) (M16 : Memref sig .tc .vmem S32x896 .fp8e4m3) (X : HeadIn F)
    (f16 : BufTy.Contents (Elt F) M16.view.ty) (v : BitVec 32) (h : ∀ a, (k1_off7 v) a + S1x896.size a ≤ S5024x896.size a) :
    newL X v h (M16.view.read (Elt F) f16)
      = M16.view.read (Elt F) (M16.view.writes (Elt F) f16
          [⟨Rect.unit (s := S32x896) ![0, 0] S4x896.size inb_S32x896_S4x896_0_0,
            updateSlice (M16.view.readAt (Elt F) (Rect.unit (s := S32x896) ![0, 0] S4x896.size inb_S32x896_S4x896_0_0).toLoadRect f16)
              (k1_pay5 (View.ld (Val := Elt F) (e' := .fp8e4m3) X.w (Rect.unit (s := S5024x896) (k1_off7 v) S1x896.size h)))
              ![0, 0] slices_S4x896_S1x896_0_0⟩]) := by
  rw [View.read_writes_cons_put _ _ _ _ _ rfl, View.writes_nil]
  rfl

/-- Contents overwritten whole read what was written. -/
theorem full13 (M : Memref sig .tc .vmem S129x4x768 .f32) (f : BufTy.Contents (Elt F) M.view.ty) (w : Vec F S129x4x768 .f32) :
    M.view.read (Elt F) (M.view.writes (Elt F) f [⟨Rect.unit (s := S129x4x768) ![0, 0, 0] S129x4x768.size inb_S129x4x768_S129x4x768_0_0_0, w⟩]) = w :=
  View.read_writes_full _ _ _ _ _

/-- Contents overwritten whole read what was written. -/
theorem full14 (M : Memref sig .tc .vmem S128x4x768 .f32) (f : BufTy.Contents (Elt F) M.view.ty) (w : Vec F S128x4x768 .f32) :
    M.view.read (Elt F) (M.view.writes (Elt F) f [⟨Rect.unit (s := S128x4x768) ![0, 0, 0] S128x4x768.size inb_S128x4x768_S128x4x768_0_0_0, w⟩]) = w :=
  View.read_writes_full _ _ _ _ _

/-- Contents overwritten whole read what was written. -/
theorem full16 (M : Memref sig .tc .vmem S32x896 .fp8e4m3) (f : BufTy.Contents (Elt F) M.view.ty) (w : Vec F S32x896 .fp8e4m3) :
    M.view.read (Elt F) (M.view.writes (Elt F) f [⟨Rect.unit (s := S32x896) ![0, 0] S32x896.size inb_S32x896_S32x896_0_0, w⟩]) = w :=
  View.read_writes_full _ _ _ _ _

end

set_option maxRecDepth 65536 in
/-- The run with the first condition False, the second False. -/
theorem runA (c : Dev nD) (i : grid1.Coords)
    (M3 : Memref sig .tc .smem S4 .i32) (h3 : M3.IsWhole)
    (M4 : Memref sig .tc .smem S4 .i32) (h4 : M4.IsWhole)
    (M5 : Memref sig .tc .smem S4x128 .i32) (h5 : M5.IsWhole)
    (M6 : Memref sig .tc .vmem S1x1x128x896 .fp8e4m3) (h6 : M6.IsWhole)
    (M7 : Memref sig .tc .vmem S129x4x768 .f32) (h7 : M7.IsWhole)
    (M8 : Memref sig .tc .vmem S5024x896 .fp8e4m3) (h8 : M8.IsWhole)
    (M9 : Memref sig .tc .vmem S5024x128 .f32) (h9 : M9.IsWhole)
    (M10 : Memref sig .tc .vmem S5024x128 .f32) (h10 : M10.IsWhole)
    (M11 : Memref sig .tc .vmem S16x896 .bf16) (h11 : M11.IsWhole)
    (M12 : Memref sig .tc .smem S1x1 .f32) (h12 : M12.IsWhole)
    (M13 : Memref sig .tc .vmem S129x4x768 .f32) (h13 : M13.IsWhole)
    (M14 : Memref sig .tc .vmem S128x4x768 .f32) (h14 : M14.IsWhole)
    (M15 : Memref sig .tc .vmem S129x4x768 .f32) (h15 : M15.IsWhole)
    (M16 : Memref sig .tc .vmem S32x896 .fp8e4m3) (h16 : M16.IsWhole)
    (X : HeadIn F) (S : HeadSt F) (hT : TabOK X.el X.tl X.lab i)
    (hc1 : ¬ k1_cond1 i = 1#1) (hc2 : ¬ k1_cond2 i (wd X.tl i) (wd X.el i) = 1#1) (E : Set ℕ) :
    iprop(owns (c : Thread nD τ) M3 fullShare X.el ∗ owns (c : Thread nD τ) M4 fullShare X.tl ∗ owns (c : Thread nD τ) M5 fullShare X.lab ∗ owns (c : Thread nD τ) M6 fullShare X.z ∗ owns (c : Thread nD τ) M7 fullShare X.zs ∗ owns (c : Thread nD τ) M8 fullShare X.w ∗ owns (c : Thread nD τ) M9 fullShare X.ws ∗ owns (c : Thread nD τ) M10 fullShare X.b2 ∗ owns (c : Thread nD τ) M11 fullShare X.wl ∗ owns (c : Thread nD τ) M12 fullShare X.bm ∗ owns (c : Thread nD τ) M13 fullShare S.o13 ∗ owns (c : Thread nD τ) M14 fullShare S.o14 ∗ owns (c : Thread nD τ) M15 fullShare S.o15 ∗ owns (c : Thread nD τ) M16 fullShare S.l16)
      ⊢ wp frame (wpE (defs₀ (F := F)) Variants.none c none) E
          (cc1_head i M3 h3 M4 h4 M5 h5 M6 h6 M7 h7 M8 h8 M9 h9 M10 h10 M11 h11 M12 h12 M13 h13 M14 h14 M15 h15 M16 h16)
          (fun _ => (iprop(owns (c : Thread nD τ) M3 fullShare X.el ∗ owns (c : Thread nD τ) M4 fullShare X.tl ∗ owns (c : Thread nD τ) M5 fullShare X.lab ∗ owns (c : Thread nD τ) M6 fullShare X.z ∗ owns (c : Thread nD τ) M7 fullShare X.zs ∗ owns (c : Thread nD τ) M8 fullShare X.w ∗ owns (c : Thread nD τ) M9 fullShare X.ws ∗ owns (c : Thread nD τ) M10 fullShare X.b2 ∗ owns (c : Thread nD τ) M11 fullShare X.wl ∗ owns (c : Thread nD τ) M12 fullShare X.bm ∗ owns (c : Thread nD τ) M13 fullShare (step i X hT S).o13 ∗ owns (c : Thread nD τ) M14 fullShare (step i X hT S).o14 ∗ owns (c : Thread nD τ) M15 fullShare (step i X hT S).o15 ∗ owns (c : Thread nD τ) M16 fullShare (step i X hT S).l16) : sProp 𝕄)) := by
  obtain ⟨el, tl, lab, z, zs, w, ws, b2, wl, bm⟩ := X
  obtain ⟨o13, o14, o15, l16⟩ := S
  rw [cc1_head_eq_skeleton]; unfold cc1_head_skel owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩
  dsimp only at e3 e4 e5 e6 e7 e8 e9 e10 e11 e12 e13 e14 e15 e16 hT hc2
  subst e3 e4 e5 e6 e7 e8 e9 e10 e11 e12 e13 e14 e15 e16
  sl_exec (disch := first | sl_exact hc1 | sl_exact hc2 | sl_exact hT.chk1)
  sl_step
  isplitl [H3]
  · iexists f3
    isplitr
    · ipureintro; rfl
    · iexact H3
  isplitl [H4]
  · iexists f4
    isplitr
    · ipureintro; rfl
    · iexact H4
  isplitl [H5]
  · iexists f5
    isplitr
    · ipureintro; rfl
    · iexact H5
  isplitl [H6]
  · iexists f6
    isplitr
    · ipureintro; rfl
    · iexact H6
  isplitl [H7]
  · iexists f7
    isplitr
    · ipureintro; rfl
    · iexact H7
  isplitl [H8]
  · iexists f8
    isplitr
    · ipureintro; rfl
    · iexact H8
  isplitl [H9]
  · iexists f9
    isplitr
    · ipureintro; rfl
    · iexact H9
  isplitl [H10]
  · iexists f10
    isplitr
    · ipureintro; rfl
    · iexact H10
  isplitl [H11]
  · iexists f11
    isplitr
    · ipureintro; rfl
    · iexact H11
  isplitl [H12]
  · iexists f12
    isplitr
    · ipureintro; rfl
    · iexact H12
  isplitl [H13]
  · iexists _
    isplitr; swap
    · iexact H13
    ipureintro
    simp only [step, lblStep, start, if_neg hc1, dif_neg hc2]
  isplitl [H14]
  · iexists _
    isplitr; swap
    · iexact H14
    ipureintro
    simp only [step, lblStep, start, if_neg hc1, dif_neg hc2]
  isplitl [H15]
  · iexists _
    isplitr; swap
    · iexact H15
    ipureintro
    simp only [step, lblStep, start, if_neg hc1, dif_neg hc2]
  · iexists _
    isplitr; swap
    · iexact H16
    ipureintro
    simp only [step, lblStep, start, if_neg hc1, dif_neg hc2]

set_option maxRecDepth 65536 in
/-- The run with the first condition False, the second True, the third False. -/
theorem runB (c : Dev nD) (i : grid1.Coords)
    (M3 : Memref sig .tc .smem S4 .i32) (h3 : M3.IsWhole)
    (M4 : Memref sig .tc .smem S4 .i32) (h4 : M4.IsWhole)
    (M5 : Memref sig .tc .smem S4x128 .i32) (h5 : M5.IsWhole)
    (M6 : Memref sig .tc .vmem S1x1x128x896 .fp8e4m3) (h6 : M6.IsWhole)
    (M7 : Memref sig .tc .vmem S129x4x768 .f32) (h7 : M7.IsWhole)
    (M8 : Memref sig .tc .vmem S5024x896 .fp8e4m3) (h8 : M8.IsWhole)
    (M9 : Memref sig .tc .vmem S5024x128 .f32) (h9 : M9.IsWhole)
    (M10 : Memref sig .tc .vmem S5024x128 .f32) (h10 : M10.IsWhole)
    (M11 : Memref sig .tc .vmem S16x896 .bf16) (h11 : M11.IsWhole)
    (M12 : Memref sig .tc .smem S1x1 .f32) (h12 : M12.IsWhole)
    (M13 : Memref sig .tc .vmem S129x4x768 .f32) (h13 : M13.IsWhole)
    (M14 : Memref sig .tc .vmem S128x4x768 .f32) (h14 : M14.IsWhole)
    (M15 : Memref sig .tc .vmem S129x4x768 .f32) (h15 : M15.IsWhole)
    (M16 : Memref sig .tc .vmem S32x896 .fp8e4m3) (h16 : M16.IsWhole)
    (X : HeadIn F) (S : HeadSt F) (hT : TabOK X.el X.tl X.lab i)
    (hc1 : ¬ k1_cond1 i = 1#1) (hc2 : k1_cond2 i (wd X.tl i) (wd X.el i) = 1#1) (hc3 : ¬ k1_cond3 i (wd X.tl i) = 1#1) (E : Set ℕ) :
    iprop(owns (c : Thread nD τ) M3 fullShare X.el ∗ owns (c : Thread nD τ) M4 fullShare X.tl ∗ owns (c : Thread nD τ) M5 fullShare X.lab ∗ owns (c : Thread nD τ) M6 fullShare X.z ∗ owns (c : Thread nD τ) M7 fullShare X.zs ∗ owns (c : Thread nD τ) M8 fullShare X.w ∗ owns (c : Thread nD τ) M9 fullShare X.ws ∗ owns (c : Thread nD τ) M10 fullShare X.b2 ∗ owns (c : Thread nD τ) M11 fullShare X.wl ∗ owns (c : Thread nD τ) M12 fullShare X.bm ∗ owns (c : Thread nD τ) M13 fullShare S.o13 ∗ owns (c : Thread nD τ) M14 fullShare S.o14 ∗ owns (c : Thread nD τ) M15 fullShare S.o15 ∗ owns (c : Thread nD τ) M16 fullShare S.l16)
      ⊢ wp frame (wpE (defs₀ (F := F)) Variants.none c none) E
          (cc1_head i M3 h3 M4 h4 M5 h5 M6 h6 M7 h7 M8 h8 M9 h9 M10 h10 M11 h11 M12 h12 M13 h13 M14 h14 M15 h15 M16 h16)
          (fun _ => (iprop(owns (c : Thread nD τ) M3 fullShare X.el ∗ owns (c : Thread nD τ) M4 fullShare X.tl ∗ owns (c : Thread nD τ) M5 fullShare X.lab ∗ owns (c : Thread nD τ) M6 fullShare X.z ∗ owns (c : Thread nD τ) M7 fullShare X.zs ∗ owns (c : Thread nD τ) M8 fullShare X.w ∗ owns (c : Thread nD τ) M9 fullShare X.ws ∗ owns (c : Thread nD τ) M10 fullShare X.b2 ∗ owns (c : Thread nD τ) M11 fullShare X.wl ∗ owns (c : Thread nD τ) M12 fullShare X.bm ∗ owns (c : Thread nD τ) M13 fullShare (step i X hT S).o13 ∗ owns (c : Thread nD τ) M14 fullShare (step i X hT S).o14 ∗ owns (c : Thread nD τ) M15 fullShare (step i X hT S).o15 ∗ owns (c : Thread nD τ) M16 fullShare (step i X hT S).l16) : sProp 𝕄)) := by
  obtain ⟨el, tl, lab, z, zs, w, ws, b2, wl, bm⟩ := X
  obtain ⟨o13, o14, o15, l16⟩ := S
  rw [cc1_head_eq_skeleton]; unfold cc1_head_skel owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩
  dsimp only at e3 e4 e5 e6 e7 e8 e9 e10 e11 e12 e13 e14 e15 e16 hT hc2 hc3
  subst e3 e4 e5 e6 e7 e8 e9 e10 e11 e12 e13 e14 e15 e16
  sl_exec (disch := first | sl_exact hc1 | sl_exact hc2 | sl_exact hc3 | sl_exact hT.chk1)
  sl_step
  isplitl [H3]
  · iexists f3
    isplitr
    · ipureintro; rfl
    · iexact H3
  isplitl [H4]
  · iexists f4
    isplitr
    · ipureintro; rfl
    · iexact H4
  isplitl [H5]
  · iexists f5
    isplitr
    · ipureintro; rfl
    · iexact H5
  isplitl [H6]
  · iexists f6
    isplitr
    · ipureintro; rfl
    · iexact H6
  isplitl [H7]
  · iexists f7
    isplitr
    · ipureintro; rfl
    · iexact H7
  isplitl [H8]
  · iexists f8
    isplitr
    · ipureintro; rfl
    · iexact H8
  isplitl [H9]
  · iexists f9
    isplitr
    · ipureintro; rfl
    · iexact H9
  isplitl [H10]
  · iexists f10
    isplitr
    · ipureintro; rfl
    · iexact H10
  isplitl [H11]
  · iexists f11
    isplitr
    · ipureintro; rfl
    · iexact H11
  isplitl [H12]
  · iexists f12
    isplitr
    · ipureintro; rfl
    · iexact H12
  isplitl [H13]
  · iexists _
    isplitr; swap
    · iexact H13
    ipureintro
    simp only [step, lblStep, start, if_neg hc1, dif_pos hc2, dif_neg hc3]
    rw [View.read_writes_cons_put _ _ _ _ _ rfl, View.writes_nil]
    unfold slab13 blank tailv
    rw [← st_eq c i M3 h3 M4 h4 M5 h5 M6 h6 M7 h7 M8 h8 M9 h9 M10 h10 M11 h11 M12 h12 M13 h13 M14 h14 M15 h15 M16 h16 f8 f9 f10 _ rfl rfl rfl (BitVec.ofNat 32 (i 1).val) (Scalar.muli (BitVec.ofNat 32 (i 2).val) 128#32)]
    rfl
  isplitl [H14]
  · iexists _
    isplitr; swap
    · iexact H14
    ipureintro
    simp only [step, lblStep, start, if_neg hc1, dif_pos hc2, dif_neg hc3]
  isplitl [H15]
  · iexists _
    isplitr; swap
    · iexact H15
    ipureintro
    simp only [step, lblStep, start, if_neg hc1, dif_pos hc2, dif_neg hc3]
    rw [View.read_writes_cons_put _ _ _ _ _ rfl, View.writes_nil]
    unfold slab15
    rfl
  · iexists _
    isplitr; swap
    · iexact H16
    ipureintro
    simp only [step, lblStep, start, if_neg hc1, dif_pos hc2, dif_neg hc3]

set_option maxRecDepth 65536 in
/-- The run with the first condition False, the second True, the third True. -/
theorem runC (c : Dev nD) (i : grid1.Coords)
    (M3 : Memref sig .tc .smem S4 .i32) (h3 : M3.IsWhole)
    (M4 : Memref sig .tc .smem S4 .i32) (h4 : M4.IsWhole)
    (M5 : Memref sig .tc .smem S4x128 .i32) (h5 : M5.IsWhole)
    (M6 : Memref sig .tc .vmem S1x1x128x896 .fp8e4m3) (h6 : M6.IsWhole)
    (M7 : Memref sig .tc .vmem S129x4x768 .f32) (h7 : M7.IsWhole)
    (M8 : Memref sig .tc .vmem S5024x896 .fp8e4m3) (h8 : M8.IsWhole)
    (M9 : Memref sig .tc .vmem S5024x128 .f32) (h9 : M9.IsWhole)
    (M10 : Memref sig .tc .vmem S5024x128 .f32) (h10 : M10.IsWhole)
    (M11 : Memref sig .tc .vmem S16x896 .bf16) (h11 : M11.IsWhole)
    (M12 : Memref sig .tc .smem S1x1 .f32) (h12 : M12.IsWhole)
    (M13 : Memref sig .tc .vmem S129x4x768 .f32) (h13 : M13.IsWhole)
    (M14 : Memref sig .tc .vmem S128x4x768 .f32) (h14 : M14.IsWhole)
    (M15 : Memref sig .tc .vmem S129x4x768 .f32) (h15 : M15.IsWhole)
    (M16 : Memref sig .tc .vmem S32x896 .fp8e4m3) (h16 : M16.IsWhole)
    (X : HeadIn F) (S : HeadSt F) (hT : TabOK X.el X.tl X.lab i)
    (hc1 : ¬ k1_cond1 i = 1#1) (hc2 : k1_cond2 i (wd X.tl i) (wd X.el i) = 1#1) (hc3 : k1_cond3 i (wd X.tl i) = 1#1) (E : Set ℕ) :
    iprop(owns (c : Thread nD τ) M3 fullShare X.el ∗ owns (c : Thread nD τ) M4 fullShare X.tl ∗ owns (c : Thread nD τ) M5 fullShare X.lab ∗ owns (c : Thread nD τ) M6 fullShare X.z ∗ owns (c : Thread nD τ) M7 fullShare X.zs ∗ owns (c : Thread nD τ) M8 fullShare X.w ∗ owns (c : Thread nD τ) M9 fullShare X.ws ∗ owns (c : Thread nD τ) M10 fullShare X.b2 ∗ owns (c : Thread nD τ) M11 fullShare X.wl ∗ owns (c : Thread nD τ) M12 fullShare X.bm ∗ owns (c : Thread nD τ) M13 fullShare S.o13 ∗ owns (c : Thread nD τ) M14 fullShare S.o14 ∗ owns (c : Thread nD τ) M15 fullShare S.o15 ∗ owns (c : Thread nD τ) M16 fullShare S.l16)
      ⊢ wp frame (wpE (defs₀ (F := F)) Variants.none c none) E
          (cc1_head i M3 h3 M4 h4 M5 h5 M6 h6 M7 h7 M8 h8 M9 h9 M10 h10 M11 h11 M12 h12 M13 h13 M14 h14 M15 h15 M16 h16)
          (fun _ => (iprop(owns (c : Thread nD τ) M3 fullShare X.el ∗ owns (c : Thread nD τ) M4 fullShare X.tl ∗ owns (c : Thread nD τ) M5 fullShare X.lab ∗ owns (c : Thread nD τ) M6 fullShare X.z ∗ owns (c : Thread nD τ) M7 fullShare X.zs ∗ owns (c : Thread nD τ) M8 fullShare X.w ∗ owns (c : Thread nD τ) M9 fullShare X.ws ∗ owns (c : Thread nD τ) M10 fullShare X.b2 ∗ owns (c : Thread nD τ) M11 fullShare X.wl ∗ owns (c : Thread nD τ) M12 fullShare X.bm ∗ owns (c : Thread nD τ) M13 fullShare (step i X hT S).o13 ∗ owns (c : Thread nD τ) M14 fullShare (step i X hT S).o14 ∗ owns (c : Thread nD τ) M15 fullShare (step i X hT S).o15 ∗ owns (c : Thread nD τ) M16 fullShare (step i X hT S).l16) : sProp 𝕄)) := by
  obtain ⟨el, tl, lab, z, zs, w, ws, b2, wl, bm⟩ := X
  obtain ⟨o13, o14, o15, l16⟩ := S
  rw [cc1_head_eq_skeleton]; unfold cc1_head_skel owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩
  dsimp only at e3 e4 e5 e6 e7 e8 e9 e10 e11 e12 e13 e14 e15 e16 hT hc2 hc3
  subst e3 e4 e5 e6 e7 e8 e9 e10 e11 e12 e13 e14 e15 e16
  sl_exec (disch := first | sl_exact hc1 | sl_exact hc2 | sl_exact hc3 | sl_exact hT.chk1 | sl_exact (hT.chk2 hc2 hc3))
  sl_step
  isplitl [H3]
  · iexists f3
    isplitr
    · ipureintro; rfl
    · iexact H3
  isplitl [H4]
  · iexists f4
    isplitr
    · ipureintro; rfl
    · iexact H4
  isplitl [H5]
  · iexists f5
    isplitr
    · ipureintro; rfl
    · iexact H5
  isplitl [H6]
  · iexists f6
    isplitr
    · ipureintro; rfl
    · iexact H6
  isplitl [H7]
  · iexists f7
    isplitr
    · ipureintro; rfl
    · iexact H7
  isplitl [H8]
  · iexists f8
    isplitr
    · ipureintro; rfl
    · iexact H8
  isplitl [H9]
  · iexists f9
    isplitr
    · ipureintro; rfl
    · iexact H9
  isplitl [H10]
  · iexists f10
    isplitr
    · ipureintro; rfl
    · iexact H10
  isplitl [H11]
  · iexists f11
    isplitr
    · ipureintro; rfl
    · iexact H11
  isplitl [H12]
  · iexists f12
    isplitr
    · ipureintro; rfl
    · iexact H12
  isplitl [H13]
  · iexists _
    isplitr; swap
    · iexact H13
    ipureintro
    simp only [step, lblStep, start, if_neg hc1, dif_pos hc2, dif_pos hc3]
    rw [View.read_writes_cons_put _ _ _ _ _ rfl, View.writes_nil]
    unfold slab13 blank tailv
    rw [← st_eq c i M3 h3 M4 h4 M5 h5 M6 h6 M7 h7 M8 h8 M9 h9 M10 h10 M11 h11 M12 h12 M13 h13 M14 h14 M15 h15 M16 h16 f8 f9 f10 _ rfl rfl rfl (BitVec.ofNat 32 (i 1).val) (Scalar.muli (BitVec.ofNat 32 (i 2).val) 128#32)]
    rfl
  isplitl [H14]
  · iexists _
    isplitr; swap
    · iexact H14
    ipureintro
    simp only [step, lblStep, start, if_neg hc1, dif_pos hc2, dif_pos hc3]
    rw [View.read_writes_cons_put _ _ _ _ _ rfl, View.writes_nil]
    unfold slab14 lse tailv
    rw [newL_eq M8 M16]
    rw [← st_eq c i M3 h3 M4 h4 M5 h5 M6 h6 M7 h7 M8 h8 M9 h9 M10 h10 M11 h11 M12 h12 M13 h13 M14 h14 M15 h15 M16 h16 f8 f9 f10 _ rfl rfl rfl (BitVec.ofNat 32 (i 1).val) (Scalar.muli (BitVec.ofNat 32 (i 2).val) 128#32)]
    rfl
  isplitl [H15]
  · iexists _
    isplitr; swap
    · iexact H15
    ipureintro
    simp only [step, lblStep, start, if_neg hc1, dif_pos hc2, dif_pos hc3]
    rw [View.read_writes_cons_put _ _ _ _ _ rfl, View.writes_nil]
    unfold slab15
    rfl
  · iexists _
    isplitr; swap
    · iexact H16
    ipureintro
    simp only [step, lblStep, start, if_neg hc1, dif_pos hc2, dif_pos hc3]
    rw [newL_eq M8 M16]
    rfl

set_option maxRecDepth 65536 in
/-- The run with the first condition True, the second True, the third False. -/
theorem runE (c : Dev nD) (i : grid1.Coords)
    (M3 : Memref sig .tc .smem S4 .i32) (h3 : M3.IsWhole)
    (M4 : Memref sig .tc .smem S4 .i32) (h4 : M4.IsWhole)
    (M5 : Memref sig .tc .smem S4x128 .i32) (h5 : M5.IsWhole)
    (M6 : Memref sig .tc .vmem S1x1x128x896 .fp8e4m3) (h6 : M6.IsWhole)
    (M7 : Memref sig .tc .vmem S129x4x768 .f32) (h7 : M7.IsWhole)
    (M8 : Memref sig .tc .vmem S5024x896 .fp8e4m3) (h8 : M8.IsWhole)
    (M9 : Memref sig .tc .vmem S5024x128 .f32) (h9 : M9.IsWhole)
    (M10 : Memref sig .tc .vmem S5024x128 .f32) (h10 : M10.IsWhole)
    (M11 : Memref sig .tc .vmem S16x896 .bf16) (h11 : M11.IsWhole)
    (M12 : Memref sig .tc .smem S1x1 .f32) (h12 : M12.IsWhole)
    (M13 : Memref sig .tc .vmem S129x4x768 .f32) (h13 : M13.IsWhole)
    (M14 : Memref sig .tc .vmem S128x4x768 .f32) (h14 : M14.IsWhole)
    (M15 : Memref sig .tc .vmem S129x4x768 .f32) (h15 : M15.IsWhole)
    (M16 : Memref sig .tc .vmem S32x896 .fp8e4m3) (h16 : M16.IsWhole)
    (X : HeadIn F) (S : HeadSt F) (hT : TabOK X.el X.tl X.lab i)
    (hc1 : k1_cond1 i = 1#1) (hc2 : k1_cond2 i (wd X.tl i) (wd X.el i) = 1#1) (hc3 : ¬ k1_cond3 i (wd X.tl i) = 1#1) (E : Set ℕ) :
    iprop(owns (c : Thread nD τ) M3 fullShare X.el ∗ owns (c : Thread nD τ) M4 fullShare X.tl ∗ owns (c : Thread nD τ) M5 fullShare X.lab ∗ owns (c : Thread nD τ) M6 fullShare X.z ∗ owns (c : Thread nD τ) M7 fullShare X.zs ∗ owns (c : Thread nD τ) M8 fullShare X.w ∗ owns (c : Thread nD τ) M9 fullShare X.ws ∗ owns (c : Thread nD τ) M10 fullShare X.b2 ∗ owns (c : Thread nD τ) M11 fullShare X.wl ∗ owns (c : Thread nD τ) M12 fullShare X.bm ∗ owns (c : Thread nD τ) M13 fullShare S.o13 ∗ owns (c : Thread nD τ) M14 fullShare S.o14 ∗ owns (c : Thread nD τ) M15 fullShare S.o15 ∗ owns (c : Thread nD τ) M16 fullShare S.l16)
      ⊢ wp frame (wpE (defs₀ (F := F)) Variants.none c none) E
          (cc1_head i M3 h3 M4 h4 M5 h5 M6 h6 M7 h7 M8 h8 M9 h9 M10 h10 M11 h11 M12 h12 M13 h13 M14 h14 M15 h15 M16 h16)
          (fun _ => (iprop(owns (c : Thread nD τ) M3 fullShare X.el ∗ owns (c : Thread nD τ) M4 fullShare X.tl ∗ owns (c : Thread nD τ) M5 fullShare X.lab ∗ owns (c : Thread nD τ) M6 fullShare X.z ∗ owns (c : Thread nD τ) M7 fullShare X.zs ∗ owns (c : Thread nD τ) M8 fullShare X.w ∗ owns (c : Thread nD τ) M9 fullShare X.ws ∗ owns (c : Thread nD τ) M10 fullShare X.b2 ∗ owns (c : Thread nD τ) M11 fullShare X.wl ∗ owns (c : Thread nD τ) M12 fullShare X.bm ∗ owns (c : Thread nD τ) M13 fullShare (step i X hT S).o13 ∗ owns (c : Thread nD τ) M14 fullShare (step i X hT S).o14 ∗ owns (c : Thread nD τ) M15 fullShare (step i X hT S).o15 ∗ owns (c : Thread nD τ) M16 fullShare (step i X hT S).l16) : sProp 𝕄)) := by
  obtain ⟨el, tl, lab, z, zs, w, ws, b2, wl, bm⟩ := X
  obtain ⟨o13, o14, o15, l16⟩ := S
  rw [cc1_head_eq_skeleton]; unfold cc1_head_skel owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩
  dsimp only at e3 e4 e5 e6 e7 e8 e9 e10 e11 e12 e13 e14 e15 e16 hT hc2 hc3
  subst e3 e4 e5 e6 e7 e8 e9 e10 e11 e12 e13 e14 e15 e16
  sl_exec (disch := first | sl_exact hc1 | sl_exact hc2 | sl_exact hc3 | sl_exact hT.chk1)
  sl_step
  isplitl [H3]
  · iexists f3
    isplitr
    · ipureintro; rfl
    · iexact H3
  isplitl [H4]
  · iexists f4
    isplitr
    · ipureintro; rfl
    · iexact H4
  isplitl [H5]
  · iexists f5
    isplitr
    · ipureintro; rfl
    · iexact H5
  isplitl [H6]
  · iexists f6
    isplitr
    · ipureintro; rfl
    · iexact H6
  isplitl [H7]
  · iexists f7
    isplitr
    · ipureintro; rfl
    · iexact H7
  isplitl [H8]
  · iexists f8
    isplitr
    · ipureintro; rfl
    · iexact H8
  isplitl [H9]
  · iexists f9
    isplitr
    · ipureintro; rfl
    · iexact H9
  isplitl [H10]
  · iexists f10
    isplitr
    · ipureintro; rfl
    · iexact H10
  isplitl [H11]
  · iexists f11
    isplitr
    · ipureintro; rfl
    · iexact H11
  isplitl [H12]
  · iexists f12
    isplitr
    · ipureintro; rfl
    · iexact H12
  isplitl [H13]
  · iexists _
    isplitr; swap
    · iexact H13
    ipureintro
    simp only [step, lblStep, start, if_pos hc1, dif_pos hc2, dif_neg hc3]
    rw [← (full13 M13 M13.view.junk (k1_pay1 (F := F)))]
    rw [View.read_writes_cons_put _ _ _ _ _ rfl]
    unfold slab13 blank tailv
    rw [← st_eq c i M3 h3 M4 h4 M5 h5 M6 h6 M7 h7 M8 h8 M9 h9 M10 h10 M11 h11 M12 h12 M13 h13 M14 h14 M15 h15 M16 h16 f8 f9 f10 _ rfl rfl rfl (BitVec.ofNat 32 (i 1).val) (Scalar.muli (BitVec.ofNat 32 (i 2).val) 128#32)]
    rfl
  isplitl [H14]
  · iexists _
    isplitr; swap
    · iexact H14
    ipureintro
    simp only [step, lblStep, start, if_pos hc1, dif_pos hc2, dif_neg hc3]
    exact (full14 M14 M14.view.junk (k1_pay2 (F := F)))
  isplitl [H15]
  · iexists _
    isplitr; swap
    · iexact H15
    ipureintro
    simp only [step, lblStep, start, if_pos hc1, dif_pos hc2, dif_neg hc3]
    rw [← (full13 M15 M15.view.junk (k1_pay3 (F := F)))]
    rw [View.read_writes_cons_put _ _ _ _ _ rfl]
    unfold slab15
    rfl
  · iexists _
    isplitr; swap
    · iexact H16
    ipureintro
    simp only [step, lblStep, start, if_pos hc1, dif_pos hc2, dif_neg hc3]
    exact (full16 M16 M16.view.junk (k1_pay4 (F := F)))

set_option maxRecDepth 65536 in
/-- The run with the first condition True, the second True, the third True. -/
theorem runF (c : Dev nD) (i : grid1.Coords)
    (M3 : Memref sig .tc .smem S4 .i32) (h3 : M3.IsWhole)
    (M4 : Memref sig .tc .smem S4 .i32) (h4 : M4.IsWhole)
    (M5 : Memref sig .tc .smem S4x128 .i32) (h5 : M5.IsWhole)
    (M6 : Memref sig .tc .vmem S1x1x128x896 .fp8e4m3) (h6 : M6.IsWhole)
    (M7 : Memref sig .tc .vmem S129x4x768 .f32) (h7 : M7.IsWhole)
    (M8 : Memref sig .tc .vmem S5024x896 .fp8e4m3) (h8 : M8.IsWhole)
    (M9 : Memref sig .tc .vmem S5024x128 .f32) (h9 : M9.IsWhole)
    (M10 : Memref sig .tc .vmem S5024x128 .f32) (h10 : M10.IsWhole)
    (M11 : Memref sig .tc .vmem S16x896 .bf16) (h11 : M11.IsWhole)
    (M12 : Memref sig .tc .smem S1x1 .f32) (h12 : M12.IsWhole)
    (M13 : Memref sig .tc .vmem S129x4x768 .f32) (h13 : M13.IsWhole)
    (M14 : Memref sig .tc .vmem S128x4x768 .f32) (h14 : M14.IsWhole)
    (M15 : Memref sig .tc .vmem S129x4x768 .f32) (h15 : M15.IsWhole)
    (M16 : Memref sig .tc .vmem S32x896 .fp8e4m3) (h16 : M16.IsWhole)
    (X : HeadIn F) (S : HeadSt F) (hT : TabOK X.el X.tl X.lab i)
    (hc1 : k1_cond1 i = 1#1) (hc2 : k1_cond2 i (wd X.tl i) (wd X.el i) = 1#1) (hc3 : k1_cond3 i (wd X.tl i) = 1#1) (E : Set ℕ) :
    iprop(owns (c : Thread nD τ) M3 fullShare X.el ∗ owns (c : Thread nD τ) M4 fullShare X.tl ∗ owns (c : Thread nD τ) M5 fullShare X.lab ∗ owns (c : Thread nD τ) M6 fullShare X.z ∗ owns (c : Thread nD τ) M7 fullShare X.zs ∗ owns (c : Thread nD τ) M8 fullShare X.w ∗ owns (c : Thread nD τ) M9 fullShare X.ws ∗ owns (c : Thread nD τ) M10 fullShare X.b2 ∗ owns (c : Thread nD τ) M11 fullShare X.wl ∗ owns (c : Thread nD τ) M12 fullShare X.bm ∗ owns (c : Thread nD τ) M13 fullShare S.o13 ∗ owns (c : Thread nD τ) M14 fullShare S.o14 ∗ owns (c : Thread nD τ) M15 fullShare S.o15 ∗ owns (c : Thread nD τ) M16 fullShare S.l16)
      ⊢ wp frame (wpE (defs₀ (F := F)) Variants.none c none) E
          (cc1_head i M3 h3 M4 h4 M5 h5 M6 h6 M7 h7 M8 h8 M9 h9 M10 h10 M11 h11 M12 h12 M13 h13 M14 h14 M15 h15 M16 h16)
          (fun _ => (iprop(owns (c : Thread nD τ) M3 fullShare X.el ∗ owns (c : Thread nD τ) M4 fullShare X.tl ∗ owns (c : Thread nD τ) M5 fullShare X.lab ∗ owns (c : Thread nD τ) M6 fullShare X.z ∗ owns (c : Thread nD τ) M7 fullShare X.zs ∗ owns (c : Thread nD τ) M8 fullShare X.w ∗ owns (c : Thread nD τ) M9 fullShare X.ws ∗ owns (c : Thread nD τ) M10 fullShare X.b2 ∗ owns (c : Thread nD τ) M11 fullShare X.wl ∗ owns (c : Thread nD τ) M12 fullShare X.bm ∗ owns (c : Thread nD τ) M13 fullShare (step i X hT S).o13 ∗ owns (c : Thread nD τ) M14 fullShare (step i X hT S).o14 ∗ owns (c : Thread nD τ) M15 fullShare (step i X hT S).o15 ∗ owns (c : Thread nD τ) M16 fullShare (step i X hT S).l16) : sProp 𝕄)) := by
  obtain ⟨el, tl, lab, z, zs, w, ws, b2, wl, bm⟩ := X
  obtain ⟨o13, o14, o15, l16⟩ := S
  rw [cc1_head_eq_skeleton]; unfold cc1_head_skel owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩
  dsimp only at e3 e4 e5 e6 e7 e8 e9 e10 e11 e12 e13 e14 e15 e16 hT hc2 hc3
  subst e3 e4 e5 e6 e7 e8 e9 e10 e11 e12 e13 e14 e15 e16
  sl_exec (disch := first | sl_exact hc1 | sl_exact hc2 | sl_exact hc3 | sl_exact hT.chk1 | sl_exact (hT.chk2 hc2 hc3))
  sl_step
  isplitl [H3]
  · iexists f3
    isplitr
    · ipureintro; rfl
    · iexact H3
  isplitl [H4]
  · iexists f4
    isplitr
    · ipureintro; rfl
    · iexact H4
  isplitl [H5]
  · iexists f5
    isplitr
    · ipureintro; rfl
    · iexact H5
  isplitl [H6]
  · iexists f6
    isplitr
    · ipureintro; rfl
    · iexact H6
  isplitl [H7]
  · iexists f7
    isplitr
    · ipureintro; rfl
    · iexact H7
  isplitl [H8]
  · iexists f8
    isplitr
    · ipureintro; rfl
    · iexact H8
  isplitl [H9]
  · iexists f9
    isplitr
    · ipureintro; rfl
    · iexact H9
  isplitl [H10]
  · iexists f10
    isplitr
    · ipureintro; rfl
    · iexact H10
  isplitl [H11]
  · iexists f11
    isplitr
    · ipureintro; rfl
    · iexact H11
  isplitl [H12]
  · iexists f12
    isplitr
    · ipureintro; rfl
    · iexact H12
  isplitl [H13]
  · iexists _
    isplitr; swap
    · iexact H13
    ipureintro
    simp only [step, lblStep, start, if_pos hc1, dif_pos hc2, dif_pos hc3]
    rw [← (full13 M13 M13.view.junk (k1_pay1 (F := F)))]
    rw [View.read_writes_cons_put _ _ _ _ _ rfl]
    unfold slab13 blank tailv
    rw [← st_eq c i M3 h3 M4 h4 M5 h5 M6 h6 M7 h7 M8 h8 M9 h9 M10 h10 M11 h11 M12 h12 M13 h13 M14 h14 M15 h15 M16 h16 f8 f9 f10 _ rfl rfl rfl (BitVec.ofNat 32 (i 1).val) (Scalar.muli (BitVec.ofNat 32 (i 2).val) 128#32)]
    rfl
  isplitl [H14]
  · iexists _
    isplitr; swap
    · iexact H14
    ipureintro
    simp only [step, lblStep, start, if_pos hc1, dif_pos hc2, dif_pos hc3]
    rw [← (full14 M14 M14.view.junk (k1_pay2 (F := F)))]
    rw [View.read_writes_cons_put _ _ _ _ _ rfl]
    unfold slab14 lse tailv
    rw [← (full16 M16 M16.view.junk (k1_pay4 (F := F))), newL_eq M8 M16]
    rw [← st_eq c i M3 h3 M4 h4 M5 h5 M6 h6 M7 h7 M8 h8 M9 h9 M10 h10 M11 h11 M12 h12 M13 h13 M14 h14 M15 h15 M16 h16 f8 f9 f10 _ rfl rfl rfl (BitVec.ofNat 32 (i 1).val) (Scalar.muli (BitVec.ofNat 32 (i 2).val) 128#32)]
    rfl
  isplitl [H15]
  · iexists _
    isplitr; swap
    · iexact H15
    ipureintro
    simp only [step, lblStep, start, if_pos hc1, dif_pos hc2, dif_pos hc3]
    rw [← (full13 M15 M15.view.junk (k1_pay3 (F := F)))]
    rw [View.read_writes_cons_put _ _ _ _ _ rfl]
    unfold slab15
    rfl
  · iexists _
    isplitr; swap
    · iexact H16
    ipureintro
    simp only [step, lblStep, start, if_pos hc1, dif_pos hc2, dif_pos hc3]
    rw [← (full16 M16 M16.view.junk (k1_pay4 (F := F)))]
    rw [newL_eq M8 M16]
    rfl

/-- The body at a grid point, from any state: it leaves `step`. -/
theorem run (c : Dev nD) (i : grid1.Coords)
    (M3 : Memref sig .tc .smem S4 .i32) (h3 : M3.IsWhole)
    (M4 : Memref sig .tc .smem S4 .i32) (h4 : M4.IsWhole)
    (M5 : Memref sig .tc .smem S4x128 .i32) (h5 : M5.IsWhole)
    (M6 : Memref sig .tc .vmem S1x1x128x896 .fp8e4m3) (h6 : M6.IsWhole)
    (M7 : Memref sig .tc .vmem S129x4x768 .f32) (h7 : M7.IsWhole)
    (M8 : Memref sig .tc .vmem S5024x896 .fp8e4m3) (h8 : M8.IsWhole)
    (M9 : Memref sig .tc .vmem S5024x128 .f32) (h9 : M9.IsWhole)
    (M10 : Memref sig .tc .vmem S5024x128 .f32) (h10 : M10.IsWhole)
    (M11 : Memref sig .tc .vmem S16x896 .bf16) (h11 : M11.IsWhole)
    (M12 : Memref sig .tc .smem S1x1 .f32) (h12 : M12.IsWhole)
    (M13 : Memref sig .tc .vmem S129x4x768 .f32) (h13 : M13.IsWhole)
    (M14 : Memref sig .tc .vmem S128x4x768 .f32) (h14 : M14.IsWhole)
    (M15 : Memref sig .tc .vmem S129x4x768 .f32) (h15 : M15.IsWhole)
    (M16 : Memref sig .tc .vmem S32x896 .fp8e4m3) (h16 : M16.IsWhole)
    (X : HeadIn F) (S : HeadSt F) (hT : TabOK X.el X.tl X.lab i) (E : Set ℕ) :
    iprop(owns (c : Thread nD τ) M3 fullShare X.el ∗ owns (c : Thread nD τ) M4 fullShare X.tl ∗ owns (c : Thread nD τ) M5 fullShare X.lab ∗ owns (c : Thread nD τ) M6 fullShare X.z ∗ owns (c : Thread nD τ) M7 fullShare X.zs ∗ owns (c : Thread nD τ) M8 fullShare X.w ∗ owns (c : Thread nD τ) M9 fullShare X.ws ∗ owns (c : Thread nD τ) M10 fullShare X.b2 ∗ owns (c : Thread nD τ) M11 fullShare X.wl ∗ owns (c : Thread nD τ) M12 fullShare X.bm ∗ owns (c : Thread nD τ) M13 fullShare S.o13 ∗ owns (c : Thread nD τ) M14 fullShare S.o14 ∗ owns (c : Thread nD τ) M15 fullShare S.o15 ∗ owns (c : Thread nD τ) M16 fullShare S.l16)
      ⊢ wp frame (wpE (defs₀ (F := F)) Variants.none c none) E
          (cc1_head i M3 h3 M4 h4 M5 h5 M6 h6 M7 h7 M8 h8 M9 h9 M10 h10 M11 h11 M12 h12 M13 h13 M14 h14 M15 h15 M16 h16)
          (fun _ => (iprop(owns (c : Thread nD τ) M3 fullShare X.el ∗ owns (c : Thread nD τ) M4 fullShare X.tl ∗ owns (c : Thread nD τ) M5 fullShare X.lab ∗ owns (c : Thread nD τ) M6 fullShare X.z ∗ owns (c : Thread nD τ) M7 fullShare X.zs ∗ owns (c : Thread nD τ) M8 fullShare X.w ∗ owns (c : Thread nD τ) M9 fullShare X.ws ∗ owns (c : Thread nD τ) M10 fullShare X.b2 ∗ owns (c : Thread nD τ) M11 fullShare X.wl ∗ owns (c : Thread nD τ) M12 fullShare X.bm ∗ owns (c : Thread nD τ) M13 fullShare (step i X hT S).o13 ∗ owns (c : Thread nD τ) M14 fullShare (step i X hT S).o14 ∗ owns (c : Thread nD τ) M15 fullShare (step i X hT S).o15 ∗ owns (c : Thread nD τ) M16 fullShare (step i X hT S).l16) : sProp 𝕄)) := by
  by_cases hc1 : k1_cond1 i = 1#1
  · have hc2 := hT.first hc1
    by_cases hc3 : k1_cond3 i (wd X.tl i) = 1#1
    · exact runF c i M3 h3 M4 h4 M5 h5 M6 h6 M7 h7 M8 h8 M9 h9 M10 h10 M11 h11 M12 h12 M13 h13 M14 h14 M15 h15 M16 h16 X S hT hc1 hc2 hc3 E
    · exact runE c i M3 h3 M4 h4 M5 h5 M6 h6 M7 h7 M8 h8 M9 h9 M10 h10 M11 h11 M12 h12 M13 h13 M14 h14 M15 h15 M16 h16 X S hT hc1 hc2 hc3 E
  · by_cases hc2 : k1_cond2 i (wd X.tl i) (wd X.el i) = 1#1
    · by_cases hc3 : k1_cond3 i (wd X.tl i) = 1#1
      · exact runC c i M3 h3 M4 h4 M5 h5 M6 h6 M7 h7 M8 h8 M9 h9 M10 h10 M11 h11 M12 h12 M13 h13 M14 h14 M15 h15 M16 h16 X S hT hc1 hc2 hc3 E
      · exact runB c i M3 h3 M4 h4 M5 h5 M6 h6 M7 h7 M8 h8 M9 h9 M10 h10 M11 h11 M12 h12 M13 h13 M14 h14 M15 h15 M16 h16 X S hT hc1 hc2 hc3 E
    · exact runA c i M3 h3 M4 h4 M5 h5 M6 h6 M7 h7 M8 h8 M9 h9 M10 h10 M11 h11 M12 h12 M13 h13 M14 h14 M15 h15 M16 h16 X S hT hc1 hc2 E

end Cert.Kernel.Hand
-- ==== Proof.Region0.lean ====
/- The weight sums' call: its body's run (one grid point: the result zeroed, then seven blocks of lanes, each the
   column sums of the scaled weight), and its pipeline's proof data. -/
module

public import proofs.«01_k».proof.Proof.Body
public import proofs.«01_k».proof.Proof.Gen.Kernel.Points
public import proofs.«01_k».proof.Proof.Gen.Kernel.Regions
public import Idealize.ShloMosaic.Lib.Pipeline.RegionArraysTS
public import Idealize.ShloMosaic.Lib.Pipeline.TableIdle
public import Idealize.ShloMosaic.Lib.Pipeline.FrameBody

@[expose] public section

set_option maxHeartbeats 1000000
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

/-- The weight scales, as loaded. -/
abbrev wsAll (ws : Vec F S5024x128 .f32) : Vec F S5024x128 .f32 :=
  View.ld (Val := Elt F) (e' := .f32) ws (Rect.unit (s := S5024x128) ![0, 0] S5024x128.size inb_S5024x128_S5024x128_0_0)

/-- One block of lanes added into the sums. -/
def wput (n : ℕ) (h1 : ∀ a, (![0, n] : Fin 2 → ℕ) a + S1x128.size a ≤ S1x896.size a) (h2 : ∀ a, (![0, n] : Fin 2 → ℕ) a + S5024x128.size a ≤ S5024x896.size a)
    (w : Vec F S5024x896 .fp8e4m3) (ws : Vec F S5024x128 .f32) (o : Vec F S1x896 .f32) : Vec F S1x896 .f32 :=
  VecWindow.put o ![0, n] S1x128.size
    (k0_pay4 (View.ld (Val := Elt F) (e' := .f32) o (Rect.unit (s := S1x896) ![0, n] S1x128.size h1))
      (View.ld (Val := Elt F) (e' := .fp8e4m3) w (Rect.unit (s := S5024x896) ![0, n] S5024x128.size h2)) (wsAll ws))

/-- The weight sums. -/
def wsumV (w : Vec F S5024x896 .fp8e4m3) (ws : Vec F S5024x128 .f32) : Vec F S1x896 .f32 :=
  wput 768 inb_S1x896_S1x128_0_768 inb_S5024x896_S5024x128_0_768 w ws
  (wput 640 inb_S1x896_S1x128_0_640 inb_S5024x896_S5024x128_0_640 w ws
  (wput 512 inb_S1x896_S1x128_0_512 inb_S5024x896_S5024x128_0_512 w ws
  (wput 384 inb_S1x896_S1x128_0_384 inb_S5024x896_S5024x128_0_384 w ws
  (wput 256 inb_S1x896_S1x128_0_256 inb_S5024x896_S5024x128_0_256 w ws
  (wput 128 inb_S1x896_S1x128_0_128 inb_S5024x896_S5024x128_0_128 w ws
  (wput 0 inb_S1x896_S1x128_0_0 inb_S5024x896_S5024x128_0_0 w ws k0_pay3))))))

/-- Contents overwritten whole read what was written. -/
theorem fullW (M : Memref sig .tc .vmem S1x896 .f32) (f : BufTy.Contents (Elt F) M.view.ty) (w : Vec F S1x896 .f32) :
    M.view.read (Elt F) (M.view.writes (Elt F) f [⟨Rect.unit (s := S1x896) ![0, 0] S1x896.size inb_S1x896_S1x896_0_0, w⟩]) = w :=
  View.read_writes_full _ _ _ _ _

/-- The grid's one point is the first. -/
theorem cond0 : ∀ i : grid0.Coords, Scalar.cmpi .ne (Scalar.extui (Scalar.cmpi .eq (BitVec.ofNat 32 (i 0).val) 0#32)) 0#32 = 1#1 := by decide

set_option maxRecDepth 65536 in
/-- The body's run: whatever the result's buffer held, it ends at the weight sums. -/
theorem wsumRun (c : Dev nD) (i : grid0.Coords)
    (M1 : Memref sig .tc .vmem S5024x896 .fp8e4m3) (h1 : M1.IsWhole)
    (M2 : Memref sig .tc .vmem S5024x128 .f32) (h2 : M2.IsWhole)
    (M3 : Memref sig .tc .vmem S1x896 .f32) (h3 : M3.IsWhole)
    (w : Vec F S5024x896 .fp8e4m3) (ws : Vec F S5024x128 .f32) (o : Vec F S1x896 .f32) (E : Set ℕ) :
    iprop(owns (c : Thread nD τ) M1 fullShare w ∗ owns (c : Thread nD τ) M2 fullShare ws ∗ owns (c : Thread nD τ) M3 fullShare o)
      ⊢ wp frame (wpE (defs₀ (F := F)) Variants.none c none) E (cc0_wsum i M1 h1 M2 h2 M3 h3)
          (fun _ => (iprop(owns (c : Thread nD τ) M1 fullShare w ∗ owns (c : Thread nD τ) M2 fullShare ws ∗ owns (c : Thread nD τ) M3 fullShare (wsumV w ws)) : sProp 𝕄)) := by
  have hc := cond0 i
  rw [cc0_wsum_eq_skeleton]; unfold cc0_wsum_skel owns
  iintro ⟨⟨%f1, %e1, H1⟩, ⟨%f2, %e2, H2⟩, ⟨%f3, %e3, H3⟩⟩
  subst e1 e2 e3
  sl_exec (disch := first | sl_exact hc)
  sl_step
  isplitl [H1]
  · iexists f1
    isplitr
    · ipureintro; rfl
    · iexact H1
  isplitl [H2]
  · iexists f2
    isplitr
    · ipureintro; rfl
    · iexact H2
  · iexists _
    isplitr; swap
    · iexact H3
    ipureintro
    have k1 : ∀ f, M3.view.read (Elt F) (M3.view.writes (Elt F) f wsumRun.sl.H3_1) = k0_pay3 (F := F) := fun f => fullW M3 f _
    have k2 : ∀ f, M3.view.read (Elt F) (M3.view.writes (Elt F) f (wsumRun.sl.H3_2 c M1 M2 M3 f1 f2)) = (wput 0 inb_S1x896_S1x128_0_0 inb_S5024x896_S5024x128_0_0 (M1.view.read (Elt F) f1) (M2.view.read (Elt F) f2) (k0_pay3 (F := F))) := fun f => by
      unfold wsumRun.sl.H3_2
      rw [View.read_writes_cons_put _ _ _ _ _ rfl, k1 f, ← k1 M3.view.junk]
      rfl
    have k3 : ∀ f, M3.view.read (Elt F) (M3.view.writes (Elt F) f (wsumRun.sl.H3_3 c M1 M2 M3 f1 f2)) = (wput 128 inb_S1x896_S1x128_0_128 inb_S5024x896_S5024x128_0_128 (M1.view.read (Elt F) f1) (M2.view.read (Elt F) f2) (wput 0 inb_S1x896_S1x128_0_0 inb_S5024x896_S5024x128_0_0 (M1.view.read (Elt F) f1) (M2.view.read (Elt F) f2) (k0_pay3 (F := F)))) := fun f => by
      unfold wsumRun.sl.H3_3
      rw [View.read_writes_cons_put _ _ _ _ _ rfl, k2 f, ← k2 M3.view.junk]
      rfl
    have k4 : ∀ f, M3.view.read (Elt F) (M3.view.writes (Elt F) f (wsumRun.sl.H3_4 c M1 M2 M3 f1 f2)) = (wput 256 inb_S1x896_S1x128_0_256 inb_S5024x896_S5024x128_0_256 (M1.view.read (Elt F) f1) (M2.view.read (Elt F) f2) (wput 128 inb_S1x896_S1x128_0_128 inb_S5024x896_S5024x128_0_128 (M1.view.read (Elt F) f1) (M2.view.read (Elt F) f2) (wput 0 inb_S1x896_S1x128_0_0 inb_S5024x896_S5024x128_0_0 (M1.view.read (Elt F) f1) (M2.view.read (Elt F) f2) (k0_pay3 (F := F))))) := fun f => by
      unfold wsumRun.sl.H3_4
      rw [View.read_writes_cons_put _ _ _ _ _ rfl, k3 f, ← k3 M3.view.junk]
      rfl
    have k5 : ∀ f, M3.view.read (Elt F) (M3.view.writes (Elt F) f (wsumRun.sl.H3_5 c M1 M2 M3 f1 f2)) = (wput 384 inb_S1x896_S1x128_0_384 inb_S5024x896_S5024x128_0_384 (M1.view.read (Elt F) f1) (M2.view.read (Elt F) f2) (wput 256 inb_S1x896_S1x128_0_256 inb_S5024x896_S5024x128_0_256 (M1.view.read (Elt F) f1) (M2.view.read (Elt F) f2) (wput 128 inb_S1x896_S1x128_0_128 inb_S5024x896_S5024x128_0_128 (M1.view.read (Elt F) f1) (M2.view.read (Elt F) f2) (wput 0 inb_S1x896_S1x128_0_0 inb_S5024x896_S5024x128_0_0 (M1.view.read (Elt F) f1) (M2.view.read (Elt F) f2) (k0_pay3 (F := F)))))) := fun f => by
      unfold wsumRun.sl.H3_5
      rw [View.read_writes_cons_put _ _ _ _ _ rfl, k4 f, ← k4 M3.view.junk]
      rfl
    have k6 : ∀ f, M3.view.read (Elt F) (M3.view.writes (Elt F) f (wsumRun.sl.H3_6 c M1 M2 M3 f1 f2)) = (wput 512 inb_S1x896_S1x128_0_512 inb_S5024x896_S5024x128_0_512 (M1.view.read (Elt F) f1) (M2.view.read (Elt F) f2) (wput 384 inb_S1x896_S1x128_0_384 inb_S5024x896_S5024x128_0_384 (M1.view.read (Elt F) f1) (M2.view.read (Elt F) f2) (wput 256 inb_S1x896_S1x128_0_256 inb_S5024x896_S5024x128_0_256 (M1.view.read (Elt F) f1) (M2.view.read (Elt F) f2) (wput 128 inb_S1x896_S1x128_0_128 inb_S5024x896_S5024x128_0_128 (M1.view.read (Elt F) f1) (M2.view.read (Elt F) f2) (wput 0 inb_S1x896_S1x128_0_0 inb_S5024x896_S5024x128_0_0 (M1.view.read (Elt F) f1) (M2.view.read (Elt F) f2) (k0_pay3 (F := F))))))) := fun f => by
      unfold wsumRun.sl.H3_6
      rw [View.read_writes_cons_put _ _ _ _ _ rfl, k5 f, ← k5 M3.view.junk]
      rfl
    have k7 : ∀ f, M3.view.read (Elt F) (M3.view.writes (Elt F) f (wsumRun.sl.H3_7 c M1 M2 M3 f1 f2)) = (wput 640 inb_S1x896_S1x128_0_640 inb_S5024x896_S5024x128_0_640 (M1.view.read (Elt F) f1) (M2.view.read (Elt F) f2) (wput 512 inb_S1x896_S1x128_0_512 inb_S5024x896_S5024x128_0_512 (M1.view.read (Elt F) f1) (M2.view.read (Elt F) f2) (wput 384 inb_S1x896_S1x128_0_384 inb_S5024x896_S5024x128_0_384 (M1.view.read (Elt F) f1) (M2.view.read (Elt F) f2) (wput 256 inb_S1x896_S1x128_0_256 inb_S5024x896_S5024x128_0_256 (M1.view.read (Elt F) f1) (M2.view.read (Elt F) f2) (wput 128 inb_S1x896_S1x128_0_128 inb_S5024x896_S5024x128_0_128 (M1.view.read (Elt F) f1) (M2.view.read (Elt F) f2) (wput 0 inb_S1x896_S1x128_0_0 inb_S5024x896_S5024x128_0_0 (M1.view.read (Elt F) f1) (M2.view.read (Elt F) f2) (k0_pay3 (F := F)))))))) := fun f => by
      unfold wsumRun.sl.H3_7
      rw [View.read_writes_cons_put _ _ _ _ _ rfl, k6 f, ← k6 M3.view.junk]
      rfl
    unfold wsumV
    rw [View.read_writes_cons_put _ _ _ _ _ rfl, k7 f3, ← k7 M3.view.junk]
    rfl

/-! ## The pipeline's proof data -/

variable (V : Valuation τ sig (Elt F))

/-- The weight, as staged. -/
abbrev stg00 : Vec F S5024x896 .fp8e4m3 :=
  ((cfg0.win 0).blk t0_0).view.read (Elt F) (V (Proc.devRef .tc (Pipeline.arrRef spec0 0)))
/-- The weight's scales, as staged. -/
abbrev stg01 : Vec F S5024x128 .f32 :=
  ((cfg0.win 1).blk t0_0).view.read (Elt F) (V (Proc.devRef .tc (Pipeline.arrRef spec0 1)))

/-- The proof data: the arrays at the entry contents, the inputs left as staged, the result at the weight sums;
    the invariant the buffers no window stages. -/
def dat0 (c : Dev nD) : Dat τ (Elt F) Unit ℕ (UR sig nD τ) ℕ cfg0 c where
  A w := V (Proc.devRef .tc (Pipeline.arrRef spec0 w))
  after w _ := match w with
    | ⟨0, _⟩ => stg00 V
    | ⟨1, _⟩ => stg01 V
    | ⟨2, _⟩ => wsumV (stg00 V) (stg01 V)
  Φ _ := Pipeline.scopedRest spec0 c
  q _ := fullShare
  owed _ := 0

theorem dat0_A (c : Dev nD) (w : Fin cfg0.W) : (dat0 V c).A w = V (Proc.devRef .tc (Pipeline.arrRef spec0 w)) := by
  dsimp only [dat0]

theorem before00 (c : Dev nD) (d) : (dat0 V c).before 0 t0_0 d = stg00 V := by
  unfold Dat.before; rw [if_pos (fetch0_0 t0_0)]; rfl
theorem before01 (c : Dev nD) (d) : (dat0 V c).before 1 t0_0 d = stg01 V := by
  unfold Dat.before; rw [if_pos (fetch0_1 t0_0)]; rfl

theorem defs₀_row0 (t : Fin cfg0.N) : defs₀ (F := F) .tc cfg0.body (cfg0.bodyArgs t (cfg0.slots t)) = bodyAt0 t := by
  unfold defs₀; rw [Defs.onTc_tc]

/-- The body obligation. -/
theorem body0 (c : Dev nD) : Pipeline.BodyObligation (dat0 V c) (defs₀ (F := F)) Variants.none () Set.univ := fun t => by
  obtain rfl := fin_N0 t
  rw [defs₀_row0, bigSep_W0, bigSep_W0]
  have hrun := wsumRun (F := F) c (grid0.coords t0_0) (st0_0 t0_0) (hstage0_0 ((cfg0.slots t0_0 0).cast nbuf0_0)) (st0_1 t0_0) (hstage0_1 ((cfg0.slots t0_0 1).cast nbuf0_1))
    (st0_2 t0_0) (hstage0_2 ((cfg0.slots t0_0 2).cast nbuf0_2)) (stg00 V) (stg01 V)
  iintro ⟨HΦ, HO, ⟨%d0, H0⟩, ⟨%d1, H1⟩, ⟨%d2, H2⟩⟩
  rw [before00, before01]
  ihave Hw := (hrun _ Set.univ) $$ [H0 H1 H2]
  · isplitl [H0]; · iexact H0
    isplitl [H1]; · iexact H1
    iexact H2
  ihave Hw' := (wp_wand (Q' := _) _ _ _) $$ Hw
  iapply Hw'
  iintro %a ⟨H0, H1, H2⟩
  rw [show (dat0 V c).Φ t0_0.succ = (dat0 V c).Φ t0_0.castSucc from rfl]
  isplitl [HΦ]; · iexact HΦ
  isplitl [HO]
  · unfold Dat.owesAt Pipeline.owesWithin
    icases HO with ⟨%W, %hW, HO⟩
    iexists W
    isplitr
    · ipureintro
      exact fun _ _ => Or.inl trivial
    · iexact HO
  isplitl [H0]; · iexact H0
  isplitl [H1]; · iexact H1
  iexact H2

end Cert.Kernel.Hand

end
-- ==== Proof.Region1.lean ====
/- The head's call: its pipeline's proof data. The tables are held by the invariant; the three results are resident
   over the whole grid, so what they hold after a point is one recursion over the points (`stT`), which the idle
   points carry; the scratch row is the recursion's fourth component. -/
module

public import proofs.«01_k».proof.Proof.Region0

@[expose] public section

set_option maxHeartbeats 1000000
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

/-! ## The recursion over the grid points -/

section
variable (a1 : (pcfg1 (F := F)).Adm) (V : Valuation τ sig (Elt F))

/-- A window's block at a point, as staged from the entry contents. -/
abbrev blk1 (w : Fin 10) (t : Fin (cfg1 a1).N) : ((cfg1 a1).win w).block.Idx → Elt F ((cfg1 a1).win w).elt :=
  (((cfg1 a1).win w).blk t).view.read (Elt F) (V (Proc.devRef .tc (Pipeline.arrRef spec1 w)))

/-- What the body reads at a point. -/
def X1 (t : Fin (cfg1 a1).N) : HeadIn F where
  el := a1.1 0
  tl := a1.1 1
  lab := a1.1 2
  z := blk1 a1 V 0 t
  zs := blk1 a1 V 1 t
  w := blk1 a1 V 2 t
  ws := blk1 a1 V 3 t
  b2 := blk1 a1 V 4 t
  wl := blk1 a1 V 5 t
  bm := blk1 a1 V 6 t

/-- The tables meet the body's assumptions at every grid point. -/
abbrev TabsOK : Prop := ∀ i : grid1.Coords, TabOK (F := F) (a1.1 0) (a1.1 1) (a1.1 2) i

variable (hT : TabsOK a1)

/-- The results and the scratch row before point `n`. -/
def stT : ℕ → HeadSt F
  | 0 => ⟨k1_pay1, k1_pay2, k1_pay3, k1_pay4⟩
  | n + 1 => if h : n < (cfg1 a1).N then step (grid1.coords ⟨n, h⟩) (X1 a1 V ⟨n, h⟩) (hT _) (stT n) else stT n

theorem stT_succ (t : Fin (cfg1 a1).N) : stT a1 V hT (t.val + 1) = step (grid1.coords t) (X1 a1 V t) (hT _) (stT a1 V hT t.val) := by
  rw [stT, dif_pos t.isLt]

theorem grid1_pos : 0 < grid1.N := by rw [N_1]; omega
theorem cond1_zero : k1_cond1 (grid1.coords ⟨0, grid1_pos⟩) = 1#1 := by decide

/-- The first point's condition holds at the first point. -/
theorem cond1_first (t : Fin grid1.N) (ht : t.val = 0) : k1_cond1 (grid1.coords t) = 1#1 := by
  obtain ⟨t, h⟩ := t
  obtain rfl : t = 0 := ht
  exact cond1_zero

/-- Where the first point's condition holds the step forgets what it met. -/
theorem step_first (i : grid1.Coords) (X : HeadIn F) (h : TabOK X.el X.tl X.lab i) (S S' : HeadSt F) (h1 : k1_cond1 i = 1#1) :
    step i X h S = step i X h S' := by
  have e : start i S = start i S' := by unfold start; rw [if_pos h1, if_pos h1]
  unfold step
  rw [e]

theorem off1_lt (i : grid1.Coords) (a : Fin 1) : k1_off1 i a + 1 ≤ S4.size a := by
  obtain rfl : a = 0 := Subsingleton.elim _ _
  exact k1_off1_inb i 0

/-- A table's element, however the offsets' bound is read. -/
theorem atD0 (i : grid1.Coords) : a1.1.atD 0 (k1_off1 i) = wd (a1.1 0) i := by
  refine (dif_pos (c := ∀ a : Fin 1, k1_off1 i a + 1 ≤ S4.size a) (off1_lt i)).trans ?_
  refine congrArg (a1.1 0) (funext fun a => Fin.ext ?_)
  obtain rfl : a = (0 : Fin 1) := Subsingleton.elim (α := Fin 1) a 0
  show k1_off1 i 0 = k1_off1 i 0 + 0 * 1
  omega
theorem atD1 (i : grid1.Coords) : a1.1.atD 1 (k1_off1 i) = wd (a1.1 1) i := by
  refine (dif_pos (c := ∀ a : Fin 1, k1_off1 i a + 1 ≤ S4.size a) (off1_lt i)).trans ?_
  refine congrArg (a1.1 1) (funext fun a => Fin.ext ?_)
  obtain rfl : a = (0 : Fin 1) := Subsingleton.elim (α := Fin 1) a 0
  show k1_off1 i 0 = k1_off1 i 0 + 0 * 1
  omega

theorem cond2_atD (i : grid1.Coords) : k1_cond2 i (a1.1.atD 1 (k1_off1 i)) (a1.1.atD 0 (k1_off1 i)) = k1_cond2 i (wd (a1.1 1) i) (wd (a1.1 0) i) :=
  congrArg₂ (k1_cond2 i) (atD1 a1 i) (atD0 a1 i)

/-! ## The proof data -/

/-- What the invariant holds beside the tables: the other call's staging buffers, and the scratch row at its
    contents once the first point has written it. -/
def rest1 (c : Dev nD) (n : ℕ) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ l : Vec F S32x896 .fp8e4m3, ⌜n ≠ 0 → l = (stT a1 V hT n).l16⌝ ∗ owns (c : Thread nD τ) (Memref.whole cc1_scratch0) fullShare l))

/-- The invariant before point `n`. -/
def phi1 (c : Dev nD) (n : ℕ) : sProp 𝕄 :=
  iprop(Pipeline.prefHeld pre1 c (fun _ => fullShare) a1.1 ∗ rest1 a1 V hT c n)

/-- The proof data: the arrays at the entry contents, the inputs left as staged, the results at the recursion. -/
def dat1 (c : Dev nD) : Dat τ (Elt F) Unit ℕ (UR sig nD τ) ℕ (cfg1 a1) c where
  A w := V (Proc.devRef .tc (Pipeline.arrRef spec1 w))
  after w t := match w with
    | ⟨0, _⟩ => (X1 a1 V t).z
    | ⟨1, _⟩ => (X1 a1 V t).zs
    | ⟨2, _⟩ => (X1 a1 V t).w
    | ⟨3, _⟩ => (X1 a1 V t).ws
    | ⟨4, _⟩ => (X1 a1 V t).b2
    | ⟨5, _⟩ => (X1 a1 V t).wl
    | ⟨6, _⟩ => (X1 a1 V t).bm
    | ⟨7, _⟩ => (stT a1 V hT (t.val + 1)).o13
    | ⟨8, _⟩ => (stT a1 V hT (t.val + 1)).o14
    | ⟨9, _⟩ => (stT a1 V hT (t.val + 1)).o15
  Φ t := phi1 a1 V hT c t.val
  q _ := fullShare
  owed _ := 0

theorem before1_0 (c : Dev nD) (t) (d) : (dat1 a1 V hT c).before (0 : Fin 10) t d = (X1 a1 V t).z :=
  (dat1 a1 V hT c).before_in_eq_fetched 0 rfl (fun _ => rfl) (fun _ _ _ => rfl) (fun _ => rfl) t d
theorem before1_1 (c : Dev nD) (t) (d) : (dat1 a1 V hT c).before (1 : Fin 10) t d = (X1 a1 V t).zs :=
  (dat1 a1 V hT c).before_in_eq_fetched 1 rfl (fun _ => rfl) (fun _ _ _ => rfl) (fun _ => rfl) t d
theorem before1_2 (c : Dev nD) (t) (d) : (dat1 a1 V hT c).before (2 : Fin 10) t d = (X1 a1 V t).w :=
  (dat1 a1 V hT c).before_in_eq_fetched 2 rfl (fun _ => rfl) (fun _ _ _ => rfl) (fun _ => rfl) t d
theorem before1_3 (c : Dev nD) (t) (d) : (dat1 a1 V hT c).before (3 : Fin 10) t d = (X1 a1 V t).ws :=
  (dat1 a1 V hT c).before_in_eq_fetched 3 rfl (fun _ => rfl) (fun _ _ _ => rfl) (fun _ => rfl) t d
theorem before1_4 (c : Dev nD) (t) (d) : (dat1 a1 V hT c).before (4 : Fin 10) t d = (X1 a1 V t).b2 :=
  (dat1 a1 V hT c).before_in_eq_fetched 4 rfl (fun _ => rfl) (fun _ _ _ => rfl) (fun _ => rfl) t d
theorem before1_5 (c : Dev nD) (t) (d) : (dat1 a1 V hT c).before (5 : Fin 10) t d = (X1 a1 V t).wl :=
  (dat1 a1 V hT c).before_in_eq_fetched 5 rfl (fun _ => rfl) (fun _ _ _ => rfl) (fun _ => rfl) t d
theorem before1_6 (c : Dev nD) (t) (d) : (dat1 a1 V hT c).before (6 : Fin 10) t d = (X1 a1 V t).bm :=
  (dat1 a1 V hT c).before_in_eq_fetched 6 rfl (fun _ => rfl) (fun _ _ _ => rfl) (fun _ => rfl) t d

/-! ### The results' windows: what they hold before a point -/

/-- At an idle point of the first (and third) result the step leaves it. -/
theorem idle7 (t : Fin (cfg1 a1).N) (hi : idle1 a1.1 7 (grid1.coords t) = true) (S : HeadSt F) :
    (step (grid1.coords t) (X1 a1 V t) (hT _) S).o13 = S.o13 ∧ (step (grid1.coords t) (X1 a1 V t) (hT _) S).o15 = S.o15 := by
  simp only [idle1, Bool.and_eq_true, Bool.not_eq_true', beq_eq_false_iff_ne] at hi
  have e : step (grid1.coords t) (X1 a1 V t) (hT _) S = S := by
    unfold step
    rw [dif_neg (show ¬ (k1_cond2 (grid1.coords t) (wd (X1 a1 V t).tl (grid1.coords t)) (wd (X1 a1 V t).el (grid1.coords t)) = 1#1) from fun h => hi.2 ((cond2_atD a1 _).trans h))]
    unfold start
    rw [if_neg hi.1]
  rw [e]
  exact ⟨rfl, rfl⟩

/-- At an idle point of the second result the step leaves it. -/
theorem idle8 (t : Fin (cfg1 a1).N) (hi : idle1 a1.1 8 (grid1.coords t) = true) (S : HeadSt F) :
    (step (grid1.coords t) (X1 a1 V t) (hT _) S).o14 = S.o14 := by
  simp only [idle1, Bool.and_eq_true, Bool.not_eq_true', beq_eq_false_iff_ne, Bool.and_eq_false_iff] at hi
  have es : start (grid1.coords t) S = S := by
    unfold start
    rw [if_neg hi.1]
  unfold step
  rw [es]
  split_ifs with h2
  · unfold lblStep
    split_ifs with h3
    · exact absurd hi.2 (by
        rintro (h | h)
        · exact h ((cond2_atD a1 _).trans h2)
        · exact h ((congrArg (k1_cond3 _) (atD1 a1 _)).trans h3))
    · rfl
  · rfl

/-- A result's buffer holds what the body stored from the second point on. -/
theorem fresh_pos (w : Fin 10) (hw : ((cfg1 a1).win w).isOut = true) (hc : ∀ i i', ((cfg1 a1).win w).indexMap i = ((cfg1 a1).win w).indexMap i')
    (h0 : ∀ t : Fin grid1.N, t.val = 0 → idle1 a1.1 w (grid1.coords t) = false) (n : ℕ) : n + 1 < (cfg1 a1).N + 0 → (cfg1 a1).fresh w (n + 1) = false := by
  have hN : (cfg1 a1).N = 3096 := N_1
  induction n with
  | zero =>
    intro h
    have hn : 0 < (cfg1 a1).N := by omega
    rw [Pipeline.Cfg.fresh_succ _ _ _ hn]
    have hf : ((cfg1 a1).win w).flush ⟨0, hn⟩ = false := by
      rw [← Bool.not_eq_true, Pipeline.Window.flush_const _ hw hc (n := 3096) (m := 3095) N_1 rfl]
      simp
    rw [hf]
    have := h0 ⟨0, hn⟩ rfl
    rw [show (cfg1 a1).idle w ((cfg1 a1).grid.coords ⟨0, hn⟩) = idle1 a1.1 w (grid1.coords ⟨0, hn⟩) from rfl, this]
    rfl
  | succ n ih =>
    intro h
    have hn : n + 1 < (cfg1 a1).N := by omega
    rw [Pipeline.Cfg.fresh_succ _ _ _ hn, ih (by omega)]
    have hf : ((cfg1 a1).win w).flush ⟨n + 1, hn⟩ = false := by
      rw [← Bool.not_eq_true, Pipeline.Window.flush_const _ hw hc (n := 3096) (m := 3095) N_1 rfl]
      simp only
      omega
    rw [hf, Bool.and_false]
    rfl

theorem idle_first (w : Fin 10) (t : Fin grid1.N) (ht : t.val = 0) (hw : w = 7 ∨ w = 8 ∨ w = 9) : idle1 a1.1 w (grid1.coords t) = false := by
  have h1 := cond1_first t ht
  obtain rfl | rfl | rfl := hw <;>
    simp only [idle1, h1, beq_self_eq_true, Bool.not_true, Bool.false_and]

/-- What a result's buffer holds before a point: the recursion, but at the first point. -/
theorem before1_out (c : Dev nD) (w : Fin 10) (hw : w = 7 ∨ w = 8 ∨ w = 9) (ho : ((cfg1 a1).win w).isOut = true)
    (hcl : ∀ i a, ((cfg1 a1).win w).clip i a = none)
    (hc : ∀ i i', ((cfg1 a1).win w).indexMap i = ((cfg1 a1).win w).indexMap i')
    (hcarry : ∀ (t : Fin (cfg1 a1).N) (_ : t.val ≠ 0), idle1 a1.1 w (grid1.coords t) = true →
      (dat1 a1 V hT c).after w t = (dat1 a1 V hT c).after w ⟨t.val - 1, by omega⟩)
    (t : Fin (cfg1 a1).N) (ht : t.val ≠ 0) (d) : (dat1 a1 V hT c).before w t d = (dat1 a1 V hT c).after w ⟨t.val - 1, by omega⟩ := by
  rw [(dat1 a1 V hT c).before_out_traj w ho hcl (fun t ht hi _ => hcarry t ht hi) t.val t rfl d]
  have : (cfg1 a1).fresh w t.val = false := by
    have := fresh_pos a1 w ho hc (fun t ht => idle_first a1 w t ht hw) (t.val - 1) (by have := t.isLt; omega)
    rwa [Nat.sub_add_cancel (by omega)] at this
  rw [this]
  rfl

theorem pred_eq (t : Fin (cfg1 a1).N) (ht : t.val ≠ 0) : t.val - 1 + 1 = t.val := by omega

theorem before1_7 (c : Dev nD) (t : Fin (cfg1 a1).N) (ht : t.val ≠ 0) (d) : (dat1 a1 V hT c).before (7 : Fin 10) t d = (stT a1 V hT t.val).o13 := by
  refine (before1_out a1 V hT c 7 (.inl rfl) rfl (fun _ _ => rfl) (fun _ _ => rfl) (fun t ht hi => ?_) t ht d).trans ?_
  · show (stT a1 V hT (t.val + 1)).o13 = (stT a1 V hT (t.val - 1 + 1)).o13
    rw [pred_eq a1 t ht, stT_succ]
    exact (idle7 a1 V hT t hi _).1
  · show (stT a1 V hT (t.val - 1 + 1)).o13 = _
    rw [pred_eq a1 t ht]
theorem before1_8 (c : Dev nD) (t : Fin (cfg1 a1).N) (ht : t.val ≠ 0) (d) : (dat1 a1 V hT c).before (8 : Fin 10) t d = (stT a1 V hT t.val).o14 := by
  refine (before1_out a1 V hT c 8 (.inr (.inl rfl)) rfl (fun _ _ => rfl) (fun _ _ => rfl) (fun t ht hi => ?_) t ht d).trans ?_
  · show (stT a1 V hT (t.val + 1)).o14 = (stT a1 V hT (t.val - 1 + 1)).o14
    rw [pred_eq a1 t ht, stT_succ]
    exact idle8 a1 V hT t hi _
  · show (stT a1 V hT (t.val - 1 + 1)).o14 = _
    rw [pred_eq a1 t ht]
theorem before1_9 (c : Dev nD) (t : Fin (cfg1 a1).N) (ht : t.val ≠ 0) (d) : (dat1 a1 V hT c).before (9 : Fin 10) t d = (stT a1 V hT t.val).o15 := by
  refine (before1_out a1 V hT c 9 (.inr (.inr rfl)) rfl (fun _ _ => rfl) (fun _ _ => rfl) (fun t ht hi => ?_) t ht d).trans ?_
  · show (stT a1 V hT (t.val + 1)).o15 = (stT a1 V hT (t.val - 1 + 1)).o15
    rw [pred_eq a1 t ht, stT_succ]
    exact (idle7 a1 V hT t hi _).2
  · show (stT a1 V hT (t.val - 1 + 1)).o15 = _
    rw [pred_eq a1 t ht]

/-- What the body met, stepped, is the recursion after the point. -/
theorem step_met (c : Dev nD) (t : Fin (cfg1 a1).N) (d7) (d8) (d9) (l : Vec F S32x896 .fp8e4m3) (hl : t.val ≠ 0 → l = (stT a1 V hT t.val).l16) :
    step (grid1.coords t) (X1 a1 V t) (hT _) ⟨(dat1 a1 V hT c).before (7 : Fin 10) t d7, (dat1 a1 V hT c).before (8 : Fin 10) t d8, (dat1 a1 V hT c).before (9 : Fin 10) t d9, l⟩
      = stT a1 V hT (t.val + 1) := by
  rw [stT_succ]
  by_cases ht : t.val = 0
  · exact step_first _ _ _ _ _ (cond1_first t ht)
  · rw [before1_7 a1 V hT c t ht, before1_8 a1 V hT c t ht, before1_9 a1 V hT c t ht, hl ht]

/-- What the body leaves in a window's buffer is what the pipeline takes it to leave there. -/
theorem leaves_in (c : Dev nD) (w : Fin 10) (t : Fin (cfg1 a1).N) (h : idle1 a1.1 w (grid1.coords t) = false) :
    owns (c : Thread nD τ) (((cfg1 a1).win w).stage ((cfg1 a1).slots t w)) fullShare ((dat1 a1 V hT c).after w t) ⊢ ((dat1 a1 V hT c).leavesExact w t : sProp 𝕄) := by
  unfold Dat.leavesExact
  rw [show (cfg1 a1).idle w ((cfg1 a1).grid.coords t) = false from h]
theorem leaves_out (c : Dev nD) (w : Fin 10) (hw : w = 7 ∨ w = 8 ∨ w = 9) (t : Fin (cfg1 a1).N) (d)
    (h : t.val ≠ 0 → idle1 a1.1 w (grid1.coords t) = true → (dat1 a1 V hT c).before w t d = (dat1 a1 V hT c).after w t) :
    owns (c : Thread nD τ) (((cfg1 a1).win w).stage ((cfg1 a1).slots t w)) fullShare ((dat1 a1 V hT c).after w t) ⊢ ((dat1 a1 V hT c).leavesExact w t : sProp 𝕄) := by
  cases hi : idle1 a1.1 w (grid1.coords t) with
  | false => exact leaves_in a1 V hT c w t hi
  | true =>
    have ht : t.val ≠ 0 := fun h0 => by
      rw [idle_first a1 w t h0 hw] at hi
      exact Bool.false_ne_true hi
    unfold Dat.leavesExact
    rw [show (cfg1 a1).idle w ((cfg1 a1).grid.coords t) = true from hi]
    cases ((cfg1 a1).win w).flush t with
    | true => exact .rfl
    | false =>
      iintro H
      iexists d
      rw [h ht hi]
      iexact H

/-! ## The body obligation -/

/-- The tables as the body's memrefs. -/
theorem tables_owns (c : Dev nD) (v : pre1.Contents (Elt F)) (X : HeadIn F) (e0 : X.el = v 0) (e1 : X.tl = v 1) (e2 : X.lab = v 2) :
    (Pipeline.prefHeld pre1 c (fun _ => fullShare) v : sProp 𝕄)
      = iprop(owns (c : Thread nD τ) (Memref.whole main_arg6) fullShare X.el ∗ owns (c : Thread nD τ) (Memref.whole main_arg7) fullShare X.tl
          ∗ owns (c : Thread nD τ) (Memref.whole main_arg5) fullShare X.lab) := by
  unfold Pipeline.prefHeld
  rw [bigSep_univ_eq_bigSepL [(0 : Fin 3), (1 : Fin 3), (2 : Fin 3)] (by decide) (by decide), e0, e1, e2]
  have g0 := owns_whole (Val := Elt F) (Ix := Unit) (Name := ℕ) (U := UR sig nD τ) (Lvl := ℕ) (c : Thread nD τ) main_arg6 fullShare (v 0)
  have g1 := owns_whole (Val := Elt F) (Ix := Unit) (Name := ℕ) (U := UR sig nD τ) (Lvl := ℕ) (c : Thread nD τ) main_arg7 fullShare (v 1)
  have g2 := owns_whole (Val := Elt F) (Ix := Unit) (Name := ℕ) (U := UR sig nD τ) (Lvl := ℕ) (c : Thread nD τ) main_arg5 fullShare (v 2)
  exact congrArg₂ BIBase.sep g0.symm (congrArg₂ BIBase.sep g1.symm g2.symm)

/-- The kernel body at a point, as the pipeline calls it. -/
abbrev bodyAt1 (t : Fin (cfg1 a1).N) : Prog (TpuEff nD τ sig (Elt F) Λ₀ .tc) PUnit :=
  cc1_head (grid1.coords t) (Memref.whole main_arg6) (Memref.isWhole_whole _) (Memref.whole main_arg7) (Memref.isWhole_whole _) (Memref.whole main_arg5) (Memref.isWhole_whole _)
    (spec1_0.stage ((cfg1 a1).slots t 0)) (hstage1_0 (((cfg1 a1).slots t 0).cast nbuf1_0)) (spec1_1.stage ((cfg1 a1).slots t 1)) (hstage1_1 (((cfg1 a1).slots t 1).cast nbuf1_1)) (spec1_2.stage ((cfg1 a1).slots t 2)) (hstage1_2 (((cfg1 a1).slots t 2).cast nbuf1_2)) (spec1_3.stage ((cfg1 a1).slots t 3)) (hstage1_3 (((cfg1 a1).slots t 3).cast nbuf1_3)) (spec1_4.stage ((cfg1 a1).slots t 4)) (hstage1_4 (((cfg1 a1).slots t 4).cast nbuf1_4)) (spec1_5.stage ((cfg1 a1).slots t 5)) (hstage1_5 (((cfg1 a1).slots t 5).cast nbuf1_5)) (spec1_6.stage ((cfg1 a1).slots t 6)) (hstage1_6 (((cfg1 a1).slots t 6).cast nbuf1_6)) (spec1_7.stage ((cfg1 a1).slots t 7)) (hstage1_7 (((cfg1 a1).slots t 7).cast nbuf1_7)) (spec1_8.stage ((cfg1 a1).slots t 8)) (hstage1_8 (((cfg1 a1).slots t 8).cast nbuf1_8)) (spec1_9.stage ((cfg1 a1).slots t 9)) (hstage1_9 (((cfg1 a1).slots t 9).cast nbuf1_9))
    (Memref.whole cc1_scratch0) (Memref.isWhole_whole _)

theorem defs₀_row1 (t : Fin (cfg1 a1).N) : defs₀ (F := F) .tc (cfg1 a1).body ((cfg1 a1).bodyArgs t ((cfg1 a1).slots t)) = bodyAt1 a1 t := by
  unfold defs₀; rw [Defs.onTc_tc]

/-- The windows' conjunct of the obligation's post, from what the body leaves. -/
theorem leaves_all (c : Dev nD) (t : Fin (cfg1 a1).N) (d7 : ((cfg1 a1).win 7).block.Idx → Elt F ((cfg1 a1).win 7).elt) (d8 : ((cfg1 a1).win 8).block.Idx → Elt F ((cfg1 a1).win 8).elt) (d9 : ((cfg1 a1).win 9).block.Idx → Elt F ((cfg1 a1).win 9).elt) :
    (bigSep Finset.univ fun w : Fin 10 => owns (c : Thread nD τ) (((cfg1 a1).win w).stage ((cfg1 a1).slots t w)) fullShare ((dat1 a1 V hT c).after w t))
      ⊢ (bigSep Finset.univ fun w : Fin 10 => (dat1 a1 V hT c).leavesExact w t : sProp 𝕄) := by
  refine bigSep_mono fun w _ => ?_
  have h7 : t.val ≠ 0 → idle1 a1.1 7 (grid1.coords t) = true → (dat1 a1 V hT c).before (7 : Fin 10) t d7 = (dat1 a1 V hT c).after 7 t := fun ht hi => by
    refine (before1_7 a1 V hT c t ht d7).trans ?_
    show _ = (stT a1 V hT (t.val + 1)).o13
    rw [stT_succ]; exact (idle7 a1 V hT t hi _).1.symm
  have h8 : t.val ≠ 0 → idle1 a1.1 8 (grid1.coords t) = true → (dat1 a1 V hT c).before (8 : Fin 10) t d8 = (dat1 a1 V hT c).after 8 t := fun ht hi => by
    refine (before1_8 a1 V hT c t ht d8).trans ?_
    show _ = (stT a1 V hT (t.val + 1)).o14
    rw [stT_succ]; exact (idle8 a1 V hT t hi _).symm
  have h9 : t.val ≠ 0 → idle1 a1.1 9 (grid1.coords t) = true → (dat1 a1 V hT c).before (9 : Fin 10) t d9 = (dat1 a1 V hT c).after 9 t := fun ht hi => by
    refine (before1_9 a1 V hT c t ht d9).trans ?_
    show _ = (stT a1 V hT (t.val + 1)).o15
    rw [stT_succ]; exact (idle7 a1 V hT t hi _).2.symm
  exact match w with
    | 0 => leaves_in a1 V hT c 0 t rfl
    | 1 => leaves_in a1 V hT c 1 t rfl
    | 2 => leaves_in a1 V hT c 2 t rfl
    | 3 => leaves_in a1 V hT c 3 t rfl
    | 4 => leaves_in a1 V hT c 4 t rfl
    | 5 => leaves_in a1 V hT c 5 t rfl
    | 6 => leaves_in a1 V hT c 6 t rfl
    | 7 => leaves_out a1 V hT c 7 (.inl rfl) t d7 h7
    | 8 => leaves_out a1 V hT c 8 (.inr (.inl rfl)) t d8 h8
    | 9 => leaves_out a1 V hT c 9 (.inr (.inr rfl)) t d9 h9

theorem Phi1_castSucc (c : Dev nD) (t : Fin (cfg1 a1).N) : (dat1 a1 V hT c).Φ t.castSucc = phi1 a1 V hT c t.val := by
  show phi1 a1 V hT c t.castSucc.val = _
  rw [Fin.val_castSucc]
theorem Phi1_succ (c : Dev nD) (t : Fin (cfg1 a1).N) : (dat1 a1 V hT c).Φ t.succ = phi1 a1 V hT c (t.val + 1) := by
  show phi1 a1 V hT c t.succ.val = _
  rw [Fin.val_succ]

/-- The body obligation. -/
theorem body1 (c : Dev nD) : Pipeline.BodyObligation (dat1 a1 V hT c) (defs₀ (F := F)) Variants.none () Set.univ := fun t => by
  rw [defs₀_row1]
  rw [Phi1_castSucc, Phi1_succ]
  unfold phi1
  have hrun := run (F := F) c (grid1.coords t) (Memref.whole main_arg6) (Memref.isWhole_whole _) (Memref.whole main_arg7) (Memref.isWhole_whole _) (Memref.whole main_arg5) (Memref.isWhole_whole _)
    (spec1_0.stage ((cfg1 a1).slots t 0)) (hstage1_0 (((cfg1 a1).slots t 0).cast nbuf1_0)) (spec1_1.stage ((cfg1 a1).slots t 1)) (hstage1_1 (((cfg1 a1).slots t 1).cast nbuf1_1)) (spec1_2.stage ((cfg1 a1).slots t 2)) (hstage1_2 (((cfg1 a1).slots t 2).cast nbuf1_2)) (spec1_3.stage ((cfg1 a1).slots t 3)) (hstage1_3 (((cfg1 a1).slots t 3).cast nbuf1_3)) (spec1_4.stage ((cfg1 a1).slots t 4)) (hstage1_4 (((cfg1 a1).slots t 4).cast nbuf1_4)) (spec1_5.stage ((cfg1 a1).slots t 5)) (hstage1_5 (((cfg1 a1).slots t 5).cast nbuf1_5)) (spec1_6.stage ((cfg1 a1).slots t 6)) (hstage1_6 (((cfg1 a1).slots t 6).cast nbuf1_6)) (spec1_7.stage ((cfg1 a1).slots t 7)) (hstage1_7 (((cfg1 a1).slots t 7).cast nbuf1_7)) (spec1_8.stage ((cfg1 a1).slots t 8)) (hstage1_8 (((cfg1 a1).slots t 8).cast nbuf1_8)) (spec1_9.stage ((cfg1 a1).slots t 9)) (hstage1_9 (((cfg1 a1).slots t 9).cast nbuf1_9))
    (Memref.whole cc1_scratch0) (Memref.isWhole_whole _) (X1 a1 V t)
  rw [tables_owns c a1.1 (X1 a1 V t) rfl rfl rfl]
  rewrite [bigSep_W1 (fun w : Fin 10 => iprop(∃ d, owns (c : Thread nD τ) (((cfg1 a1).win w).stage ((cfg1 a1).slots t w)) fullShare ((dat1 a1 V hT c).before w t d)))]
  unfold rest1
  iintro ⟨⟨⟨He, Ht, Hl⟩, G0, G1, G2, ⟨%l, %hl, Hs⟩⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before1_0 a1 V hT c t d0, before1_1 a1 V hT c t d1, before1_2 a1 V hT c t d2, before1_3 a1 V hT c t d3, before1_4 a1 V hT c t d4, before1_5 a1 V hT c t d5, before1_6 a1 V hT c t d6]
  have hst := step_met a1 V hT c t d7 d8 d9 l hl
  have hlv := leaves_all a1 V hT c t d7 d8 d9
  ihave Hw := (hrun ⟨(dat1 a1 V hT c).before (7 : Fin 10) t d7, (dat1 a1 V hT c).before (8 : Fin 10) t d8, (dat1 a1 V hT c).before (9 : Fin 10) t d9, l⟩ (hT _) Set.univ) $$ [He Ht Hl Hs H0 H1 H2 H3 H4 H5 H6 H7 H8 H9]
  · isplitl [He]; · iexact He
    isplitl [Ht]; · iexact Ht
    isplitl [Hl]; · iexact Hl
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact Hs
  rw [hst]
  ihave Hw' := (wp_wand (Q' := _) _ _ _) $$ Hw
  iapply Hw'
  iintro %a ⟨He, Ht, Hl, H0, H1, H2, H3, H4, H5, H6, H7, H8, H9, Hs⟩
  isplitl [He Ht Hl G0 G1 G2 Hs]
  · isplitl [He Ht Hl]
    · isplitl [He]; · iexact He
      isplitl [Ht]; · iexact Ht
      iexact Hl
    isplitl [G0]; · iexact G0
    isplitl [G1]; · iexact G1
    isplitl [G2]; · iexact G2
    iexists _
    isplitr
    · ipureintro; exact fun _ => rfl
    · iexact Hs
  isplitl [HO]
  · unfold Dat.owesAt Pipeline.owesWithin
    icases HO with ⟨%W, %hW, HO⟩
    iexists W
    isplitr
    · ipureintro
      exact fun _ _ => Or.inl trivial
    · iexact HO
  iapply hlv
  rw [bigSep_W1]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end

end Cert.Kernel.Hand

end
-- ==== Proof.Run.lean ====
/- The whole program's run: the two calls' proof data put between the host stretches, and the launch. Given that the
   tables admit the head's pipeline and its body's addresses, every execution ends with the arguments as launched, the
   counters at zero and the three results at the last valuation's. -/
module

public import proofs.«01_k».proof.Proof.Region1
public import proofs.«01_k».proof.Proof.Gen.Kernel.Regions

@[expose] public section

set_option maxHeartbeats 1000000
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg afterRegion)

variable {F : FTy → Type} [FloatOps F]

local notation "𝕄" => MT nD τ sig Unit (Elt F) ℕ (UR sig nD τ) ℕ

variable (m : (ℓ : Loc nD τ sig) → Buf (Elt F) ℓ)

/-! ## What the calls leave -/

/-- The head's tables as launched. -/
def tabs : pre1.Contents (Elt F) := fun k => m ((((0 : Dev nD) : Thread nD τ)).loc (pre1.ref k))

/-- The contents of the buffers after the first call (for the head's entry). -/
def outs8 : Outs (F := F) := fun _ r c => afterRegion (dat0 (V7 m c) c) (V7 m c) (Proc.devRef .tc r)

variable (hok : (ok1 (F := F)) (tabs m))

/-- The head's admitted tables. -/
def adm1 : (pcfg1 (F := F)).Adm := ⟨tabs m, hok⟩

variable (hT : TabsOK (adm1 m hok))

/-- The head's proof data on a core. -/
abbrev datH (c : Dev nD) : Dat τ (Elt F) Unit ℕ (UR sig nD τ) ℕ (cfg1 (adm1 m hok)) c := dat1 (adm1 m hok) (V11 m (outs8 m) c) hT c

/-- What the two calls leave. -/
def outsF : Outs (F := F) := fun k r c =>
  if k = 8 then afterRegion (dat0 (V7 m c) c) (V7 m c) (Proc.devRef .tc r)
  else afterRegion (datH m hok hT c) (V11 m (outs8 m) c) (Proc.devRef .tc r)

theorem outsF_8 (r) (c : Dev nD) : outsF m hok hT 8 r c = outs8 m 8 r c := if_pos rfl
theorem outsF_12 (r) (c : Dev nD) : outsF m hok hT 12 r c = afterRegion (datH m hok hT c) (V11 m (outs8 m) c) (Proc.devRef .tc r) := if_neg (by decide)

theorem V8_outs (c : Dev nD) : V8 m (outsF m hok hT) c = V8 m (outs8 m) c := by
  unfold V8; rw [outsF_8]
theorem V11_outs (c : Dev nD) : V11 m (outsF m hok hT) c = V11 m (outs8 m) c := by
  unfold V11 V10 V9; rw [V8_outs]

/-! ## The rest beside the buffers -/

/-- The calls' tables. -/
def aAll : (p : Fin 2) → (pcfgs (F := F) p).Adm
  | 0 => cfg0.toPCfg_adm
  | 1 => adm1 m hok

/-- The calls' proof data. -/
def pdats : (p : Fin 2) → (c : Dev nD) → Dat τ (Elt F) Unit ℕ (UR sig nD τ) ℕ (Pipeline.pin (pcfgs (F := F)) (aAll m hok) p) c
  | 0 => fun c => dat0 (V7 m c) c
  | 1 => fun c => datH m hok hT c

/-- The levels: one index on every TensorCore cell. -/
def Lv : GSem nD τ sig → Finset Unit := fun g => if g.1.2 = .tc then {()} else ∅

/-- Between the items a core owes nothing. -/
def EE : Fin 3 → Dev nD → sProp 𝕄 := fun _ c => iprop(∃ W, owes (c : Thread nD τ) (0 : CellTallies nD τ sig Unit) W)

theorem cut (p : Fin 2) : Pipeline.LevelCut (pcfgs (F := F)) (aAll m hok) () (Lv) (fun _ _ => (0 : ℕ)) p (fun _ => 0) (fun _ => 0) where
  hι c w s := by unfold Lv; rw [if_pos rfl]; exact Finset.mem_singleton_self _
  hιb _ _ _ := le_refl _
  hD _ _ _ h := absurd h (lt_irrefl 0)

/-- The first call's segment. -/
def R0 : RegionSeg (pcfgs (F := F)) (aAll m hok) (pdats m hok hT) () defs₀ Variants.none Lv (fun _ _ => (0 : ℕ)) 0 :=
  Pipeline.RegionSeg.ofHeldIn (pcfgs (F := F)) (aAll m hok) (pdats m hok hT) () defs₀ Variants.none Lv (fun _ _ => (0 : ℕ)) 0 (fun _ => 0)
    (Pipeline.ucRefs τ sig) (fun _ => BI.emp) (fun _ => BI.emp) launch0 rfl
    (fun c => (body0 (V7 m c) c).loose) (fun _ _ => rfl) (fun _ => rfl) (fun _ => Dat.share_full _ fun _ => rfl)
    (fun c => by
      show iprop(Pipeline.scopedRest spec0 c ∗ emp) ⊢ Pipeline.scopedRest spec0 c
      iintro ⟨H, _⟩; iexact H)
    (fun c => by
      show Pipeline.scopedRest spec0 c ⊢ iprop(Pipeline.scopedRest spec0 c ∗ emp)
      iintro H; isplitl [H]; · iexact H
      iempintro)
    (fun _ => 0) (cut m hok 0) (fun _ => BI.emp) (fun c => V7 m c) (fun c w => rfl)

theorem tabs_V11 (c : Dev nD) (k : Fin 3) : tabs m k = V11 m (outs8 m) c (Proc.devRef .tc (pre1.ref k)) := by
  obtain rfl : c = 0 := Subsingleton.elim _ _
  match k with
  | 0 => exact ((V11_of m _ 0 main_arg6 (by decide)).trans <| (V10_of m _ 0 main_arg6 (by decide)).trans <| (V9_of m _ 0 main_arg6 (by decide)).trans <| (V8_of m _ 0 main_arg6 (by decide)).trans <| (V7_of m 0 main_arg6 (by decide)).trans <| (V6_of m 0 main_arg6 (by decide)).trans <| (V5_of m 0 main_arg6 (by decide)).trans <| (V4_of m 0 main_arg6 (by decide)).trans <| (V3_of m 0 main_arg6 (by decide)).trans <| (V2_of m 0 main_arg6 (by decide)).trans <| (V1_of m 0 main_arg6 (by decide))).symm
  | 1 => exact ((V11_of m _ 0 main_arg7 (by decide)).trans <| (V10_of m _ 0 main_arg7 (by decide)).trans <| (V9_of m _ 0 main_arg7 (by decide)).trans <| (V8_of m _ 0 main_arg7 (by decide)).trans <| (V7_of m 0 main_arg7 (by decide)).trans <| (V6_of m 0 main_arg7 (by decide)).trans <| (V5_of m 0 main_arg7 (by decide)).trans <| (V4_of m 0 main_arg7 (by decide)).trans <| (V3_of m 0 main_arg7 (by decide)).trans <| (V2_of m 0 main_arg7 (by decide)).trans <| (V1_of m 0 main_arg7 (by decide))).symm
  | 2 => exact ((V11_of m _ 0 main_arg5 (by decide)).trans <| (V10_of m _ 0 main_arg5 (by decide)).trans <| (V9_of m _ 0 main_arg5 (by decide)).trans <| (V8_of m _ 0 main_arg5 (by decide)).trans <| (V7_of m 0 main_arg5 (by decide)).trans <| (V6_of m 0 main_arg5 (by decide)).trans <| (V5_of m 0 main_arg5 (by decide)).trans <| (V4_of m 0 main_arg5 (by decide)).trans <| (V3_of m 0 main_arg5 (by decide)).trans <| (V2_of m 0 main_arg5 (by decide)).trans <| (V1_of m 0 main_arg5 (by decide))).symm

section
variable (a1 : (pcfg1 (F := F)).Adm) (V : Valuation τ sig (Elt F)) (hT : TabsOK a1)

theorem phi1_in (c : Dev nD) : iprop(iprop(Pipeline.scopedRest spec1 c ∗ emp) ∗ Pipeline.prefHeld pre1 c (fun _ => fullShare) a1.1) ⊢ (phi1 a1 V hT c 0 : sProp 𝕄) := by
  rw [scopedRest1_eq]; unfold phi1 rest1
  iintro ⟨⟨⟨G0, G1, G2, ⟨%f, G3⟩⟩, _⟩, Ht⟩
  isplitl [Ht]; · iexact Ht
  isplitl [G0]; · iexact G0
  isplitl [G1]; · iexact G1
  isplitl [G2]; · iexact G2
  iexists f
  isplitr
  · ipureintro; exact fun h => absurd rfl h
  have e := owns_whole (Val := Elt F) (Ix := Unit) (Name := ℕ) (U := UR sig nD τ) (Lvl := ℕ) (c : Thread nD τ) cc1_scratch0 fullShare f
  rw [e]; iexact G3

theorem phi1_out (c : Dev nD) (n : ℕ) : (phi1 a1 V hT c n : sProp 𝕄) ⊢ iprop(iprop(Pipeline.scopedRest spec1 c ∗ emp) ∗ Pipeline.prefHeld pre1 c (fun _ => fullShare) a1.1) := by
  rw [scopedRest1_eq]; unfold phi1 rest1
  iintro ⟨Ht, G0, G1, G2, ⟨%l, %hl, G3⟩⟩
  isplitr [Ht]
  · isplitl
    · isplitl [G0]; · iexact G0
      isplitl [G1]; · iexact G1
      isplitl [G2]; · iexact G2
      have e := owns_whole (Val := Elt F) (Ix := Unit) (Name := ℕ) (U := UR sig nD τ) (Lvl := ℕ) (c : Thread nD τ) cc1_scratch0 fullShare l
      iexists l
      rw [← e]; iexact G3
    iempintro
  iexact Ht
end

/-- The head's segment. -/
def R1 : RegionSeg (pcfgs (F := F)) (aAll m hok) (pdats m hok hT) () defs₀ Variants.none Lv (fun _ _ => (0 : ℕ)) 1 :=
  Pipeline.RegionSeg.ofHeldInT (pcfgs (F := F)) (aAll m hok) (pdats m hok hT) () defs₀ Variants.none Lv (fun _ _ => (0 : ℕ)) 1 (fun _ => 0)
    (Pipeline.ucRefs τ sig) (fun _ => BI.emp) (fun _ => BI.emp) launch1
    (fun c => (body1 (adm1 m hok) (V11 m (outs8 m) c) hT c).loose) (fun _ _ => rfl) (fun _ => rfl) (fun _ => Dat.share_full _ fun _ => rfl)
    (fun c => phi1_in (adm1 m hok) (V11 m (outs8 m) c) hT c)
    (fun c => phi1_out (adm1 m hok) (V11 m (outs8 m) c) hT c _)
    (fun _ => 0) (cut m hok 1) (fun _ => BI.emp) (fun c => V11 m (outs8 m) c) (fun c w => rfl) (fun c k => tabs_V11 m c k)

theorem devRef_of_uc {b : DevRef τ sig} (hb : b ∈ Pipeline.ucRefs τ sig) : ∃ r : Ref sig .tc, b = Proc.devRef .tc r := by
  obtain ⟨r, -, e⟩ := Finset.mem_map.mp (Finset.mem_filter.mp hb).1
  exact ⟨r, e.symm⟩

theorem isOut0 : ∀ w : Fin 3, (spec0 w).isOut = true → Pipeline.arrRef spec0 w = main_v9 := by decide
theorem isOut1 : ∀ w : Fin 10, (spec1 w).isOut = true → Pipeline.arrRef spec1 w = main_v22_0 ∨ Pipeline.arrRef spec1 w = main_v22_1 ∨ Pipeline.arrRef spec1 w = main_v22_2 := by decide

/-- After the first call the buffers are the next valuation's. -/
theorem after0 (c : Dev nD) : ∀ b ∈ Pipeline.ucRefs τ sig, afterRegion (dat0 (V7 m c) c) (V7 m c) b = V8 m (outs8 m) c b := fun b hb => by
  obtain ⟨r, rfl⟩ := devRef_of_uc hb
  by_cases h : r = main_v9
  · subst h; unfold V8; rw [Function.update_self]; rfl
  · refine (Pipeline.afterRegion_keeps (dat0 (V7 m c) c) (V7 m c) (launch0 (F := F)).win.arr_inj (fun _ => rfl) r fun w hw => ?_).trans
      (Function.update_of_ne (a := (Proc.devRef .tc r : DevRef τ sig)) (fun e => h (Proc.devRef_injective _ e)) _ _).symm
    by_contra hne
    exact h (hw.symm.trans (isOut0 w (Bool.eq_true_of_not_eq_false (b := (spec0 w).isOut) hne)))

/-- After the head's call the buffers are the next valuation's. -/
theorem after1 (c : Dev nD) : ∀ b ∈ Pipeline.ucRefs τ sig, afterRegion (datH m hok hT c) (V11 m (outs8 m) c) b = V12 m (outsF m hok hT) c b := fun b hb => by
  obtain ⟨r, rfl⟩ := devRef_of_uc hb
  unfold V12
  rw [V11_outs, outsF_12, outsF_12, outsF_12]
  by_cases h2 : r = main_v22_2
  · subst h2; rw [Function.update_self]
  rw [Function.update_of_ne (a := (Proc.devRef .tc r : DevRef τ sig)) (fun e => h2 (Proc.devRef_injective _ e))]
  by_cases h1 : r = main_v22_1
  · subst h1; rw [Function.update_self]
  rw [Function.update_of_ne (a := (Proc.devRef .tc r : DevRef τ sig)) (fun e => h1 (Proc.devRef_injective _ e))]
  by_cases h0 : r = main_v22_0
  · subst h0; rw [Function.update_self]
  rw [Function.update_of_ne (a := (Proc.devRef .tc r : DevRef τ sig)) (fun e => h0 (Proc.devRef_injective _ e))]
  refine Pipeline.afterRegion_keeps (datH m hok hT c) (V11 m (outs8 m) c) (launch1 (F := F)).win.arr_inj (fun _ => rfl) r fun w hw => ?_
  by_contra hne
  rcases isOut1 w (Bool.eq_true_of_not_eq_false (b := (spec1 w).isOut) hne) with e | e | e
  · exact h0 (hw.symm.trans e)
  · exact h1 (hw.symm.trans e)
  · exact h2 (hw.symm.trans e)

theorem pre0_met (c : Dev nD) : iprop(StableHlo.held (c : Thread nD τ) (Pipeline.ucRefs τ sig) (V7 m c) ∗ EE (F := F) 0 c) ⊢ (R0 m hok hT).pre c := by
  unfold R0
  refine BIBase.Entails.trans ?_ (Pipeline.RegionSeg.ofHeldIn_pre (Pipeline.arrRefs_sub_ucRefs spec0 (by decide)) c)
  unfold EE
  iintro ⟨Hh, HO⟩
  isplitl [Hh]; · iexact Hh
  isplitl [HO]; · iexact HO
  isplitl <;> iempintro

theorem post0_met (c : Dev nD) : (R0 m hok hT).post c ⊢ iprop(StableHlo.held (c : Thread nD τ) (Pipeline.ucRefs τ sig) (V8 m (outsF m hok hT) c) ∗ EE (F := F) 1 c) := by
  unfold R0
  refine (Pipeline.RegionSeg.ofHeldIn_post (Pipeline.arrRefs_sub_ucRefs spec0 (by decide)) c).trans ?_
  rw [V8_outs]
  have e := StableHlo.held_congr (Ix := Unit) (Name := ℕ) (U := UR sig nD τ) (Lvl := ℕ) (c : Thread nD τ) (after0 m c)
  unfold EE
  iintro ⟨Hh, HO, _⟩
  isplitl [Hh]
  · rw [← e]; iexact Hh
  iexact HO

theorem pre1_met (c : Dev nD) : iprop(StableHlo.held (c : Thread nD τ) (Pipeline.ucRefs τ sig) (V11 m (outsF m hok hT) c) ∗ EE (F := F) 1 c) ⊢ (R1 m hok hT).pre c := by
  unfold R1
  rw [V11_outs]
  refine BIBase.Entails.trans ?_ (Pipeline.RegionSeg.ofHeldInT_pre (Pipeline.arrRefs_sub_ucRefs spec1 (by decide)) (Pipeline.tblRefs_sub_ucRefs pre1 (by decide)) c)
  unfold EE
  iintro ⟨Hh, HO⟩
  isplitl [Hh]; · iexact Hh
  isplitl [HO]; · iexact HO
  isplitl <;> iempintro

theorem post1_met (c : Dev nD) : (R1 m hok hT).post c ⊢ iprop(StableHlo.held (c : Thread nD τ) (Pipeline.ucRefs τ sig) (V12 m (outsF m hok hT) c) ∗ EE (F := F) 2 c) := by
  unfold R1
  refine (Pipeline.RegionSeg.ofHeldInT_post (Pipeline.arrRefs_sub_ucRefs spec1 (by decide)) (Pipeline.tblRefs_sub_ucRefs pre1 (by decide)) c).trans ?_
  have e := StableHlo.held_congr (Ix := Unit) (Name := ℕ) (U := UR sig nD τ) (Lvl := ℕ) (c : Thread nD τ) (after1 m hok hT c)
  unfold EE
  iintro ⟨Hh, HO, _⟩
  isplitl [Hh]
  · rw [← e]; iexact Hh
  iexact HO

end Cert.Kernel.Hand

end
-- ==== Proof.Tables.lean ====
/- The head's tables, in range: the pipeline's blocks lie inside the codes and the body's addresses inside the tables,
   the weights and the results. -/
module

public import proofs.«01_k».proof.Proof.Region1
public import proofs.«01_k».proof.Proof.PreInt
public import Idealize.ShloMosaic.Lib.Affine

@[expose] public section

set_option maxHeartbeats 1000000
set_option maxRecDepth 16384

noncomputable section

namespace Cert.Kernel.Hand

open Cert.Kernel Cert.Kernel.Gen
open Idealize.ShloMosaic Idealize.ShloMosaic.TcCoe Idealize.ShloMosaic.Affine

variable {F : FTy → Type} [FloatOps F]

/-- A word that reads as a number not below zero has that number as its bits. -/
theorem toNat_of {x : BitVec 32} {n : ℤ} (h : IsInt x n) (h0 : 0 ≤ n) : (x.toNat : ℤ) = n := by
  unfold IsInt at h
  have h1 := BitVec.toInt_eq_toNat_cond x
  have h2 := x.isLt
  split at h1 <;> omega

theorem isInt_of {x : BitVec 32} {n : ℤ} (h : x.toInt = n) : IsInt x n := by unfold IsInt; exact h

/-- The row block the pipeline reads at a point, as a word. -/
def blkWord (v1 v8 a1 a2 : BitVec 32) : BitVec 32 :=
  let v9 : BitVec 32 := Scalar.subi v8 1#32
  let v15 : BitVec 32 := Scalar.subi (Scalar.extui (Scalar.cmpi .sgt v9 0#32)) (Scalar.extui (Scalar.cmpi .slt v9 0#32))
  let v20 : BitVec 32 := Scalar.subi (Scalar.extui (Scalar.cmpi .sgt 128#32 0#32)) (Scalar.extui (Scalar.cmpi .slt 128#32 0#32))
  let v10 : BitVec 32 := Scalar.divsi v9 128#32
  let v24 : BitVec 1 := Scalar.andi (Scalar.cmpi .ne v15 v20) (Scalar.cmpi .ne (Scalar.remsi v9 128#32) 0#32)
  Scalar.minsi (Scalar.select (Scalar.cmpi .sle a1 v1) a2 6#32) (Scalar.select v24 (Scalar.subi v10 1#32) v10)

theorem lit {n : ℕ} {e : ℤ} (h : e = n) (hn : n < 2 ^ 31) : IsInt (BitVec.ofNat 32 n) e := Affine.ofNat n ⟨h, hn⟩

theorem blkWord_eq {v1 v8 a1 a2 : BitVec 32} {tl el u tb : ℤ} (h1 : IsInt v1 tl) (h8 : IsInt v8 el) (ha1 : IsInt a1 u) (ha2 : IsInt a2 tb)
    (hel : 1 ≤ el) (hel' : el ≤ 768) : IsInt (blkWord v1 v8 a1 a2) (min (if u ≤ tl then tb else 6) ((el - 1) / 128)) := by
  have c0 : IsInt (0#32) 0 := lit (n := 0) rfl (by decide)
  have c1 : IsInt (1#32) 1 := lit (n := 1) rfl (by decide)
  have c6 : IsInt (6#32) 6 := lit (n := 6) rfl (by decide)
  have c128 : IsInt (128#32) 128 := lit (n := 128) rfl (by decide)
  have h9 : IsInt (Scalar.subi v8 1#32) (el - 1) := Affine.subi h8 c1 ⟨rfl, by omega, by omega⟩
  have h10 : IsInt (Scalar.divsi (Scalar.subi v8 1#32) 128#32) ((el - 1) / 128) := Affine.divsi h9 c128 ⟨rfl, by omega, by omega⟩
  have h22 : IsInt (Scalar.remsi (Scalar.subi v8 1#32) 128#32) ((el - 1) % 128) := Affine.remsi h9 c128 ⟨rfl, by omega, by omega⟩
  have h25 : IsInt (Scalar.subi (Scalar.divsi (Scalar.subi v8 1#32) 128#32) 1#32) ((el - 1) / 128 - 1) := Affine.subi h10 c1 ⟨rfl, by omega, by omega⟩
  have h20 : IsInt (Scalar.subi (Scalar.extui (Scalar.cmpi .sgt 128#32 0#32)) (Scalar.extui (Scalar.cmpi .slt 128#32 0#32))) 1 :=
    Affine.subi (Affine.extui_holds (Affine.sgt_holds c128 c0 (by omega)) rfl) (Affine.extui_fails (Affine.slt_fails c128 c0 (by omega)) rfl) ⟨rfl, by omega, by omega⟩
  have hslt := Affine.extui_fails (Affine.slt_fails h9 c0 (show ¬ (el - 1 < 0) by omega)) rfl
  have h26 : IsInt (Scalar.select (Scalar.andi (Scalar.cmpi .ne (Scalar.subi (Scalar.extui (Scalar.cmpi .sgt (Scalar.subi v8 1#32) 0#32)) (Scalar.extui (Scalar.cmpi .slt (Scalar.subi v8 1#32) 0#32))) (Scalar.subi (Scalar.extui (Scalar.cmpi .sgt 128#32 0#32)) (Scalar.extui (Scalar.cmpi .slt 128#32 0#32)))) (Scalar.cmpi .ne (Scalar.remsi (Scalar.subi v8 1#32) 128#32) 0#32))
      (Scalar.subi (Scalar.divsi (Scalar.subi v8 1#32) 128#32) 1#32) (Scalar.divsi (Scalar.subi v8 1#32) 128#32)) ((el - 1) / 128) := by
    refine Affine.select_fails ?_ h25 h10 rfl
    by_cases hz : 0 < el - 1
    · refine Affine.andi_fails_left (Affine.ne_fails (Affine.subi (e := 1) (Affine.extui_holds (Affine.sgt_holds h9 c0 hz) rfl) hslt ⟨rfl, by omega, by omega⟩) h20 rfl) trivial
    · exact Affine.andi_fails_right trivial (Affine.ne_fails h22 c0 (by omega))
  refine Affine.minsi ?_ h26 rfl
  by_cases hu : u ≤ tl
  · exact Affine.select_holds (Affine.sle_holds ha1 h1 hu) ha2 c6 (if_pos hu)
  · exact Affine.select_fails (Affine.sle_fails ha1 h1 hu) ha2 c6 (if_neg hu)

/-- The tables as words in range. -/
abbrev RangeOK (pf : pre1.Contents (Elt F)) : Prop := Cert.Pre_pre_int.Hand.InRange (pf 2) (pf 0) (pf 1)

theorem wd_idx (T : Vec F S4 .i32) (i : grid1.Coords) : ∃ b : S4.Idx, wd T i = T b := ⟨_, rfl⟩
theorem wdLab_idx (L : Vec F S4x128 .i32) (i : grid1.Coords) (h) : ∃ b : S4x128.Idx, wdLab L i h = L b := ⟨_, rfl⟩

theorem i0_lt (i : grid1.Coords) : (i 0).val < 4 := (i 0).isLt
theorem i1_lt (i : grid1.Coords) : (i 1).val < 129 := (i 1).isLt
theorem i2_lt (i : grid1.Coords) : (i 2).val < 6 := (i 2).isLt

/-- The block the pipeline reads at a point. -/
theorem transform0_eq (pf : pre1.Contents (Elt F)) (hr : RangeOK pf) (i : grid1.Coords) :
    cc1_transform_0 k1_off1_inb numel1_S1 pf i = ![(i 0).val, min (i 1).val (wd (pf 1) i).toNat, min (if (i 1).val ≤ (wd (pf 1) i).toNat then (i 2).val else 6) (((wd (pf 0) i).toNat - 1) / 128), 0] := by
  have e : cc1_transform_0 k1_off1_inb numel1_S1 pf i
      = ![(BitVec.ofNat 32 (i 0).val).toNat, (Scalar.minsi (BitVec.ofNat 32 (i 1).val) (wd (pf 1) i)).toNat,
          (blkWord (wd (pf 1) i) (wd (pf 0) i) (BitVec.ofNat 32 (i 1).val) (BitVec.ofNat 32 (i 2).val)).toNat, (0#32).toNat] := rfl
  have b0 := i0_lt i
  have b1 := i1_lt i
  have b2 := i2_lt i
  obtain ⟨x, hx⟩ := wd_idx (pf 1) i
  obtain ⟨y, hy⟩ := wd_idx (pf 0) i
  rw [e, hx, hy]
  have t1 := hr.tl_ge x
  have t2 := hr.tl_le x
  have l1 := hr.el_ge y
  have l2 := hr.el_le y
  have ht := toNat_of (isInt_of rfl) t1
  have hl := toNat_of (isInt_of rfl) (show (0 : ℤ) ≤ (pf 0 y).toInt by omega)
  have hb1 : IsInt (BitVec.ofNat 32 (i 1).val) ((i 1).val : ℤ) := lit rfl (by omega)
  have hb2 : IsInt (BitVec.ofNat 32 (i 2).val) ((i 2).val : ℤ) := lit rfl (by omega)
  have m1 := Affine.minsi hb1 (isInt_of (x := pf 1 x) rfl) rfl
  have m2 := blkWord_eq (isInt_of (x := pf 1 x) rfl) (isInt_of (x := pf 0 y) rfl) hb1 hb2 l1 l2
  have n1 := toNat_of m1 (by omega)
  have n2 := toNat_of m2 (by split <;> omega)
  have q0 : (BitVec.ofNat 32 (i 0).val).toNat = (i 0).val := by rw [BitVec.toNat_ofNat]; omega
  rw [q0]
  refine congrArg₂ (fun a b : ℕ => ![(i 0).val, a, b, 0]) ?_ ?_
  · omega
  · by_cases h : (i 1).val ≤ (pf 1 x).toNat
    · rw [if_pos h]; rw [if_pos (by omega)] at n2; omega
    · rw [if_neg h]; rw [if_neg (by omega)] at n2; omega

theorem S4x129_size (j : Fin 4) : S4x129x768x896.size j = ![4, 129, 768, 896] j := rfl

/-- The pipeline's blocks are inside the codes. -/
theorem ok1_of (pf : pre1.Contents (Elt F)) (hr : RangeOK pf) : ok1 pf := fun i => by
  have b0 := i0_lt i
  have b1 := i1_lt i
  have b2 := i2_lt i
  obtain ⟨y, hy⟩ := wd_idx (pf 0) i
  have l1 := hr.el_ge y
  have l2 := hr.el_le y
  have hl := toNat_of (isInt_of rfl) (show (0 : ℤ) ≤ (pf 0 y).toInt by omega)
  rw [← hy] at hl
  have hb : ∀ a : Fin 4, (cc1_transform_0 k1_off1_inb numel1_S1 pf i a + 1) * S1x1x128x896.size a ≤ S4x129x768x896.size a := by
    rw [transform0_eq pf hr i]
    intro a
    match a with
    | 0 => show ((i 0).val + 1) * 1 ≤ 4; omega
    | 1 => show (min (i 1).val (wd (pf 1) i).toNat + 1) * 1 ≤ 129; omega
    | 2 =>
      show (min (if (i 1).val ≤ (wd (pf 1) i).toNat then (i 2).val else 6) (((wd (pf 0) i).toNat - 1) / 128) + 1) * 128 ≤ 768
      rw [hy] at hl ⊢
      omega
    | 3 => show (0 + 1) * 896 ≤ 896; omega
  refine ⟨hb, .inr (.inl (.inr ⟨by decide, rfl, .inl ⟨?_, ?_⟩⟩))⟩
  · exact Dvd.dvd.mul_left (by decide : (4 : ℕ) ∣ 128) _
  · exact (by decide : (4 : ℕ) ∣ 128)

theorem ne_ext (c : BitVec 1) : Scalar.cmpi .ne (Scalar.extui c) (0#32) = 1#1 ↔ c = 1#1 := by revert c; decide

theorem coord_toInt {n : ℕ} (h : n < 2 ^ 31) : (BitVec.ofNat 32 n).toInt = (n : ℤ) := by
  have := lit (e := (n : ℤ)) rfl h
  unfold IsInt at this; exact this

theorem cond1_iff (i : grid1.Coords) : k1_cond1 i = 1#1 ↔ ((i 0).val = 0 ∧ (i 1).val = 0) ∧ (i 2).val = 0 := by
  have b0 := i0_lt i
  have b1 := i1_lt i
  have b2 := i2_lt i
  have hz : ∀ n : ℕ, n < 1000 → (Scalar.cmpi .eq (BitVec.ofNat 32 n) (0#32) = 1#1 ↔ n = 0) := fun n hn => by
    refine (IntOp.cmpi_eq (x := BitVec.ofNat 32 n) (y := 0#32)).trans ⟨fun h => ?_, fun h => by rw [h]⟩
    have := congrArg BitVec.toNat h
    rw [BitVec.toNat_ofNat, BitVec.toNat_ofNat] at this
    omega
  unfold k1_cond1
  dsimp only
  rw [ne_ext]
  refine (IntOp.andi_eq_one).trans (and_congr ((IntOp.andi_eq_one).trans (and_congr (hz _ (by omega)) (hz _ (by omega)))) (hz _ (by omega)))

theorem cond2_iff (i : grid1.Coords) (v9 v13 : BitVec 32) : k1_cond2 i v9 v13 = 1#1 ↔ ((i 1).val : ℤ) ≤ v9.toInt ∧ ((i 2).val : ℤ) * 128 < v13.toInt := by
  have b1 := i1_lt i
  have b2 := i2_lt i
  have hm : (Scalar.muli (BitVec.ofNat 32 (i 2).val) 128#32).toInt = ((i 2).val : ℤ) * 128 := by
    have := Affine.muli (lit (e := ((i 2).val : ℤ)) rfl (by omega)) (lit (n := 128) (e := 128) rfl (by decide)) ⟨rfl, by omega, by omega⟩
    unfold IsInt at this; exact this
  unfold k1_cond2
  dsimp only
  rw [ne_ext]
  refine (IntOp.andi_eq_one).trans (and_congr ((IntOp.cmpi_sle).trans ?_) ((IntOp.cmpi_slt).trans ?_))
  · rw [coord_toInt (by omega)]
  · exact (congrArg (fun z : ℤ => z < v13.toInt) hm).to_iff

theorem cond3_iff (i : grid1.Coords) (v : BitVec 32) : k1_cond3 i v = 1#1 ↔ ((i 1).val : ℤ) < v.toInt := by
  have b1 := i1_lt i
  unfold k1_cond3
  dsimp only
  rw [ne_ext]
  refine (IntOp.cmpi_slt).trans ?_
  rw [coord_toInt (by omega)]

/-- The body's addresses are inside the tables, the weights and the results. -/
theorem tabOK_of (el tl : Vec F S4 .i32) (lab : Vec F S4x128 .i32) (hr : Cert.Pre_pre_int.Hand.InRange lab el tl) (i : grid1.Coords) : TabOK el tl lab i := by
  have b0 := i0_lt i
  have b1 := i1_lt i
  have b2 := i2_lt i
  obtain ⟨x, hx⟩ := wd_idx tl i
  obtain ⟨y, hy⟩ := wd_idx el i
  have t1 := hr.tl_ge x
  have t2 := hr.tl_le x
  have l1 := hr.el_ge y
  rw [← hx] at t1 t2
  rw [← hy] at l1
  have h3lt : k1_cond3 i (wd tl i) = 1#1 → (i 1).val < 128 := fun h => by
    have := (cond3_iff i _).mp h
    omega
  have chk : k1_chk1 i (wd tl i) (wd el i) (wd tl i) := by
   refine ⟨fun h2 h3 => ?_, fun h2 h3 => ?_⟩
   · have := h3lt h3
     intro a
     match a with
     | 0 => show (BitVec.ofNat 32 (i 0).val).toNat + 1 ≤ 4; rw [BitVec.toNat_ofNat]; omega
     | 1 => show (BitVec.ofNat 32 (i 1).val).toNat + 1 ≤ 128; rw [BitVec.toNat_ofNat]; omega
   · have := h3lt h3
     rw [show k1_off9 i = ![(i 1).val, 0, 128 * (i 2).val] from k1_off2_eq i]
     intro a
     match a with
     | 0 => show (i 1).val + 1 ≤ 128; omega
     | 1 => show 0 + 4 ≤ 4; omega
     | 2 => show 128 * (i 2).val + 128 ≤ 768; omega
  refine ⟨chk, fun h2 h3 => ⟨fun _ _ => ?_, fun _ _ => ?_⟩, fun h1 => ?_⟩
  · obtain ⟨z, hz⟩ := wdLab_idx lab i (k1_off6_inb i _ _ _ chk h2 h3)
    have z1 := hr.lab_ge z
    have z2 := hr.lab_lt z
    have z3 := toNat_of (isInt_of (x := lab z) rfl) z1
    rw [hz]
    intro a
    match a with
    | 0 => show (lab z).toNat + 1 ≤ 5024; omega
    | 1 => show 0 + 896 ≤ 896; omega
  · obtain ⟨z, hz⟩ := wdLab_idx lab i (k1_off6_inb i _ _ _ chk h2 h3)
    have z1 := hr.lab_ge z
    have z2 := hr.lab_lt z
    have z3 := toNat_of (isInt_of (x := lab z) rfl) z1
    rw [hz]
    intro a
    match a with
    | 0 => show (lab z).toNat + 1 ≤ 5024; omega
    | 1 => show 0 + 128 ≤ 128; omega
  · obtain ⟨⟨-, e1⟩, e2⟩ := (cond1_iff i).mp h1
    exact (cond2_iff i _ _).mpr ⟨by rw [e1]; omega, by rw [e2]; omega⟩

end Cert.Kernel.Hand

end
-- ==== Proof.RunAll.lean ====
/- The launch: the program's run at the two calls' proof data, and the frame that follows. -/
module

public import proofs.«01_k».proof.Proof.Run
public import proofs.«01_k».proof.Proof.Tables

@[expose] public section

set_option maxHeartbeats 1000000
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg afterRegion)

variable {F : FTy → Type} [FloatOps F]

local notation "𝕄" => MT nD τ sig Unit (Elt F) ℕ (UR sig nD τ) ℕ

variable (m : (ℓ : Loc nD τ sig) → Buf (Elt F) ℓ)

theorem hL (g : GSem nD τ sig) (h : g.1.2 ≠ .tc) : Lv g = ∅ := if_neg h

variable (hok : (ok1 (F := F)) (tabs m)) (hT : TabsOK (adm1 m hok))

theorem hu₀ : (ownU (initOf (Pipeline.cells (Pipeline.pin (pcfgs (F := F)) (aAll m hok)) (cellOf_inj (aAll m hok))) (Pipeline.launchToks (Pipeline.pin (pcfgs (F := F)) (aAll m hok)) (cellOf_inj (aAll m hok)))) : sProp 𝕄)
    ⊢ |={Set.univ}=> iprop(BI.own (emb₁ (initOf (Pipeline.cells (Pipeline.pin (pcfgs (F := F)) (aAll m hok)) (cellOf_inj (aAll m hok))) (Pipeline.launchToks (Pipeline.pin (pcfgs (F := F)) (aAll m hok)) (cellOf_inj (aAll m hok))))) ∗ bigSep Finset.univ fun _ : Dev nD => (BI.emp : sProp 𝕄)) := by
  iintro Hu; imodintro
  isplitl [Hu]; · iapply (show (ownU _ : sProp 𝕄) ⊢ BI.own (emb₁ (initOf (Pipeline.cells (Pipeline.pin (pcfgs (F := F)) (aAll m hok)) (cellOf_inj (aAll m hok))) (Pipeline.launchToks (Pipeline.pin (pcfgs (F := F)) (aAll m hok)) (cellOf_inj (aAll m hok))))) from .rfl); iexact Hu
  iapply (show (BI.emp : sProp 𝕄) ⊢ bigSep Finset.univ (fun _ : Dev nD => (BI.emp : sProp 𝕄)) from by rw [BI.bigSep_emp_const])
  iempintro

theorem hE0 (ρ : Dev nD → PrngReg) : iprop((bigSep Finset.univ fun c : Dev nD => iprop(unscopedSems0 c ∗ owes (c : Thread nD τ) (0 : CellTallies nD τ sig Unit) ∅ ∗ Pipeline.launchCred (fun _ => (0 : CellTallies nD τ sig Unit)) c ∗ prngReg c (ρ c) ∗ emp)) ∗ levAts Lv (fun _ _ => (0 : ℕ)))
      ⊢ (|={Set.univ}=> bigSep Finset.univ (EE (F := F) 0) : sProp 𝕄) :=
  Pipeline.initEach (Lv) (fun _ _ => (0 : ℕ)) fun c => by
    unfold EE
    iintro ⟨⟨_, HO, _⟩, _⟩
    imodintro
    iexists ∅
    iexact HO

set_option backward.isDefEq.respectTransparency.types false in
/-- Every execution ends with the buffers at the last valuation, the arguments as launched and the counters at zero. -/
theorem run_main (ρ : Dev nD → PrngReg) :
    θ_run defs (onTc (τ := τ) (main (F := F))) ⟨m, fun _ => 0, ρ⟩ (fun r => (∀ c : Dev nD,
      (∀ b : Ref sig .tc, b.isScoped = false → r.2.mem ((c.tc : Thread nD τ).loc b) = V13 m (outsF m hok hT) c (Proc.devRef .tc b))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine Pipeline.θ_run_regions_kit_dev_sems (pcfgs (F := F)) (aAll m hok) (pdats m hok hT) () (cellOf_inj (aAll m hok)) emb₁ defs₀ Variants.none Lv (fun _ _ => (0 : ℕ)) m ρ main
    (segs m (outsF m hok hT) Variants.none Lv (fun _ _ => (0 : ℕ)) EE () (aAll m hok) (pdats m hok hT) (R0 m hok hT) (R1 m hok hT))
    (fun c Q => by
      rewrite [main_chain c, Seg.run_eq_chain,
        show (segs m (outsF m hok hT) Variants.none Lv (fun _ _ => (0 : ℕ)) EE () (aAll m hok) (pdats m hok hT) (R0 m hok hT) (R1 m hok hT) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) hL (fun _ => BI.emp)
    (initOf (Pipeline.cells (Pipeline.pin (pcfgs (F := F)) (aAll m hok)) (cellOf_inj (aAll m hok))) (Pipeline.launchToks (Pipeline.pin (pcfgs (F := F)) (aAll m hok)) (cellOf_inj (aAll m hok)))) (hu₀ m hok)
    (T₀ := fun c => iprop(StableHlo.held (c : Thread nD τ) (Pipeline.ucRefs τ sig) (V0 m c) ∗ EE (F := F) 0 c))
    (Tₙ := fun c => StableHlo.held (c : Thread nD τ) (Pipeline.ucRefs τ sig) (V13 m (outsF m hok hT) c))
    (hch := fun c => ⟨.rfl, .rfl, .rfl, .rfl, .rfl, .rfl, .rfl, pre0_met m hok hT c, post0_met m hok hT c, .rfl, .rfl, pre1_met m hok hT c, post1_met m hok hT c, sep_mono .rfl .rfl⟩)
    (hinit := ?_) (QY := fun c s => (∀ r : Ref sig .tc, r.isScoped = false → s.mem ((c.tc : Thread nD τ).loc r) = V13 m (outsF m hok hT) c (Proc.devRef .tc r)) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => (0 : CellTallies nD τ sig Unit)) c ∗ prngReg c (ρ c) ∗ emp))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V13 m (outsF m hok hT) c) s') $$ [Hh HSI]
    · isplitl [Hh] <;> iassumption
    icases Hr with ⟨%h, HSI⟩
    imodintro
    isplitr
    · ipureintro
      exact ⟨fun r hr => h (Proc.devRef .tc r) (Finset.mem_filter.mpr ⟨StableHlo.devRef_mem_tcRefs r, fun h' => Bool.false_ne_true (hr.symm.trans h')⟩), (h (Proc.devRef .tc main_arg0) (Finset.mem_filter.mpr ⟨StableHlo.devRef_mem_tcRefs main_arg0, by decide⟩)).trans (V13_main_arg0 m (outsF m hok hT) c),
        (h (Proc.devRef .tc main_arg1) (Finset.mem_filter.mpr ⟨StableHlo.devRef_mem_tcRefs main_arg1, by decide⟩)).trans (V13_main_arg1 m (outsF m hok hT) c),
        (h (Proc.devRef .tc main_arg2) (Finset.mem_filter.mpr ⟨StableHlo.devRef_mem_tcRefs main_arg2, by decide⟩)).trans (V13_main_arg2 m (outsF m hok hT) c),
        (h (Proc.devRef .tc main_arg3) (Finset.mem_filter.mpr ⟨StableHlo.devRef_mem_tcRefs main_arg3, by decide⟩)).trans (V13_main_arg3 m (outsF m hok hT) c),
        (h (Proc.devRef .tc main_arg4) (Finset.mem_filter.mpr ⟨StableHlo.devRef_mem_tcRefs main_arg4, by decide⟩)).trans (V13_main_arg4 m (outsF m hok hT) c),
        (h (Proc.devRef .tc main_arg5) (Finset.mem_filter.mpr ⟨StableHlo.devRef_mem_tcRefs main_arg5, by decide⟩)).trans (V13_main_arg5 m (outsF m hok hT) c),
        (h (Proc.devRef .tc main_arg6) (Finset.mem_filter.mpr ⟨StableHlo.devRef_mem_tcRefs main_arg6, by decide⟩)).trans (V13_main_arg6 m (outsF m hok hT) c),
        (h (Proc.devRef .tc main_arg7) (Finset.mem_filter.mpr ⟨StableHlo.devRef_mem_tcRefs main_arg7, by decide⟩)).trans (V13_main_arg7 m (outsF m hok hT) c)⟩
    · iexact HSI

/-- The tables in range: the run ends with the arguments as launched. -/
theorem frame (hr : RangeOK (tabs m)) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (h.1 c).2, h.2⟩) (run_main m (ok1_of _ hr) (fun i => tabOK_of _ _ _ hr i) ρ)

end Cert.Kernel.Hand

end
-- ==== Proof.BodyIdeal.lean ====
/- What one run of the head's body does, as a function of the contents it meets: the values it computes by
   name (`lp` the running maximum and sum over the chunks of the vocabulary, `lse` the log-sum-exp, `blank`,
   `label`, `mean` the slabs it writes), and the state of the three result windows and the label scratch after
   one grid point (`step`). The run itself is symbolic, in the cases of the body's three conditions. -/
module

public import proofs.«01_k».proof.Proof.Gen.KernelIdeal.Skeleton
public import proofs.«01_k».proof.Proof.Gen.KernelIdeal.Loops
public import proofs.«01_k».proof.Proof.Gen.KernelIdeal.Launch
public import Idealize.ShloMosaic.Lib.VecWindow

@[expose] public section

set_option maxHeartbeats 1000000
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The values -/

/-- What the body reads and does not change: the three tables, the block of codes, the scales, the weight, its
    scales, the bias, the weight sums and the mean bias. -/
structure HeadIn (F : FTy → Type) where
  el : Vec F S4 .i32
  tl : Vec F S4 .i32
  lab : Vec F S4x128 .i32
  z : Vec F S1x1x128x896 .fp8e4m3
  zs : Vec F S129x4x768 .f32
  w : Vec F S5024x896 .fp8e4m3
  ws : Vec F S5024x128 .f32
  b2 : Vec F S5024x128 .f32
  wl : Vec F S16x896 .bf16
  bm : Vec F S1x1 .f32

/-- What the body reads and writes: the three results and the scratch that holds the label's row. -/
structure HeadSt (F : FTy → Type) where
  o13 : Vec F S129x4x768 .f32
  o14 : Vec F S128x4x768 .f32
  o15 : Vec F S129x4x768 .f32
  l16 : Vec F S32x896 .fp8e4m3

/-- The grid's first coordinate, as the kernel's word. -/
abbrev a0 (i : grid1.Coords) : BitVec 32 := BitVec.ofNat 32 (i 0).val
/-- The grid's third coordinate, as the kernel's word. -/
abbrev a2 (i : grid1.Coords) : BitVec 32 := BitVec.ofNat 32 (i 2).val

/-- A length table at the grid's first coordinate. -/
abbrev wd (T : Vec F S4 .i32) (i : grid1.Coords) : Elt F .i32 :=
  View.ld (Val := Elt F) (e' := .i32) T (Rect.unit (s := S4) (k1_off1 i) S1.size (k1_off1_inb i)) (Shape.Idx.first (numel1_S1.symm ▸ Nat.one_pos))

/-- A label of the label table. -/
abbrev wdLab (L : Vec F S4x128 .i32) (i : grid1.Coords) (h : ∀ a, (k1_off6 i) a + S1x1.size a ≤ S4x128.size a) : Elt F .i32 :=
  View.ld (Val := Elt F) (e' := .i32) L (Rect.unit (s := S4x128) (k1_off6 i) S1x1.size h) (Shape.Idx.first (numel1_S1x1.symm ▸ Nat.one_pos))

/-- The tables meet what the body assumes of them at a grid point. -/
structure TabOK (el tl : Vec F S4 .i32) (lab : Vec F S4x128 .i32) (i : grid1.Coords) : Prop where
  chk1 : k1_chk1 i (wd tl i) (wd el i) (wd tl i)
  chk2 : ∀ (h2 : k1_cond2 i (wd tl i) (wd el i) = 1#1) (h3 : k1_cond3 i (wd tl i) = 1#1),
    k1_chk2 i (wd tl i) (wd el i) (wd tl i) (wdLab lab i (k1_off6_inb i _ _ _ chk1 h2 h3))
  first : k1_cond1 i = 1#1 → k1_cond2 i (wd tl i) (wd el i) = 1#1

/-- The block of codes, as loaded. -/
abbrev v18 (X : HeadIn F) : Vec F S1x1x128x896 .fp8e4m3 :=
  View.ld (Val := Elt F) (e' := .fp8e4m3) X.z (Rect.unit (s := S1x1x128x896) ![0, 0, 0, 0] S1x1x128x896.size inb_S1x1x128x896_S1x1x128x896_0_0_0_0)
/-- The slab of scales, as loaded. -/
abbrev v22 (i : grid1.Coords) (X : HeadIn F) : Vec F S1x4x128 .f32 :=
  View.ld (Val := Elt F) (e' := .f32) X.zs (Rect.unit (s := S129x4x768) (k1_off2 i) S1x4x128.size (k1_off2_inb i))

/-- The running maximum and the running sum before chunk `k` of the vocabulary. -/
def lp (i : grid1.Coords) (X : HeadIn F) : ℕ → FVec F S1x128 .f32 × FVec F S1x128 .f32
  | 0 => (k1_pay10, k1_pay11)
  | k + 1 =>
    if h : k < k1_t1_loop.trips then
      (k1_pay13 (a0 i) (v18 X) (v22 i X) (lp i X k).1
          (View.ld (Val := Elt F) (e' := .fp8e4m3) X.w (Rect.unit (s := S5024x896) (k1_off3 ⟨k, h⟩) S256x896.size (k1_off3_inb ⟨k, h⟩)))
          (View.ld (Val := Elt F) (e' := .f32) X.ws (Rect.unit (s := S5024x128) (k1_off4 ⟨k, h⟩) S256x128.size (k1_off4_inb ⟨k, h⟩)))
          (View.ld (Val := Elt F) (e' := .f32) X.b2 (Rect.unit (s := S5024x128) (k1_off4 ⟨k, h⟩) S256x128.size (k1_off4_inb ⟨k, h⟩))),
        k1_pay14 (a0 i) (v18 X) (v22 i X) (lp i X k).1 (lp i X k).2
          (View.ld (Val := Elt F) (e' := .fp8e4m3) X.w (Rect.unit (s := S5024x896) (k1_off3 ⟨k, h⟩) S256x896.size (k1_off3_inb ⟨k, h⟩)))
          (View.ld (Val := Elt F) (e' := .f32) X.ws (Rect.unit (s := S5024x128) (k1_off4 ⟨k, h⟩) S256x128.size (k1_off4_inb ⟨k, h⟩)))
          (View.ld (Val := Elt F) (e' := .f32) X.b2 (Rect.unit (s := S5024x128) (k1_off4 ⟨k, h⟩) S256x128.size (k1_off4_inb ⟨k, h⟩))))
    else lp i X k

/-- The last chunk's logits. -/
def tailv (i : grid1.Coords) (X : HeadIn F) : FVec F S160x128 .f32 :=
  k1_pay15 (a0 i) (v18 X) (v22 i X)
    (View.ld (Val := Elt F) (e' := .fp8e4m3) X.w (Rect.unit (s := S5024x896) ![4864, 0] S160x896.size inb_S5024x896_S160x896_4864_0))
    (View.ld (Val := Elt F) (e' := .f32) X.ws (Rect.unit (s := S5024x128) ![4864, 0] S160x128.size inb_S5024x128_S160x128_4864_0))
    (View.ld (Val := Elt F) (e' := .f32) X.b2 (Rect.unit (s := S5024x128) ![4864, 0] S160x128.size inb_S5024x128_S160x128_4864_0))

/-- The log-sum-exp (base two) of the lane block. -/
def lse (i : grid1.Coords) (X : HeadIn F) : FVec F S1x128 .f32 :=
  k1_pay18 (lp i X k1_t1_loop.trips).1 (lp i X k1_t1_loop.trips).2 (tailv i X) k1_pay16 k1_pay17

/-- The row of blank log-probabilities. -/
def blank (i : grid1.Coords) (X : HeadIn F) : FVec F S1x128 .f32 :=
  k1_pay20 (a2 i) (k1_pay7 (v18 X)) (k1_pay9 (a0 i) (v22 i X)) (lp i X k1_t1_loop.trips).1 (lp i X k1_t1_loop.trips).2 (tailv i X) k1_pay16 k1_pay17 (wd X.el i)
    (View.ld (Val := Elt F) (e' := .fp8e4m3) X.w (Rect.unit (s := S5024x896) ![0, 0] S32x896.size inb_S5024x896_S32x896_0_0))
    (View.ld (Val := Elt F) (e' := .f32) X.ws (Rect.unit (s := S5024x128) ![0, 0] S32x128.size inb_S5024x128_S32x128_0_0))
    (View.ld (Val := Elt F) (e' := .f32) X.b2 (Rect.unit (s := S5024x128) ![0, 0] S32x128.size inb_S5024x128_S32x128_0_0))

/-- The slab of the first result, rewritten. -/
def slab13 (i : grid1.Coords) (X : HeadIn F) (o : Vec F S129x4x768 .f32) : FVec F S1x4x128 .f32 :=
  k1_pay21 (a0 i) (blank i X) (View.ld (Val := Elt F) (e' := .f32) o (Rect.unit (s := S129x4x768) (k1_off2 i) S1x4x128.size (k1_off2_inb i)))

/-- The slab of the third result, rewritten. -/
def slab15 (i : grid1.Coords) (X : HeadIn F) (o : Vec F S129x4x768 .f32) : FVec F S1x4x128 .f32 :=
  k1_pay22 (a0 i) (k1_pay7 (v18 X)) (k1_pay8 (a0 i) (v22 i X)) (k1_pay19 (a2 i) (wd X.el i))
    (View.ld (Val := Elt F) (e' := .bf16) X.wl (Rect.unit (s := S16x896) ![0, 0] S16x896.size inb_S16x896_S16x896_0_0))
    (View.ld (Val := Elt F) (e' := .f32) X.bm (Rect.unit (s := S1x1) ![0, 0] S1x1.size inb_S1x1_S1x1_0_0) (Shape.Idx.first (numel1_S1x1.symm ▸ Nat.one_pos)))
    (View.ld (Val := Elt F) (e' := .f32) o (Rect.unit (s := S129x4x768) (k1_off2 i) S1x4x128.size (k1_off2_inb i)))

/-- The scratch once the label's row of the weight is in its first row. -/
def newL (X : HeadIn F) (v : BitVec 32) (h : ∀ a, (k1_off7 v) a + S1x896.size a ≤ S5024x896.size a) (l : Vec F S32x896 .fp8e4m3) : Vec F S32x896 .fp8e4m3 :=
  VecWindow.put l ![0, 0] S4x896.size
    (updateSlice (View.ld (Val := Elt F) (e' := .fp8e4m3) l (Rect.unit (s := S32x896) ![0, 0] S4x896.size inb_S32x896_S4x896_0_0))
      (k1_pay5 (View.ld (Val := Elt F) (e' := .fp8e4m3) X.w (Rect.unit (s := S5024x896) (k1_off7 v) S1x896.size h)))
      ![0, 0] slices_S4x896_S1x896_0_0)

/-- The slab of the second result, rewritten. -/
def slab14 (i : grid1.Coords) (X : HeadIn F) (v : BitVec 32) (h7 : ∀ a, (k1_off7 v) a + S1x896.size a ≤ S5024x896.size a)
    (h8 : ∀ a, (k1_off8 v) a + S1x128.size a ≤ S5024x128.size a) (h9 : ∀ a, (k1_off9 i) a + S1x4x128.size a ≤ S128x4x768.size a)
    (o : Vec F S128x4x768 .f32) (l : Vec F S32x896 .fp8e4m3) : FVec F S1x4x128 .f32 :=
  k1_pay6 i (k1_pay7 (v18 X)) (k1_pay9 (a0 i) (v22 i X)) (lse i X) (k1_pay19 (a2 i) (wd X.el i))
    (View.ld (Val := Elt F) (e' := .fp8e4m3) (newL X v h7 l) (Rect.unit (s := S32x896) ![0, 0] S32x896.size inb_S32x896_S32x896_0_0))
    (View.ld (Val := Elt F) (e' := .f32) X.ws (Rect.unit (s := S5024x128) (k1_off8 v) S1x128.size h8))
    (View.ld (Val := Elt F) (e' := .f32) X.b2 (Rect.unit (s := S5024x128) (k1_off8 v) S1x128.size h8))
    (View.ld (Val := Elt F) (e' := .f32) o (Rect.unit (s := S128x4x768) (k1_off9 i) S1x4x128.size h9))

/-- The state once the first grid point has zeroed it. -/
def start (i : grid1.Coords) (S : HeadSt F) : HeadSt F :=
  if k1_cond1 i = 1#1 then ⟨k1_pay1, k1_pay2, k1_pay3, k1_pay4⟩ else S

/-- The state after the label's part. -/
def lblStep (i : grid1.Coords) (X : HeadIn F) (hT : TabOK X.el X.tl X.lab i) (h2 : k1_cond2 i (wd X.tl i) (wd X.el i) = 1#1) (S : HeadSt F) : HeadSt F :=
  if h3 : k1_cond3 i (wd X.tl i) = 1#1 then
    ⟨S.o13,
      VecWindow.put S.o14 (k1_off9 i) S1x4x128.size
        (slab14 i X (wdLab X.lab i (k1_off6_inb i _ _ _ hT.chk1 h2 h3)) (k1_off7_inb i _ _ _ _ (hT.chk2 h2 h3) h2 h3) (k1_off8_inb i _ _ _ _ (hT.chk2 h2 h3) h2 h3)
          (k1_off9_inb i _ _ _ hT.chk1 h2 h3) S.o14 S.l16),
      S.o15,
      newL X (wdLab X.lab i (k1_off6_inb i _ _ _ hT.chk1 h2 h3)) (k1_off7_inb i _ _ _ _ (hT.chk2 h2 h3) h2 h3) S.l16⟩
  else S

/-- The state after a grid point. -/
def step (i : grid1.Coords) (X : HeadIn F) (hT : TabOK X.el X.tl X.lab i) (S : HeadSt F) : HeadSt F :=
  if h2 : k1_cond2 i (wd X.tl i) (wd X.el i) = 1#1 then
    lblStep i X hT h2
      ⟨VecWindow.put (start i S).o13 (k1_off2 i) S1x4x128.size (slab13 i X (start i S).o13), (start i S).o14,
        VecWindow.put (start i S).o15 (k1_off2 i) S1x4x128.size (slab15 i X (start i S).o15), (start i S).l16⟩
  else start i S

instance closedOff_k1_off9 (i : grid1.Coords) : ClosedOff (k1_off9 i) := ⟨![(i 1).val, 0, 128 * (i 2).val], (show k1_off9 i = k1_off2 i from rfl).trans (k1_off2_eq i)⟩

/-! ## The loop's recursion is `lp` -/

section
variable (c : Dev nD) (i : grid1.Coords)
    (M3 : Memref sig .tc .smem S4 .i32) (h3 : M3.IsWhole)
    (M4 : Memref sig .tc .smem S4 .i32) (h4 : M4.IsWhole)
    (M5 : Memref sig .tc .smem S4x128 .i32) (h5 : M5.IsWhole)
    (M6 : Memref sig .tc .vmem S1x1x128x896 .fp8e4m3) (h6 : M6.IsWhole)
    (M7 : Memref sig .tc .vmem S129x4x768 .f32) (h7 : M7.IsWhole)
    (M8 : Memref sig .tc .vmem S5024x896 .fp8e4m3) (h8 : M8.IsWhole)
    (M9 : Memref sig .tc .vmem S5024x128 .f32) (h9 : M9.IsWhole)
    (M10 : Memref sig .tc .vmem S5024x128 .f32) (h10 : M10.IsWhole)
    (M11 : Memref sig .tc .vmem S16x896 .bf16) (h11 : M11.IsWhole)
    (M12 : Memref sig .tc .smem S1x1 .f32) (h12 : M12.IsWhole)
    (M13 : Memref sig .tc .vmem S129x4x768 .f32) (h13 : M13.IsWhole)
    (M14 : Memref sig .tc .vmem S128x4x768 .f32) (h14 : M14.IsWhole)
    (M15 : Memref sig .tc .vmem S129x4x768 .f32) (h15 : M15.IsWhole)
    (M16 : Memref sig .tc .vmem S32x896 .fp8e4m3) (h16 : M16.IsWhole)

set_option maxRecDepth 65536 in
theorem st_eq (f8 : BufTy.Contents (Elt F) M8.view.ty) (f9 : BufTy.Contents (Elt F) M9.view.ty) (f10 : BufTy.Contents (Elt F) M10.view.ty)
    (X : HeadIn F) (e8 : M8.view.read (Elt F) f8 = X.w) (e9 : M9.view.read (Elt F) f9 = X.ws) (e10 : M10.view.read (Elt F) f10 = X.b2) (p1 p2 : BitVec 32) (k : ℕ) :
    st_k1_t1 (F := F) Variants.none c none i M3 h3 M4 h4 M5 h5 M6 h6 M7 h7 M8 h8 M9 h9 M10 h10 M11 h11 M12 h12 M13 h13 M14 h14 M15 h15 M16 h16 (a0 i) p1 p2 (v18 X) (v22 i X) f8 f9 f10 (k1_pay10, k1_pay11) k = lp i X k := by
  induction k with
  | zero => rfl
  | succ k ih =>
    rw [st_k1_t1, ih, lp]
    unfold st_k1_t1Step
    by_cases h : k < k1_t1_loop.trips
    · rw [dif_pos h, dif_pos h]
      unfold tripR_k1_t1 trip_k1_t1
      rw [← e8, ← e9, ← e10]
      rfl
    · rw [dif_neg h, dif_neg h]

/-- What the scratch reads once the label's row is written is `newL`. -/
theorem newL_eq (M8 : Memref sig .tc .vmem S5024x896 .fp8e4m3) (M16 : Memref sig .tc .vmem S32x896 .fp8e4m3) (X : HeadIn F)
    (f16 : BufTy.Contents (Elt F) M16.view.ty) (v : BitVec 32) (h : ∀ a, (k1_off7 v) a + S1x896.size a ≤ S5024x896.size a) :
    newL X v h (M16.view.read (Elt F) f16)
      = M16.view.read (Elt F) (M16.view.writes (Elt F) f16
          [⟨Rect.unit (s := S32x896) ![0, 0] S4x896.size inb_S32x896_S4x896_0_0,
            updateSlice (M16.view.readAt (Elt F) (Rect.unit (s := S32x896) ![0, 0] S4x896.size inb_S32x896_S4x896_0_0).toLoadRect f16)
              (k1_pay5 (View.ld (Val := Elt F) (e' := .fp8e4m3) X.w (Rect.unit (s := S5024x896) (k1_off7 v) S1x896.size h)))
              ![0, 0] slices_S4x896_S1x896_0_0⟩]) := by
  rw [View.read_writes_cons_put _ _ _ _ _ rfl, View.writes_nil]
  rfl

/-- Contents overwritten whole read what was written. -/
theorem full13 (M : Memref sig .tc .vmem S129x4x768 .f32) (f : BufTy.Contents (Elt F) M.view.ty) (w : Vec F S129x4x768 .f32) :
    M.view.read (Elt F) (M.view.writes (Elt F) f [⟨Rect.unit (s := S129x4x768) ![0, 0, 0] S129x4x768.size inb_S129x4x768_S129x4x768_0_0_0, w⟩]) = w :=
  View.read_writes_full _ _ _ _ _

/-- Contents overwritten whole read what was written. -/
theorem full14 (M : Memref sig .tc .vmem S128x4x768 .f32) (f : BufTy.Contents (Elt F) M.view.ty) (w : Vec F S128x4x768 .f32) :
    M.view.read (Elt F) (M.view.writes (Elt F) f [⟨Rect.unit (s := S128x4x768) ![0, 0, 0] S128x4x768.size inb_S128x4x768_S128x4x768_0_0_0, w⟩]) = w :=
  View.read_writes_full _ _ _ _ _

/-- Contents overwritten whole read what was written. -/
theorem full16 (M : Memref sig .tc .vmem S32x896 .fp8e4m3) (f : BufTy.Contents (Elt F) M.view.ty) (w : Vec F S32x896 .fp8e4m3) :
    M.view.read (Elt F) (M.view.writes (Elt F) f [⟨Rect.unit (s := S32x896) ![0, 0] S32x896.size inb_S32x896_S32x896_0_0, w⟩]) = w :=
  View.read_writes_full _ _ _ _ _

end

set_option maxRecDepth 65536 in
/-- The run with the first condition False, the second False. -/
theorem runA (c : Dev nD) (i : grid1.Coords)
    (M3 : Memref sig .tc .smem S4 .i32) (h3 : M3.IsWhole)
    (M4 : Memref sig .tc .smem S4 .i32) (h4 : M4.IsWhole)
    (M5 : Memref sig .tc .smem S4x128 .i32) (h5 : M5.IsWhole)
    (M6 : Memref sig .tc .vmem S1x1x128x896 .fp8e4m3) (h6 : M6.IsWhole)
    (M7 : Memref sig .tc .vmem S129x4x768 .f32) (h7 : M7.IsWhole)
    (M8 : Memref sig .tc .vmem S5024x896 .fp8e4m3) (h8 : M8.IsWhole)
    (M9 : Memref sig .tc .vmem S5024x128 .f32) (h9 : M9.IsWhole)
    (M10 : Memref sig .tc .vmem S5024x128 .f32) (h10 : M10.IsWhole)
    (M11 : Memref sig .tc .vmem S16x896 .bf16) (h11 : M11.IsWhole)
    (M12 : Memref sig .tc .smem S1x1 .f32) (h12 : M12.IsWhole)
    (M13 : Memref sig .tc .vmem S129x4x768 .f32) (h13 : M13.IsWhole)
    (M14 : Memref sig .tc .vmem S128x4x768 .f32) (h14 : M14.IsWhole)
    (M15 : Memref sig .tc .vmem S129x4x768 .f32) (h15 : M15.IsWhole)
    (M16 : Memref sig .tc .vmem S32x896 .fp8e4m3) (h16 : M16.IsWhole)
    (X : HeadIn F) (S : HeadSt F) (hT : TabOK X.el X.tl X.lab i)
    (hc1 : ¬ k1_cond1 i = 1#1) (hc2 : ¬ k1_cond2 i (wd X.tl i) (wd X.el i) = 1#1) (E : Set ℕ) :
    iprop(owns (c : Thread nD τ) M3 fullShare X.el ∗ owns (c : Thread nD τ) M4 fullShare X.tl ∗ owns (c : Thread nD τ) M5 fullShare X.lab ∗ owns (c : Thread nD τ) M6 fullShare X.z ∗ owns (c : Thread nD τ) M7 fullShare X.zs ∗ owns (c : Thread nD τ) M8 fullShare X.w ∗ owns (c : Thread nD τ) M9 fullShare X.ws ∗ owns (c : Thread nD τ) M10 fullShare X.b2 ∗ owns (c : Thread nD τ) M11 fullShare X.wl ∗ owns (c : Thread nD τ) M12 fullShare X.bm ∗ owns (c : Thread nD τ) M13 fullShare S.o13 ∗ owns (c : Thread nD τ) M14 fullShare S.o14 ∗ owns (c : Thread nD τ) M15 fullShare S.o15 ∗ owns (c : Thread nD τ) M16 fullShare S.l16)
      ⊢ wp frame (wpE (defs₀ (F := F)) Variants.none c none) E
          (cc1_head i M3 h3 M4 h4 M5 h5 M6 h6 M7 h7 M8 h8 M9 h9 M10 h10 M11 h11 M12 h12 M13 h13 M14 h14 M15 h15 M16 h16)
          (fun _ => (iprop(owns (c : Thread nD τ) M3 fullShare X.el ∗ owns (c : Thread nD τ) M4 fullShare X.tl ∗ owns (c : Thread nD τ) M5 fullShare X.lab ∗ owns (c : Thread nD τ) M6 fullShare X.z ∗ owns (c : Thread nD τ) M7 fullShare X.zs ∗ owns (c : Thread nD τ) M8 fullShare X.w ∗ owns (c : Thread nD τ) M9 fullShare X.ws ∗ owns (c : Thread nD τ) M10 fullShare X.b2 ∗ owns (c : Thread nD τ) M11 fullShare X.wl ∗ owns (c : Thread nD τ) M12 fullShare X.bm ∗ owns (c : Thread nD τ) M13 fullShare (step i X hT S).o13 ∗ owns (c : Thread nD τ) M14 fullShare (step i X hT S).o14 ∗ owns (c : Thread nD τ) M15 fullShare (step i X hT S).o15 ∗ owns (c : Thread nD τ) M16 fullShare (step i X hT S).l16) : sProp 𝕄)) := by
  obtain ⟨el, tl, lab, z, zs, w, ws, b2, wl, bm⟩ := X
  obtain ⟨o13, o14, o15, l16⟩ := S
  rw [cc1_head_eq_skeleton]; unfold cc1_head_skel owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩
  dsimp only at e3 e4 e5 e6 e7 e8 e9 e10 e11 e12 e13 e14 e15 e16 hT hc2
  subst e3 e4 e5 e6 e7 e8 e9 e10 e11 e12 e13 e14 e15 e16
  sl_exec (disch := first | sl_exact hc1 | sl_exact hc2 | sl_exact hT.chk1)
  sl_step
  isplitl [H3]
  · iexists f3
    isplitr
    · ipureintro; rfl
    · iexact H3
  isplitl [H4]
  · iexists f4
    isplitr
    · ipureintro; rfl
    · iexact H4
  isplitl [H5]
  · iexists f5
    isplitr
    · ipureintro; rfl
    · iexact H5
  isplitl [H6]
  · iexists f6
    isplitr
    · ipureintro; rfl
    · iexact H6
  isplitl [H7]
  · iexists f7
    isplitr
    · ipureintro; rfl
    · iexact H7
  isplitl [H8]
  · iexists f8
    isplitr
    · ipureintro; rfl
    · iexact H8
  isplitl [H9]
  · iexists f9
    isplitr
    · ipureintro; rfl
    · iexact H9
  isplitl [H10]
  · iexists f10
    isplitr
    · ipureintro; rfl
    · iexact H10
  isplitl [H11]
  · iexists f11
    isplitr
    · ipureintro; rfl
    · iexact H11
  isplitl [H12]
  · iexists f12
    isplitr
    · ipureintro; rfl
    · iexact H12
  isplitl [H13]
  · iexists _
    isplitr; swap
    · iexact H13
    ipureintro
    simp only [step, lblStep, start, if_neg hc1, dif_neg hc2]
  isplitl [H14]
  · iexists _
    isplitr; swap
    · iexact H14
    ipureintro
    simp only [step, lblStep, start, if_neg hc1, dif_neg hc2]
  isplitl [H15]
  · iexists _
    isplitr; swap
    · iexact H15
    ipureintro
    simp only [step, lblStep, start, if_neg hc1, dif_neg hc2]
  · iexists _
    isplitr; swap
    · iexact H16
    ipureintro
    simp only [step, lblStep, start, if_neg hc1, dif_neg hc2]

set_option maxRecDepth 65536 in
/-- The run with the first condition False, the second True, the third False. -/
theorem runB (c : Dev nD) (i : grid1.Coords)
    (M3 : Memref sig .tc .smem S4 .i32) (h3 : M3.IsWhole)
    (M4 : Memref sig .tc .smem S4 .i32) (h4 : M4.IsWhole)
    (M5 : Memref sig .tc .smem S4x128 .i32) (h5 : M5.IsWhole)
    (M6 : Memref sig .tc .vmem S1x1x128x896 .fp8e4m3) (h6 : M6.IsWhole)
    (M7 : Memref sig .tc .vmem S129x4x768 .f32) (h7 : M7.IsWhole)
    (M8 : Memref sig .tc .vmem S5024x896 .fp8e4m3) (h8 : M8.IsWhole)
    (M9 : Memref sig .tc .vmem S5024x128 .f32) (h9 : M9.IsWhole)
    (M10 : Memref sig .tc .vmem S5024x128 .f32) (h10 : M10.IsWhole)
    (M11 : Memref sig .tc .vmem S16x896 .bf16) (h11 : M11.IsWhole)
    (M12 : Memref sig .tc .smem S1x1 .f32) (h12 : M12.IsWhole)
    (M13 : Memref sig .tc .vmem S129x4x768 .f32) (h13 : M13.IsWhole)
    (M14 : Memref sig .tc .vmem S128x4x768 .f32) (h14 : M14.IsWhole)
    (M15 : Memref sig .tc .vmem S129x4x768 .f32) (h15 : M15.IsWhole)
    (M16 : Memref sig .tc .vmem S32x896 .fp8e4m3) (h16 : M16.IsWhole)
    (X : HeadIn F) (S : HeadSt F) (hT : TabOK X.el X.tl X.lab i)
    (hc1 : ¬ k1_cond1 i = 1#1) (hc2 : k1_cond2 i (wd X.tl i) (wd X.el i) = 1#1) (hc3 : ¬ k1_cond3 i (wd X.tl i) = 1#1) (E : Set ℕ) :
    iprop(owns (c : Thread nD τ) M3 fullShare X.el ∗ owns (c : Thread nD τ) M4 fullShare X.tl ∗ owns (c : Thread nD τ) M5 fullShare X.lab ∗ owns (c : Thread nD τ) M6 fullShare X.z ∗ owns (c : Thread nD τ) M7 fullShare X.zs ∗ owns (c : Thread nD τ) M8 fullShare X.w ∗ owns (c : Thread nD τ) M9 fullShare X.ws ∗ owns (c : Thread nD τ) M10 fullShare X.b2 ∗ owns (c : Thread nD τ) M11 fullShare X.wl ∗ owns (c : Thread nD τ) M12 fullShare X.bm ∗ owns (c : Thread nD τ) M13 fullShare S.o13 ∗ owns (c : Thread nD τ) M14 fullShare S.o14 ∗ owns (c : Thread nD τ) M15 fullShare S.o15 ∗ owns (c : Thread nD τ) M16 fullShare S.l16)
      ⊢ wp frame (wpE (defs₀ (F := F)) Variants.none c none) E
          (cc1_head i M3 h3 M4 h4 M5 h5 M6 h6 M7 h7 M8 h8 M9 h9 M10 h10 M11 h11 M12 h12 M13 h13 M14 h14 M15 h15 M16 h16)
          (fun _ => (iprop(owns (c : Thread nD τ) M3 fullShare X.el ∗ owns (c : Thread nD τ) M4 fullShare X.tl ∗ owns (c : Thread nD τ) M5 fullShare X.lab ∗ owns (c : Thread nD τ) M6 fullShare X.z ∗ owns (c : Thread nD τ) M7 fullShare X.zs ∗ owns (c : Thread nD τ) M8 fullShare X.w ∗ owns (c : Thread nD τ) M9 fullShare X.ws ∗ owns (c : Thread nD τ) M10 fullShare X.b2 ∗ owns (c : Thread nD τ) M11 fullShare X.wl ∗ owns (c : Thread nD τ) M12 fullShare X.bm ∗ owns (c : Thread nD τ) M13 fullShare (step i X hT S).o13 ∗ owns (c : Thread nD τ) M14 fullShare (step i X hT S).o14 ∗ owns (c : Thread nD τ) M15 fullShare (step i X hT S).o15 ∗ owns (c : Thread nD τ) M16 fullShare (step i X hT S).l16) : sProp 𝕄)) := by
  obtain ⟨el, tl, lab, z, zs, w, ws, b2, wl, bm⟩ := X
  obtain ⟨o13, o14, o15, l16⟩ := S
  rw [cc1_head_eq_skeleton]; unfold cc1_head_skel owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩
  dsimp only at e3 e4 e5 e6 e7 e8 e9 e10 e11 e12 e13 e14 e15 e16 hT hc2 hc3
  subst e3 e4 e5 e6 e7 e8 e9 e10 e11 e12 e13 e14 e15 e16
  sl_exec (disch := first | sl_exact hc1 | sl_exact hc2 | sl_exact hc3 | sl_exact hT.chk1)
  sl_step
  isplitl [H3]
  · iexists f3
    isplitr
    · ipureintro; rfl
    · iexact H3
  isplitl [H4]
  · iexists f4
    isplitr
    · ipureintro; rfl
    · iexact H4
  isplitl [H5]
  · iexists f5
    isplitr
    · ipureintro; rfl
    · iexact H5
  isplitl [H6]
  · iexists f6
    isplitr
    · ipureintro; rfl
    · iexact H6
  isplitl [H7]
  · iexists f7
    isplitr
    · ipureintro; rfl
    · iexact H7
  isplitl [H8]
  · iexists f8
    isplitr
    · ipureintro; rfl
    · iexact H8
  isplitl [H9]
  · iexists f9
    isplitr
    · ipureintro; rfl
    · iexact H9
  isplitl [H10]
  · iexists f10
    isplitr
    · ipureintro; rfl
    · iexact H10
  isplitl [H11]
  · iexists f11
    isplitr
    · ipureintro; rfl
    · iexact H11
  isplitl [H12]
  · iexists f12
    isplitr
    · ipureintro; rfl
    · iexact H12
  isplitl [H13]
  · iexists _
    isplitr; swap
    · iexact H13
    ipureintro
    simp only [step, lblStep, start, if_neg hc1, dif_pos hc2, dif_neg hc3]
    rw [View.read_writes_cons_put _ _ _ _ _ rfl, View.writes_nil]
    unfold slab13 blank tailv
    rw [← st_eq c i M3 h3 M4 h4 M5 h5 M6 h6 M7 h7 M8 h8 M9 h9 M10 h10 M11 h11 M12 h12 M13 h13 M14 h14 M15 h15 M16 h16 f8 f9 f10 _ rfl rfl rfl (BitVec.ofNat 32 (i 1).val) (Scalar.muli (BitVec.ofNat 32 (i 2).val) 128#32)]
    rfl
  isplitl [H14]
  · iexists _
    isplitr; swap
    · iexact H14
    ipureintro
    simp only [step, lblStep, start, if_neg hc1, dif_pos hc2, dif_neg hc3]
  isplitl [H15]
  · iexists _
    isplitr; swap
    · iexact H15
    ipureintro
    simp only [step, lblStep, start, if_neg hc1, dif_pos hc2, dif_neg hc3]
    rw [View.read_writes_cons_put _ _ _ _ _ rfl, View.writes_nil]
    unfold slab15
    rfl
  · iexists _
    isplitr; swap
    · iexact H16
    ipureintro
    simp only [step, lblStep, start, if_neg hc1, dif_pos hc2, dif_neg hc3]

set_option maxRecDepth 65536 in
/-- The run with the first condition False, the second True, the third True. -/
theorem runC (c : Dev nD) (i : grid1.Coords)
    (M3 : Memref sig .tc .smem S4 .i32) (h3 : M3.IsWhole)
    (M4 : Memref sig .tc .smem S4 .i32) (h4 : M4.IsWhole)
    (M5 : Memref sig .tc .smem S4x128 .i32) (h5 : M5.IsWhole)
    (M6 : Memref sig .tc .vmem S1x1x128x896 .fp8e4m3) (h6 : M6.IsWhole)
    (M7 : Memref sig .tc .vmem S129x4x768 .f32) (h7 : M7.IsWhole)
    (M8 : Memref sig .tc .vmem S5024x896 .fp8e4m3) (h8 : M8.IsWhole)
    (M9 : Memref sig .tc .vmem S5024x128 .f32) (h9 : M9.IsWhole)
    (M10 : Memref sig .tc .vmem S5024x128 .f32) (h10 : M10.IsWhole)
    (M11 : Memref sig .tc .vmem S16x896 .bf16) (h11 : M11.IsWhole)
    (M12 : Memref sig .tc .smem S1x1 .f32) (h12 : M12.IsWhole)
    (M13 : Memref sig .tc .vmem S129x4x768 .f32) (h13 : M13.IsWhole)
    (M14 : Memref sig .tc .vmem S128x4x768 .f32) (h14 : M14.IsWhole)
    (M15 : Memref sig .tc .vmem S129x4x768 .f32) (h15 : M15.IsWhole)
    (M16 : Memref sig .tc .vmem S32x896 .fp8e4m3) (h16 : M16.IsWhole)
    (X : HeadIn F) (S : HeadSt F) (hT : TabOK X.el X.tl X.lab i)
    (hc1 : ¬ k1_cond1 i = 1#1) (hc2 : k1_cond2 i (wd X.tl i) (wd X.el i) = 1#1) (hc3 : k1_cond3 i (wd X.tl i) = 1#1) (E : Set ℕ) :
    iprop(owns (c : Thread nD τ) M3 fullShare X.el ∗ owns (c : Thread nD τ) M4 fullShare X.tl ∗ owns (c : Thread nD τ) M5 fullShare X.lab ∗ owns (c : Thread nD τ) M6 fullShare X.z ∗ owns (c : Thread nD τ) M7 fullShare X.zs ∗ owns (c : Thread nD τ) M8 fullShare X.w ∗ owns (c : Thread nD τ) M9 fullShare X.ws ∗ owns (c : Thread nD τ) M10 fullShare X.b2 ∗ owns (c : Thread nD τ) M11 fullShare X.wl ∗ owns (c : Thread nD τ) M12 fullShare X.bm ∗ owns (c : Thread nD τ) M13 fullShare S.o13 ∗ owns (c : Thread nD τ) M14 fullShare S.o14 ∗ owns (c : Thread nD τ) M15 fullShare S.o15 ∗ owns (c : Thread nD τ) M16 fullShare S.l16)
      ⊢ wp frame (wpE (defs₀ (F := F)) Variants.none c none) E
          (cc1_head i M3 h3 M4 h4 M5 h5 M6 h6 M7 h7 M8 h8 M9 h9 M10 h10 M11 h11 M12 h12 M13 h13 M14 h14 M15 h15 M16 h16)
          (fun _ => (iprop(owns (c : Thread nD τ) M3 fullShare X.el ∗ owns (c : Thread nD τ) M4 fullShare X.tl ∗ owns (c : Thread nD τ) M5 fullShare X.lab ∗ owns (c : Thread nD τ) M6 fullShare X.z ∗ owns (c : Thread nD τ) M7 fullShare X.zs ∗ owns (c : Thread nD τ) M8 fullShare X.w ∗ owns (c : Thread nD τ) M9 fullShare X.ws ∗ owns (c : Thread nD τ) M10 fullShare X.b2 ∗ owns (c : Thread nD τ) M11 fullShare X.wl ∗ owns (c : Thread nD τ) M12 fullShare X.bm ∗ owns (c : Thread nD τ) M13 fullShare (step i X hT S).o13 ∗ owns (c : Thread nD τ) M14 fullShare (step i X hT S).o14 ∗ owns (c : Thread nD τ) M15 fullShare (step i X hT S).o15 ∗ owns (c : Thread nD τ) M16 fullShare (step i X hT S).l16) : sProp 𝕄)) := by
  obtain ⟨el, tl, lab, z, zs, w, ws, b2, wl, bm⟩ := X
  obtain ⟨o13, o14, o15, l16⟩ := S
  rw [cc1_head_eq_skeleton]; unfold cc1_head_skel owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩
  dsimp only at e3 e4 e5 e6 e7 e8 e9 e10 e11 e12 e13 e14 e15 e16 hT hc2 hc3
  subst e3 e4 e5 e6 e7 e8 e9 e10 e11 e12 e13 e14 e15 e16
  sl_exec (disch := first | sl_exact hc1 | sl_exact hc2 | sl_exact hc3 | sl_exact hT.chk1 | sl_exact (hT.chk2 hc2 hc3))
  sl_step
  isplitl [H3]
  · iexists f3
    isplitr
    · ipureintro; rfl
    · iexact H3
  isplitl [H4]
  · iexists f4
    isplitr
    · ipureintro; rfl
    · iexact H4
  isplitl [H5]
  · iexists f5
    isplitr
    · ipureintro; rfl
    · iexact H5
  isplitl [H6]
  · iexists f6
    isplitr
    · ipureintro; rfl
    · iexact H6
  isplitl [H7]
  · iexists f7
    isplitr
    · ipureintro; rfl
    · iexact H7
  isplitl [H8]
  · iexists f8
    isplitr
    · ipureintro; rfl
    · iexact H8
  isplitl [H9]
  · iexists f9
    isplitr
    · ipureintro; rfl
    · iexact H9
  isplitl [H10]
  · iexists f10
    isplitr
    · ipureintro; rfl
    · iexact H10
  isplitl [H11]
  · iexists f11
    isplitr
    · ipureintro; rfl
    · iexact H11
  isplitl [H12]
  · iexists f12
    isplitr
    · ipureintro; rfl
    · iexact H12
  isplitl [H13]
  · iexists _
    isplitr; swap
    · iexact H13
    ipureintro
    simp only [step, lblStep, start, if_neg hc1, dif_pos hc2, dif_pos hc3]
    rw [View.read_writes_cons_put _ _ _ _ _ rfl, View.writes_nil]
    unfold slab13 blank tailv
    rw [← st_eq c i M3 h3 M4 h4 M5 h5 M6 h6 M7 h7 M8 h8 M9 h9 M10 h10 M11 h11 M12 h12 M13 h13 M14 h14 M15 h15 M16 h16 f8 f9 f10 _ rfl rfl rfl (BitVec.ofNat 32 (i 1).val) (Scalar.muli (BitVec.ofNat 32 (i 2).val) 128#32)]
    rfl
  isplitl [H14]
  · iexists _
    isplitr; swap
    · iexact H14
    ipureintro
    simp only [step, lblStep, start, if_neg hc1, dif_pos hc2, dif_pos hc3]
    rw [View.read_writes_cons_put _ _ _ _ _ rfl, View.writes_nil]
    unfold slab14 lse tailv
    rw [newL_eq M8 M16]
    rw [← st_eq c i M3 h3 M4 h4 M5 h5 M6 h6 M7 h7 M8 h8 M9 h9 M10 h10 M11 h11 M12 h12 M13 h13 M14 h14 M15 h15 M16 h16 f8 f9 f10 _ rfl rfl rfl (BitVec.ofNat 32 (i 1).val) (Scalar.muli (BitVec.ofNat 32 (i 2).val) 128#32)]
    rfl
  isplitl [H15]
  · iexists _
    isplitr; swap
    · iexact H15
    ipureintro
    simp only [step, lblStep, start, if_neg hc1, dif_pos hc2, dif_pos hc3]
    rw [View.read_writes_cons_put _ _ _ _ _ rfl, View.writes_nil]
    unfold slab15
    rfl
  · iexists _
    isplitr; swap
    · iexact H16
    ipureintro
    simp only [step, lblStep, start, if_neg hc1, dif_pos hc2, dif_pos hc3]
    rw [newL_eq M8 M16]
    rfl

set_option maxRecDepth 65536 in
/-- The run with the first condition True, the second True, the third False. -/
theorem runE (c : Dev nD) (i : grid1.Coords)
    (M3 : Memref sig .tc .smem S4 .i32) (h3 : M3.IsWhole)
    (M4 : Memref sig .tc .smem S4 .i32) (h4 : M4.IsWhole)
    (M5 : Memref sig .tc .smem S4x128 .i32) (h5 : M5.IsWhole)
    (M6 : Memref sig .tc .vmem S1x1x128x896 .fp8e4m3) (h6 : M6.IsWhole)
    (M7 : Memref sig .tc .vmem S129x4x768 .f32) (h7 : M7.IsWhole)
    (M8 : Memref sig .tc .vmem S5024x896 .fp8e4m3) (h8 : M8.IsWhole)
    (M9 : Memref sig .tc .vmem S5024x128 .f32) (h9 : M9.IsWhole)
    (M10 : Memref sig .tc .vmem S5024x128 .f32) (h10 : M10.IsWhole)
    (M11 : Memref sig .tc .vmem S16x896 .bf16) (h11 : M11.IsWhole)
    (M12 : Memref sig .tc .smem S1x1 .f32) (h12 : M12.IsWhole)
    (M13 : Memref sig .tc .vmem S129x4x768 .f32) (h13 : M13.IsWhole)
    (M14 : Memref sig .tc .vmem S128x4x768 .f32) (h14 : M14.IsWhole)
    (M15 : Memref sig .tc .vmem S129x4x768 .f32) (h15 : M15.IsWhole)
    (M16 : Memref sig .tc .vmem S32x896 .fp8e4m3) (h16 : M16.IsWhole)
    (X : HeadIn F) (S : HeadSt F) (hT : TabOK X.el X.tl X.lab i)
    (hc1 : k1_cond1 i = 1#1) (hc2 : k1_cond2 i (wd X.tl i) (wd X.el i) = 1#1) (hc3 : ¬ k1_cond3 i (wd X.tl i) = 1#1) (E : Set ℕ) :
    iprop(owns (c : Thread nD τ) M3 fullShare X.el ∗ owns (c : Thread nD τ) M4 fullShare X.tl ∗ owns (c : Thread nD τ) M5 fullShare X.lab ∗ owns (c : Thread nD τ) M6 fullShare X.z ∗ owns (c : Thread nD τ) M7 fullShare X.zs ∗ owns (c : Thread nD τ) M8 fullShare X.w ∗ owns (c : Thread nD τ) M9 fullShare X.ws ∗ owns (c : Thread nD τ) M10 fullShare X.b2 ∗ owns (c : Thread nD τ) M11 fullShare X.wl ∗ owns (c : Thread nD τ) M12 fullShare X.bm ∗ owns (c : Thread nD τ) M13 fullShare S.o13 ∗ owns (c : Thread nD τ) M14 fullShare S.o14 ∗ owns (c : Thread nD τ) M15 fullShare S.o15 ∗ owns (c : Thread nD τ) M16 fullShare S.l16)
      ⊢ wp frame (wpE (defs₀ (F := F)) Variants.none c none) E
          (cc1_head i M3 h3 M4 h4 M5 h5 M6 h6 M7 h7 M8 h8 M9 h9 M10 h10 M11 h11 M12 h12 M13 h13 M14 h14 M15 h15 M16 h16)
          (fun _ => (iprop(owns (c : Thread nD τ) M3 fullShare X.el ∗ owns (c : Thread nD τ) M4 fullShare X.tl ∗ owns (c : Thread nD τ) M5 fullShare X.lab ∗ owns (c : Thread nD τ) M6 fullShare X.z ∗ owns (c : Thread nD τ) M7 fullShare X.zs ∗ owns (c : Thread nD τ) M8 fullShare X.w ∗ owns (c : Thread nD τ) M9 fullShare X.ws ∗ owns (c : Thread nD τ) M10 fullShare X.b2 ∗ owns (c : Thread nD τ) M11 fullShare X.wl ∗ owns (c : Thread nD τ) M12 fullShare X.bm ∗ owns (c : Thread nD τ) M13 fullShare (step i X hT S).o13 ∗ owns (c : Thread nD τ) M14 fullShare (step i X hT S).o14 ∗ owns (c : Thread nD τ) M15 fullShare (step i X hT S).o15 ∗ owns (c : Thread nD τ) M16 fullShare (step i X hT S).l16) : sProp 𝕄)) := by
  obtain ⟨el, tl, lab, z, zs, w, ws, b2, wl, bm⟩ := X
  obtain ⟨o13, o14, o15, l16⟩ := S
  rw [cc1_head_eq_skeleton]; unfold cc1_head_skel owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩
  dsimp only at e3 e4 e5 e6 e7 e8 e9 e10 e11 e12 e13 e14 e15 e16 hT hc2 hc3
  subst e3 e4 e5 e6 e7 e8 e9 e10 e11 e12 e13 e14 e15 e16
  sl_exec (disch := first | sl_exact hc1 | sl_exact hc2 | sl_exact hc3 | sl_exact hT.chk1)
  sl_step
  isplitl [H3]
  · iexists f3
    isplitr
    · ipureintro; rfl
    · iexact H3
  isplitl [H4]
  · iexists f4
    isplitr
    · ipureintro; rfl
    · iexact H4
  isplitl [H5]
  · iexists f5
    isplitr
    · ipureintro; rfl
    · iexact H5
  isplitl [H6]
  · iexists f6
    isplitr
    · ipureintro; rfl
    · iexact H6
  isplitl [H7]
  · iexists f7
    isplitr
    · ipureintro; rfl
    · iexact H7
  isplitl [H8]
  · iexists f8
    isplitr
    · ipureintro; rfl
    · iexact H8
  isplitl [H9]
  · iexists f9
    isplitr
    · ipureintro; rfl
    · iexact H9
  isplitl [H10]
  · iexists f10
    isplitr
    · ipureintro; rfl
    · iexact H10
  isplitl [H11]
  · iexists f11
    isplitr
    · ipureintro; rfl
    · iexact H11
  isplitl [H12]
  · iexists f12
    isplitr
    · ipureintro; rfl
    · iexact H12
  isplitl [H13]
  · iexists _
    isplitr; swap
    · iexact H13
    ipureintro
    simp only [step, lblStep, start, if_pos hc1, dif_pos hc2, dif_neg hc3]
    rw [← (full13 M13 M13.view.junk (k1_pay1 (F := F)))]
    rw [View.read_writes_cons_put _ _ _ _ _ rfl]
    unfold slab13 blank tailv
    rw [← st_eq c i M3 h3 M4 h4 M5 h5 M6 h6 M7 h7 M8 h8 M9 h9 M10 h10 M11 h11 M12 h12 M13 h13 M14 h14 M15 h15 M16 h16 f8 f9 f10 _ rfl rfl rfl (BitVec.ofNat 32 (i 1).val) (Scalar.muli (BitVec.ofNat 32 (i 2).val) 128#32)]
    rfl
  isplitl [H14]
  · iexists _
    isplitr; swap
    · iexact H14
    ipureintro
    simp only [step, lblStep, start, if_pos hc1, dif_pos hc2, dif_neg hc3]
    exact (full14 M14 M14.view.junk (k1_pay2 (F := F)))
  isplitl [H15]
  · iexists _
    isplitr; swap
    · iexact H15
    ipureintro
    simp only [step, lblStep, start, if_pos hc1, dif_pos hc2, dif_neg hc3]
    rw [← (full13 M15 M15.view.junk (k1_pay3 (F := F)))]
    rw [View.read_writes_cons_put _ _ _ _ _ rfl]
    unfold slab15
    rfl
  · iexists _
    isplitr; swap
    · iexact H16
    ipureintro
    simp only [step, lblStep, start, if_pos hc1, dif_pos hc2, dif_neg hc3]
    exact (full16 M16 M16.view.junk (k1_pay4 (F := F)))

set_option maxRecDepth 65536 in
/-- The run with the first condition True, the second True, the third True. -/
theorem runF (c : Dev nD) (i : grid1.Coords)
    (M3 : Memref sig .tc .smem S4 .i32) (h3 : M3.IsWhole)
    (M4 : Memref sig .tc .smem S4 .i32) (h4 : M4.IsWhole)
    (M5 : Memref sig .tc .smem S4x128 .i32) (h5 : M5.IsWhole)
    (M6 : Memref sig .tc .vmem S1x1x128x896 .fp8e4m3) (h6 : M6.IsWhole)
    (M7 : Memref sig .tc .vmem S129x4x768 .f32) (h7 : M7.IsWhole)
    (M8 : Memref sig .tc .vmem S5024x896 .fp8e4m3) (h8 : M8.IsWhole)
    (M9 : Memref sig .tc .vmem S5024x128 .f32) (h9 : M9.IsWhole)
    (M10 : Memref sig .tc .vmem S5024x128 .f32) (h10 : M10.IsWhole)
    (M11 : Memref sig .tc .vmem S16x896 .bf16) (h11 : M11.IsWhole)
    (M12 : Memref sig .tc .smem S1x1 .f32) (h12 : M12.IsWhole)
    (M13 : Memref sig .tc .vmem S129x4x768 .f32) (h13 : M13.IsWhole)
    (M14 : Memref sig .tc .vmem S128x4x768 .f32) (h14 : M14.IsWhole)
    (M15 : Memref sig .tc .vmem S129x4x768 .f32) (h15 : M15.IsWhole)
    (M16 : Memref sig .tc .vmem S32x896 .fp8e4m3) (h16 : M16.IsWhole)
    (X : HeadIn F) (S : HeadSt F) (hT : TabOK X.el X.tl X.lab i)
    (hc1 : k1_cond1 i = 1#1) (hc2 : k1_cond2 i (wd X.tl i) (wd X.el i) = 1#1) (hc3 : k1_cond3 i (wd X.tl i) = 1#1) (E : Set ℕ) :
    iprop(owns (c : Thread nD τ) M3 fullShare X.el ∗ owns (c : Thread nD τ) M4 fullShare X.tl ∗ owns (c : Thread nD τ) M5 fullShare X.lab ∗ owns (c : Thread nD τ) M6 fullShare X.z ∗ owns (c : Thread nD τ) M7 fullShare X.zs ∗ owns (c : Thread nD τ) M8 fullShare X.w ∗ owns (c : Thread nD τ) M9 fullShare X.ws ∗ owns (c : Thread nD τ) M10 fullShare X.b2 ∗ owns (c : Thread nD τ) M11 fullShare X.wl ∗ owns (c : Thread nD τ) M12 fullShare X.bm ∗ owns (c : Thread nD τ) M13 fullShare S.o13 ∗ owns (c : Thread nD τ) M14 fullShare S.o14 ∗ owns (c : Thread nD τ) M15 fullShare S.o15 ∗ owns (c : Thread nD τ) M16 fullShare S.l16)
      ⊢ wp frame (wpE (defs₀ (F := F)) Variants.none c none) E
          (cc1_head i M3 h3 M4 h4 M5 h5 M6 h6 M7 h7 M8 h8 M9 h9 M10 h10 M11 h11 M12 h12 M13 h13 M14 h14 M15 h15 M16 h16)
          (fun _ => (iprop(owns (c : Thread nD τ) M3 fullShare X.el ∗ owns (c : Thread nD τ) M4 fullShare X.tl ∗ owns (c : Thread nD τ) M5 fullShare X.lab ∗ owns (c : Thread nD τ) M6 fullShare X.z ∗ owns (c : Thread nD τ) M7 fullShare X.zs ∗ owns (c : Thread nD τ) M8 fullShare X.w ∗ owns (c : Thread nD τ) M9 fullShare X.ws ∗ owns (c : Thread nD τ) M10 fullShare X.b2 ∗ owns (c : Thread nD τ) M11 fullShare X.wl ∗ owns (c : Thread nD τ) M12 fullShare X.bm ∗ owns (c : Thread nD τ) M13 fullShare (step i X hT S).o13 ∗ owns (c : Thread nD τ) M14 fullShare (step i X hT S).o14 ∗ owns (c : Thread nD τ) M15 fullShare (step i X hT S).o15 ∗ owns (c : Thread nD τ) M16 fullShare (step i X hT S).l16) : sProp 𝕄)) := by
  obtain ⟨el, tl, lab, z, zs, w, ws, b2, wl, bm⟩ := X
  obtain ⟨o13, o14, o15, l16⟩ := S
  rw [cc1_head_eq_skeleton]; unfold cc1_head_skel owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩
  dsimp only at e3 e4 e5 e6 e7 e8 e9 e10 e11 e12 e13 e14 e15 e16 hT hc2 hc3
  subst e3 e4 e5 e6 e7 e8 e9 e10 e11 e12 e13 e14 e15 e16
  sl_exec (disch := first | sl_exact hc1 | sl_exact hc2 | sl_exact hc3 | sl_exact hT.chk1 | sl_exact (hT.chk2 hc2 hc3))
  sl_step
  isplitl [H3]
  · iexists f3
    isplitr
    · ipureintro; rfl
    · iexact H3
  isplitl [H4]
  · iexists f4
    isplitr
    · ipureintro; rfl
    · iexact H4
  isplitl [H5]
  · iexists f5
    isplitr
    · ipureintro; rfl
    · iexact H5
  isplitl [H6]
  · iexists f6
    isplitr
    · ipureintro; rfl
    · iexact H6
  isplitl [H7]
  · iexists f7
    isplitr
    · ipureintro; rfl
    · iexact H7
  isplitl [H8]
  · iexists f8
    isplitr
    · ipureintro; rfl
    · iexact H8
  isplitl [H9]
  · iexists f9
    isplitr
    · ipureintro; rfl
    · iexact H9
  isplitl [H10]
  · iexists f10
    isplitr
    · ipureintro; rfl
    · iexact H10
  isplitl [H11]
  · iexists f11
    isplitr
    · ipureintro; rfl
    · iexact H11
  isplitl [H12]
  · iexists f12
    isplitr
    · ipureintro; rfl
    · iexact H12
  isplitl [H13]
  · iexists _
    isplitr; swap
    · iexact H13
    ipureintro
    simp only [step, lblStep, start, if_pos hc1, dif_pos hc2, dif_pos hc3]
    rw [← (full13 M13 M13.view.junk (k1_pay1 (F := F)))]
    rw [View.read_writes_cons_put _ _ _ _ _ rfl]
    unfold slab13 blank tailv
    rw [← st_eq c i M3 h3 M4 h4 M5 h5 M6 h6 M7 h7 M8 h8 M9 h9 M10 h10 M11 h11 M12 h12 M13 h13 M14 h14 M15 h15 M16 h16 f8 f9 f10 _ rfl rfl rfl (BitVec.ofNat 32 (i 1).val) (Scalar.muli (BitVec.ofNat 32 (i 2).val) 128#32)]
    rfl
  isplitl [H14]
  · iexists _
    isplitr; swap
    · iexact H14
    ipureintro
    simp only [step, lblStep, start, if_pos hc1, dif_pos hc2, dif_pos hc3]
    rw [← (full14 M14 M14.view.junk (k1_pay2 (F := F)))]
    rw [View.read_writes_cons_put _ _ _ _ _ rfl]
    unfold slab14 lse tailv
    rw [← (full16 M16 M16.view.junk (k1_pay4 (F := F))), newL_eq M8 M16]
    rw [← st_eq c i M3 h3 M4 h4 M5 h5 M6 h6 M7 h7 M8 h8 M9 h9 M10 h10 M11 h11 M12 h12 M13 h13 M14 h14 M15 h15 M16 h16 f8 f9 f10 _ rfl rfl rfl (BitVec.ofNat 32 (i 1).val) (Scalar.muli (BitVec.ofNat 32 (i 2).val) 128#32)]
    rfl
  isplitl [H15]
  · iexists _
    isplitr; swap
    · iexact H15
    ipureintro
    simp only [step, lblStep, start, if_pos hc1, dif_pos hc2, dif_pos hc3]
    rw [← (full13 M15 M15.view.junk (k1_pay3 (F := F)))]
    rw [View.read_writes_cons_put _ _ _ _ _ rfl]
    unfold slab15
    rfl
  · iexists _
    isplitr; swap
    · iexact H16
    ipureintro
    simp only [step, lblStep, start, if_pos hc1, dif_pos hc2, dif_pos hc3]
    rw [← (full16 M16 M16.view.junk (k1_pay4 (F := F)))]
    rw [newL_eq M8 M16]
    rfl

/-- The body at a grid point, from any state: it leaves `step`. -/
theorem run (c : Dev nD) (i : grid1.Coords)
    (M3 : Memref sig .tc .smem S4 .i32) (h3 : M3.IsWhole)
    (M4 : Memref sig .tc .smem S4 .i32) (h4 : M4.IsWhole)
    (M5 : Memref sig .tc .smem S4x128 .i32) (h5 : M5.IsWhole)
    (M6 : Memref sig .tc .vmem S1x1x128x896 .fp8e4m3) (h6 : M6.IsWhole)
    (M7 : Memref sig .tc .vmem S129x4x768 .f32) (h7 : M7.IsWhole)
    (M8 : Memref sig .tc .vmem S5024x896 .fp8e4m3) (h8 : M8.IsWhole)
    (M9 : Memref sig .tc .vmem S5024x128 .f32) (h9 : M9.IsWhole)
    (M10 : Memref sig .tc .vmem S5024x128 .f32) (h10 : M10.IsWhole)
    (M11 : Memref sig .tc .vmem S16x896 .bf16) (h11 : M11.IsWhole)
    (M12 : Memref sig .tc .smem S1x1 .f32) (h12 : M12.IsWhole)
    (M13 : Memref sig .tc .vmem S129x4x768 .f32) (h13 : M13.IsWhole)
    (M14 : Memref sig .tc .vmem S128x4x768 .f32) (h14 : M14.IsWhole)
    (M15 : Memref sig .tc .vmem S129x4x768 .f32) (h15 : M15.IsWhole)
    (M16 : Memref sig .tc .vmem S32x896 .fp8e4m3) (h16 : M16.IsWhole)
    (X : HeadIn F) (S : HeadSt F) (hT : TabOK X.el X.tl X.lab i) (E : Set ℕ) :
    iprop(owns (c : Thread nD τ) M3 fullShare X.el ∗ owns (c : Thread nD τ) M4 fullShare X.tl ∗ owns (c : Thread nD τ) M5 fullShare X.lab ∗ owns (c : Thread nD τ) M6 fullShare X.z ∗ owns (c : Thread nD τ) M7 fullShare X.zs ∗ owns (c : Thread nD τ) M8 fullShare X.w ∗ owns (c : Thread nD τ) M9 fullShare X.ws ∗ owns (c : Thread nD τ) M10 fullShare X.b2 ∗ owns (c : Thread nD τ) M11 fullShare X.wl ∗ owns (c : Thread nD τ) M12 fullShare X.bm ∗ owns (c : Thread nD τ) M13 fullShare S.o13 ∗ owns (c : Thread nD τ) M14 fullShare S.o14 ∗ owns (c : Thread nD τ) M15 fullShare S.o15 ∗ owns (c : Thread nD τ) M16 fullShare S.l16)
      ⊢ wp frame (wpE (defs₀ (F := F)) Variants.none c none) E
          (cc1_head i M3 h3 M4 h4 M5 h5 M6 h6 M7 h7 M8 h8 M9 h9 M10 h10 M11 h11 M12 h12 M13 h13 M14 h14 M15 h15 M16 h16)
          (fun _ => (iprop(owns (c : Thread nD τ) M3 fullShare X.el ∗ owns (c : Thread nD τ) M4 fullShare X.tl ∗ owns (c : Thread nD τ) M5 fullShare X.lab ∗ owns (c : Thread nD τ) M6 fullShare X.z ∗ owns (c : Thread nD τ) M7 fullShare X.zs ∗ owns (c : Thread nD τ) M8 fullShare X.w ∗ owns (c : Thread nD τ) M9 fullShare X.ws ∗ owns (c : Thread nD τ) M10 fullShare X.b2 ∗ owns (c : Thread nD τ) M11 fullShare X.wl ∗ owns (c : Thread nD τ) M12 fullShare X.bm ∗ owns (c : Thread nD τ) M13 fullShare (step i X hT S).o13 ∗ owns (c : Thread nD τ) M14 fullShare (step i X hT S).o14 ∗ owns (c : Thread nD τ) M15 fullShare (step i X hT S).o15 ∗ owns (c : Thread nD τ) M16 fullShare (step i X hT S).l16) : sProp 𝕄)) := by
  by_cases hc1 : k1_cond1 i = 1#1
  · have hc2 := hT.first hc1
    by_cases hc3 : k1_cond3 i (wd X.tl i) = 1#1
    · exact runF c i M3 h3 M4 h4 M5 h5 M6 h6 M7 h7 M8 h8 M9 h9 M10 h10 M11 h11 M12 h12 M13 h13 M14 h14 M15 h15 M16 h16 X S hT hc1 hc2 hc3 E
    · exact runE c i M3 h3 M4 h4 M5 h5 M6 h6 M7 h7 M8 h8 M9 h9 M10 h10 M11 h11 M12 h12 M13 h13 M14 h14 M15 h15 M16 h16 X S hT hc1 hc2 hc3 E
  · by_cases hc2 : k1_cond2 i (wd X.tl i) (wd X.el i) = 1#1
    · by_cases hc3 : k1_cond3 i (wd X.tl i) = 1#1
      · exact runC c i M3 h3 M4 h4 M5 h5 M6 h6 M7 h7 M8 h8 M9 h9 M10 h10 M11 h11 M12 h12 M13 h13 M14 h14 M15 h15 M16 h16 X S hT hc1 hc2 hc3 E
      · exact runB c i M3 h3 M4 h4 M5 h5 M6 h6 M7 h7 M8 h8 M9 h9 M10 h10 M11 h11 M12 h12 M13 h13 M14 h14 M15 h15 M16 h16 X S hT hc1 hc2 hc3 E
    · exact runA c i M3 h3 M4 h4 M5 h5 M6 h6 M7 h7 M8 h8 M9 h9 M10 h10 M11 h11 M12 h12 M13 h13 M14 h14 M15 h15 M16 h16 X S hT hc1 hc2 E

end Cert.KernelIdeal.Hand
-- ==== Proof.Region0Ideal.lean ====
/- The weight sums' call: its body's run (one grid point: the result zeroed, then seven blocks of lanes, each the
   column sums of the scaled weight), and its pipeline's proof data. -/
module

public import proofs.«01_k».proof.Proof.BodyIdeal
public import proofs.«01_k».proof.Proof.Gen.KernelIdeal.Points
public import proofs.«01_k».proof.Proof.Gen.KernelIdeal.Regions
public import Idealize.ShloMosaic.Lib.Pipeline.RegionArraysTS
public import Idealize.ShloMosaic.Lib.Pipeline.TableIdle
public import Idealize.ShloMosaic.Lib.Pipeline.FrameBody

@[expose] public section

set_option maxHeartbeats 1000000
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F] [Named F]

local notation "𝕄" => MT nD τ sig Unit (Elt F) ℕ (UR sig nD τ) ℕ

/-- The weight scales, as loaded. -/
abbrev wsAll (ws : Vec F S5024x128 .f32) : Vec F S5024x128 .f32 :=
  View.ld (Val := Elt F) (e' := .f32) ws (Rect.unit (s := S5024x128) ![0, 0] S5024x128.size inb_S5024x128_S5024x128_0_0)

/-- One block of lanes added into the sums. -/
def wput (n : ℕ) (h1 : ∀ a, (![0, n] : Fin 2 → ℕ) a + S1x128.size a ≤ S1x896.size a) (h2 : ∀ a, (![0, n] : Fin 2 → ℕ) a + S5024x128.size a ≤ S5024x896.size a)
    (w : Vec F S5024x896 .fp8e4m3) (ws : Vec F S5024x128 .f32) (o : Vec F S1x896 .f32) : Vec F S1x896 .f32 :=
  VecWindow.put o ![0, n] S1x128.size
    (k0_pay4 (View.ld (Val := Elt F) (e' := .f32) o (Rect.unit (s := S1x896) ![0, n] S1x128.size h1))
      (View.ld (Val := Elt F) (e' := .fp8e4m3) w (Rect.unit (s := S5024x896) ![0, n] S5024x128.size h2)) (wsAll ws))

/-- The weight sums. -/
def wsumV (w : Vec F S5024x896 .fp8e4m3) (ws : Vec F S5024x128 .f32) : Vec F S1x896 .f32 :=
  wput 768 inb_S1x896_S1x128_0_768 inb_S5024x896_S5024x128_0_768 w ws
  (wput 640 inb_S1x896_S1x128_0_640 inb_S5024x896_S5024x128_0_640 w ws
  (wput 512 inb_S1x896_S1x128_0_512 inb_S5024x896_S5024x128_0_512 w ws
  (wput 384 inb_S1x896_S1x128_0_384 inb_S5024x896_S5024x128_0_384 w ws
  (wput 256 inb_S1x896_S1x128_0_256 inb_S5024x896_S5024x128_0_256 w ws
  (wput 128 inb_S1x896_S1x128_0_128 inb_S5024x896_S5024x128_0_128 w ws
  (wput 0 inb_S1x896_S1x128_0_0 inb_S5024x896_S5024x128_0_0 w ws k0_pay3))))))

/-- Contents overwritten whole read what was written. -/
theorem fullW (M : Memref sig .tc .vmem S1x896 .f32) (f : BufTy.Contents (Elt F) M.view.ty) (w : Vec F S1x896 .f32) :
    M.view.read (Elt F) (M.view.writes (Elt F) f [⟨Rect.unit (s := S1x896) ![0, 0] S1x896.size inb_S1x896_S1x896_0_0, w⟩]) = w :=
  View.read_writes_full _ _ _ _ _

/-- The grid's one point is the first. -/
theorem cond0 : ∀ i : grid0.Coords, Scalar.cmpi .ne (Scalar.extui (Scalar.cmpi .eq (BitVec.ofNat 32 (i 0).val) 0#32)) 0#32 = 1#1 := by decide

set_option maxRecDepth 65536 in
/-- The body's run: whatever the result's buffer held, it ends at the weight sums. -/
theorem wsumRun (c : Dev nD) (i : grid0.Coords)
    (M1 : Memref sig .tc .vmem S5024x896 .fp8e4m3) (h1 : M1.IsWhole)
    (M2 : Memref sig .tc .vmem S5024x128 .f32) (h2 : M2.IsWhole)
    (M3 : Memref sig .tc .vmem S1x896 .f32) (h3 : M3.IsWhole)
    (w : Vec F S5024x896 .fp8e4m3) (ws : Vec F S5024x128 .f32) (o : Vec F S1x896 .f32) (E : Set ℕ) :
    iprop(owns (c : Thread nD τ) M1 fullShare w ∗ owns (c : Thread nD τ) M2 fullShare ws ∗ owns (c : Thread nD τ) M3 fullShare o)
      ⊢ wp frame (wpE (defs₀ (F := F)) Variants.none c none) E (cc0_wsum i M1 h1 M2 h2 M3 h3)
          (fun _ => (iprop(owns (c : Thread nD τ) M1 fullShare w ∗ owns (c : Thread nD τ) M2 fullShare ws ∗ owns (c : Thread nD τ) M3 fullShare (wsumV w ws)) : sProp 𝕄)) := by
  have hc := cond0 i
  rw [cc0_wsum_eq_skeleton]; unfold cc0_wsum_skel owns
  iintro ⟨⟨%f1, %e1, H1⟩, ⟨%f2, %e2, H2⟩, ⟨%f3, %e3, H3⟩⟩
  subst e1 e2 e3
  sl_exec (disch := first | sl_exact hc)
  sl_step
  isplitl [H1]
  · iexists f1
    isplitr
    · ipureintro; rfl
    · iexact H1
  isplitl [H2]
  · iexists f2
    isplitr
    · ipureintro; rfl
    · iexact H2
  · iexists _
    isplitr; swap
    · iexact H3
    ipureintro
    have k1 : ∀ f, M3.view.read (Elt F) (M3.view.writes (Elt F) f wsumRun.sl.H3_1) = k0_pay3 (F := F) := fun f => fullW M3 f _
    have k2 : ∀ f, M3.view.read (Elt F) (M3.view.writes (Elt F) f (wsumRun.sl.H3_2 c M1 M2 M3 f1 f2)) = (wput 0 inb_S1x896_S1x128_0_0 inb_S5024x896_S5024x128_0_0 (M1.view.read (Elt F) f1) (M2.view.read (Elt F) f2) (k0_pay3 (F := F))) := fun f => by
      unfold wsumRun.sl.H3_2
      rw [View.read_writes_cons_put _ _ _ _ _ rfl, k1 f, ← k1 M3.view.junk]
      rfl
    have k3 : ∀ f, M3.view.read (Elt F) (M3.view.writes (Elt F) f (wsumRun.sl.H3_3 c M1 M2 M3 f1 f2)) = (wput 128 inb_S1x896_S1x128_0_128 inb_S5024x896_S5024x128_0_128 (M1.view.read (Elt F) f1) (M2.view.read (Elt F) f2) (wput 0 inb_S1x896_S1x128_0_0 inb_S5024x896_S5024x128_0_0 (M1.view.read (Elt F) f1) (M2.view.read (Elt F) f2) (k0_pay3 (F := F)))) := fun f => by
      unfold wsumRun.sl.H3_3
      rw [View.read_writes_cons_put _ _ _ _ _ rfl, k2 f, ← k2 M3.view.junk]
      rfl
    have k4 : ∀ f, M3.view.read (Elt F) (M3.view.writes (Elt F) f (wsumRun.sl.H3_4 c M1 M2 M3 f1 f2)) = (wput 256 inb_S1x896_S1x128_0_256 inb_S5024x896_S5024x128_0_256 (M1.view.read (Elt F) f1) (M2.view.read (Elt F) f2) (wput 128 inb_S1x896_S1x128_0_128 inb_S5024x896_S5024x128_0_128 (M1.view.read (Elt F) f1) (M2.view.read (Elt F) f2) (wput 0 inb_S1x896_S1x128_0_0 inb_S5024x896_S5024x128_0_0 (M1.view.read (Elt F) f1) (M2.view.read (Elt F) f2) (k0_pay3 (F := F))))) := fun f => by
      unfold wsumRun.sl.H3_4
      rw [View.read_writes_cons_put _ _ _ _ _ rfl, k3 f, ← k3 M3.view.junk]
      rfl
    have k5 : ∀ f, M3.view.read (Elt F) (M3.view.writes (Elt F) f (wsumRun.sl.H3_5 c M1 M2 M3 f1 f2)) = (wput 384 inb_S1x896_S1x128_0_384 inb_S5024x896_S5024x128_0_384 (M1.view.read (Elt F) f1) (M2.view.read (Elt F) f2) (wput 256 inb_S1x896_S1x128_0_256 inb_S5024x896_S5024x128_0_256 (M1.view.read (Elt F) f1) (M2.view.read (Elt F) f2) (wput 128 inb_S1x896_S1x128_0_128 inb_S5024x896_S5024x128_0_128 (M1.view.read (Elt F) f1) (M2.view.read (Elt F) f2) (wput 0 inb_S1x896_S1x128_0_0 inb_S5024x896_S5024x128_0_0 (M1.view.read (Elt F) f1) (M2.view.read (Elt F) f2) (k0_pay3 (F := F)))))) := fun f => by
      unfold wsumRun.sl.H3_5
      rw [View.read_writes_cons_put _ _ _ _ _ rfl, k4 f, ← k4 M3.view.junk]
      rfl
    have k6 : ∀ f, M3.view.read (Elt F) (M3.view.writes (Elt F) f (wsumRun.sl.H3_6 c M1 M2 M3 f1 f2)) = (wput 512 inb_S1x896_S1x128_0_512 inb_S5024x896_S5024x128_0_512 (M1.view.read (Elt F) f1) (M2.view.read (Elt F) f2) (wput 384 inb_S1x896_S1x128_0_384 inb_S5024x896_S5024x128_0_384 (M1.view.read (Elt F) f1) (M2.view.read (Elt F) f2) (wput 256 inb_S1x896_S1x128_0_256 inb_S5024x896_S5024x128_0_256 (M1.view.read (Elt F) f1) (M2.view.read (Elt F) f2) (wput 128 inb_S1x896_S1x128_0_128 inb_S5024x896_S5024x128_0_128 (M1.view.read (Elt F) f1) (M2.view.read (Elt F) f2) (wput 0 inb_S1x896_S1x128_0_0 inb_S5024x896_S5024x128_0_0 (M1.view.read (Elt F) f1) (M2.view.read (Elt F) f2) (k0_pay3 (F := F))))))) := fun f => by
      unfold wsumRun.sl.H3_6
      rw [View.read_writes_cons_put _ _ _ _ _ rfl, k5 f, ← k5 M3.view.junk]
      rfl
    have k7 : ∀ f, M3.view.read (Elt F) (M3.view.writes (Elt F) f (wsumRun.sl.H3_7 c M1 M2 M3 f1 f2)) = (wput 640 inb_S1x896_S1x128_0_640 inb_S5024x896_S5024x128_0_640 (M1.view.read (Elt F) f1) (M2.view.read (Elt F) f2) (wput 512 inb_S1x896_S1x128_0_512 inb_S5024x896_S5024x128_0_512 (M1.view.read (Elt F) f1) (M2.view.read (Elt F) f2) (wput 384 inb_S1x896_S1x128_0_384 inb_S5024x896_S5024x128_0_384 (M1.view.read (Elt F) f1) (M2.view.read (Elt F) f2) (wput 256 inb_S1x896_S1x128_0_256 inb_S5024x896_S5024x128_0_256 (M1.view.read (Elt F) f1) (M2.view.read (Elt F) f2) (wput 128 inb_S1x896_S1x128_0_128 inb_S5024x896_S5024x128_0_128 (M1.view.read (Elt F) f1) (M2.view.read (Elt F) f2) (wput 0 inb_S1x896_S1x128_0_0 inb_S5024x896_S5024x128_0_0 (M1.view.read (Elt F) f1) (M2.view.read (Elt F) f2) (k0_pay3 (F := F)))))))) := fun f => by
      unfold wsumRun.sl.H3_7
      rw [View.read_writes_cons_put _ _ _ _ _ rfl, k6 f, ← k6 M3.view.junk]
      rfl
    unfold wsumV
    rw [View.read_writes_cons_put _ _ _ _ _ rfl, k7 f3, ← k7 M3.view.junk]
    rfl

/-! ## The pipeline's proof data -/

variable (V : Valuation τ sig (Elt F))

/-- The weight, as staged. -/
abbrev stg00 : Vec F S5024x896 .fp8e4m3 :=
  ((cfg0.win 0).blk t0_0).view.read (Elt F) (V (Proc.devRef .tc (Pipeline.arrRef spec0 0)))
/-- The weight's scales, as staged. -/
abbrev stg01 : Vec F S5024x128 .f32 :=
  ((cfg0.win 1).blk t0_0).view.read (Elt F) (V (Proc.devRef .tc (Pipeline.arrRef spec0 1)))

/-- The proof data: the arrays at the entry contents, the inputs left as staged, the result at the weight sums;
    the invariant the buffers no window stages. -/
def dat0 (c : Dev nD) : Dat τ (Elt F) Unit ℕ (UR sig nD τ) ℕ cfg0 c where
  A w := V (Proc.devRef .tc (Pipeline.arrRef spec0 w))
  after w _ := match w with
    | ⟨0, _⟩ => stg00 V
    | ⟨1, _⟩ => stg01 V
    | ⟨2, _⟩ => wsumV (stg00 V) (stg01 V)
  Φ _ := Pipeline.scopedRest spec0 c
  q _ := fullShare
  owed _ := 0

theorem dat0_A (c : Dev nD) (w : Fin cfg0.W) : (dat0 V c).A w = V (Proc.devRef .tc (Pipeline.arrRef spec0 w)) := by
  dsimp only [dat0]

theorem before00 (c : Dev nD) (d) : (dat0 V c).before 0 t0_0 d = stg00 V := by
  unfold Dat.before; rw [if_pos (fetch0_0 t0_0)]; rfl
theorem before01 (c : Dev nD) (d) : (dat0 V c).before 1 t0_0 d = stg01 V := by
  unfold Dat.before; rw [if_pos (fetch0_1 t0_0)]; rfl

theorem defs₀_row0 (t : Fin cfg0.N) : defs₀ (F := F) .tc cfg0.body (cfg0.bodyArgs t (cfg0.slots t)) = bodyAt0 t := by
  unfold defs₀; rw [Defs.onTc_tc]

/-- The body obligation. -/
theorem body0 (c : Dev nD) : Pipeline.BodyObligation (dat0 V c) (defs₀ (F := F)) Variants.none () Set.univ := fun t => by
  obtain rfl := fin_N0 t
  rw [defs₀_row0, bigSep_W0, bigSep_W0]
  have hrun := wsumRun (F := F) c (grid0.coords t0_0) (st0_0 t0_0) (hstage0_0 ((cfg0.slots t0_0 0).cast nbuf0_0)) (st0_1 t0_0) (hstage0_1 ((cfg0.slots t0_0 1).cast nbuf0_1))
    (st0_2 t0_0) (hstage0_2 ((cfg0.slots t0_0 2).cast nbuf0_2)) (stg00 V) (stg01 V)
  iintro ⟨HΦ, HO, ⟨%d0, H0⟩, ⟨%d1, H1⟩, ⟨%d2, H2⟩⟩
  rw [before00, before01]
  ihave Hw := (hrun _ Set.univ) $$ [H0 H1 H2]
  · isplitl [H0]; · iexact H0
    isplitl [H1]; · iexact H1
    iexact H2
  ihave Hw' := (wp_wand (Q' := _) _ _ _) $$ Hw
  iapply Hw'
  iintro %a ⟨H0, H1, H2⟩
  rw [show (dat0 V c).Φ t0_0.succ = (dat0 V c).Φ t0_0.castSucc from rfl]
  isplitl [HΦ]; · iexact HΦ
  isplitl [HO]
  · unfold Dat.owesAt Pipeline.owesWithin
    icases HO with ⟨%W, %hW, HO⟩
    iexists W
    isplitr
    · ipureintro
      exact fun _ _ => Or.inl trivial
    · iexact HO
  isplitl [H0]; · iexact H0
  isplitl [H1]; · iexact H1
  iexact H2

end Cert.KernelIdeal.Hand

end
-- ==== Proof.Region1Ideal.lean ====
/- The head's call: its pipeline's proof data. The tables are held by the invariant; the three results are resident
   over the whole grid, so what they hold after a point is one recursion over the points (`stT`), which the idle
   points carry; the scratch row is the recursion's fourth component. -/
module

public import proofs.«01_k».proof.Proof.Region0Ideal

@[expose] public section

set_option maxHeartbeats 1000000
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F] [Named F]

local notation "𝕄" => MT nD τ sig Unit (Elt F) ℕ (UR sig nD τ) ℕ

/-! ## The recursion over the grid points -/

section
variable (a1 : (pcfg1 (F := F)).Adm) (V : Valuation τ sig (Elt F))

/-- A window's block at a point, as staged from the entry contents. -/
abbrev blk1 (w : Fin 10) (t : Fin (cfg1 a1).N) : ((cfg1 a1).win w).block.Idx → Elt F ((cfg1 a1).win w).elt :=
  (((cfg1 a1).win w).blk t).view.read (Elt F) (V (Proc.devRef .tc (Pipeline.arrRef spec1 w)))

/-- What the body reads at a point. -/
def X1 (t : Fin (cfg1 a1).N) : HeadIn F where
  el := a1.1 0
  tl := a1.1 1
  lab := a1.1 2
  z := blk1 a1 V 0 t
  zs := blk1 a1 V 1 t
  w := blk1 a1 V 2 t
  ws := blk1 a1 V 3 t
  b2 := blk1 a1 V 4 t
  wl := blk1 a1 V 5 t
  bm := blk1 a1 V 6 t

/-- The tables meet the body's assumptions at every grid point. -/
abbrev TabsOK : Prop := ∀ i : grid1.Coords, TabOK (F := F) (a1.1 0) (a1.1 1) (a1.1 2) i

variable (hT : TabsOK a1)

/-- The results and the scratch row before point `n`. -/
def stT : ℕ → HeadSt F
  | 0 => ⟨k1_pay1, k1_pay2, k1_pay3, k1_pay4⟩
  | n + 1 => if h : n < (cfg1 a1).N then step (grid1.coords ⟨n, h⟩) (X1 a1 V ⟨n, h⟩) (hT _) (stT n) else stT n

theorem stT_succ (t : Fin (cfg1 a1).N) : stT a1 V hT (t.val + 1) = step (grid1.coords t) (X1 a1 V t) (hT _) (stT a1 V hT t.val) := by
  rw [stT, dif_pos t.isLt]

theorem grid1_pos : 0 < grid1.N := by rw [N_1]; omega
theorem cond1_zero : k1_cond1 (grid1.coords ⟨0, grid1_pos⟩) = 1#1 := by decide

/-- The first point's condition holds at the first point. -/
theorem cond1_first (t : Fin grid1.N) (ht : t.val = 0) : k1_cond1 (grid1.coords t) = 1#1 := by
  obtain ⟨t, h⟩ := t
  obtain rfl : t = 0 := ht
  exact cond1_zero

/-- Where the first point's condition holds the step forgets what it met. -/
theorem step_first (i : grid1.Coords) (X : HeadIn F) (h : TabOK X.el X.tl X.lab i) (S S' : HeadSt F) (h1 : k1_cond1 i = 1#1) :
    step i X h S = step i X h S' := by
  have e : start i S = start i S' := by unfold start; rw [if_pos h1, if_pos h1]
  unfold step
  rw [e]

theorem off1_lt (i : grid1.Coords) (a : Fin 1) : k1_off1 i a + 1 ≤ S4.size a := by
  obtain rfl : a = 0 := Subsingleton.elim _ _
  exact k1_off1_inb i 0

/-- A table's element, however the offsets' bound is read. -/
theorem atD0 (i : grid1.Coords) : a1.1.atD 0 (k1_off1 i) = wd (a1.1 0) i := by
  refine (dif_pos (c := ∀ a : Fin 1, k1_off1 i a + 1 ≤ S4.size a) (off1_lt i)).trans ?_
  refine congrArg (a1.1 0) (funext fun a => Fin.ext ?_)
  obtain rfl : a = (0 : Fin 1) := Subsingleton.elim (α := Fin 1) a 0
  show k1_off1 i 0 = k1_off1 i 0 + 0 * 1
  omega
theorem atD1 (i : grid1.Coords) : a1.1.atD 1 (k1_off1 i) = wd (a1.1 1) i := by
  refine (dif_pos (c := ∀ a : Fin 1, k1_off1 i a + 1 ≤ S4.size a) (off1_lt i)).trans ?_
  refine congrArg (a1.1 1) (funext fun a => Fin.ext ?_)
  obtain rfl : a = (0 : Fin 1) := Subsingleton.elim (α := Fin 1) a 0
  show k1_off1 i 0 = k1_off1 i 0 + 0 * 1
  omega

theorem cond2_atD (i : grid1.Coords) : k1_cond2 i (a1.1.atD 1 (k1_off1 i)) (a1.1.atD 0 (k1_off1 i)) = k1_cond2 i (wd (a1.1 1) i) (wd (a1.1 0) i) :=
  congrArg₂ (k1_cond2 i) (atD1 a1 i) (atD0 a1 i)

/-! ## The proof data -/

/-- What the invariant holds beside the tables: the other call's staging buffers, and the scratch row at its
    contents once the first point has written it. -/
def rest1 (c : Dev nD) (n : ℕ) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ l : Vec F S32x896 .fp8e4m3, ⌜n ≠ 0 → l = (stT a1 V hT n).l16⌝ ∗ owns (c : Thread nD τ) (Memref.whole cc1_scratch0) fullShare l))

/-- The invariant before point `n`. -/
def phi1 (c : Dev nD) (n : ℕ) : sProp 𝕄 :=
  iprop(Pipeline.prefHeld pre1 c (fun _ => fullShare) a1.1 ∗ rest1 a1 V hT c n)

/-- The proof data: the arrays at the entry contents, the inputs left as staged, the results at the recursion. -/
def dat1 (c : Dev nD) : Dat τ (Elt F) Unit ℕ (UR sig nD τ) ℕ (cfg1 a1) c where
  A w := V (Proc.devRef .tc (Pipeline.arrRef spec1 w))
  after w t := match w with
    | ⟨0, _⟩ => (X1 a1 V t).z
    | ⟨1, _⟩ => (X1 a1 V t).zs
    | ⟨2, _⟩ => (X1 a1 V t).w
    | ⟨3, _⟩ => (X1 a1 V t).ws
    | ⟨4, _⟩ => (X1 a1 V t).b2
    | ⟨5, _⟩ => (X1 a1 V t).wl
    | ⟨6, _⟩ => (X1 a1 V t).bm
    | ⟨7, _⟩ => (stT a1 V hT (t.val + 1)).o13
    | ⟨8, _⟩ => (stT a1 V hT (t.val + 1)).o14
    | ⟨9, _⟩ => (stT a1 V hT (t.val + 1)).o15
  Φ t := phi1 a1 V hT c t.val
  q _ := fullShare
  owed _ := 0

theorem before1_0 (c : Dev nD) (t) (d) : (dat1 a1 V hT c).before (0 : Fin 10) t d = (X1 a1 V t).z :=
  (dat1 a1 V hT c).before_in_eq_fetched 0 rfl (fun _ => rfl) (fun _ _ _ => rfl) (fun _ => rfl) t d
theorem before1_1 (c : Dev nD) (t) (d) : (dat1 a1 V hT c).before (1 : Fin 10) t d = (X1 a1 V t).zs :=
  (dat1 a1 V hT c).before_in_eq_fetched 1 rfl (fun _ => rfl) (fun _ _ _ => rfl) (fun _ => rfl) t d
theorem before1_2 (c : Dev nD) (t) (d) : (dat1 a1 V hT c).before (2 : Fin 10) t d = (X1 a1 V t).w :=
  (dat1 a1 V hT c).before_in_eq_fetched 2 rfl (fun _ => rfl) (fun _ _ _ => rfl) (fun _ => rfl) t d
theorem before1_3 (c : Dev nD) (t) (d) : (dat1 a1 V hT c).before (3 : Fin 10) t d = (X1 a1 V t).ws :=
  (dat1 a1 V hT c).before_in_eq_fetched 3 rfl (fun _ => rfl) (fun _ _ _ => rfl) (fun _ => rfl) t d
theorem before1_4 (c : Dev nD) (t) (d) : (dat1 a1 V hT c).before (4 : Fin 10) t d = (X1 a1 V t).b2 :=
  (dat1 a1 V hT c).before_in_eq_fetched 4 rfl (fun _ => rfl) (fun _ _ _ => rfl) (fun _ => rfl) t d
theorem before1_5 (c : Dev nD) (t) (d) : (dat1 a1 V hT c).before (5 : Fin 10) t d = (X1 a1 V t).wl :=
  (dat1 a1 V hT c).before_in_eq_fetched 5 rfl (fun _ => rfl) (fun _ _ _ => rfl) (fun _ => rfl) t d
theorem before1_6 (c : Dev nD) (t) (d) : (dat1 a1 V hT c).before (6 : Fin 10) t d = (X1 a1 V t).bm :=
  (dat1 a1 V hT c).before_in_eq_fetched 6 rfl (fun _ => rfl) (fun _ _ _ => rfl) (fun _ => rfl) t d

/-! ### The results' windows: what they hold before a point -/

/-- At an idle point of the first (and third) result the step leaves it. -/
theorem idle7 (t : Fin (cfg1 a1).N) (hi : idle1 a1.1 7 (grid1.coords t) = true) (S : HeadSt F) :
    (step (grid1.coords t) (X1 a1 V t) (hT _) S).o13 = S.o13 ∧ (step (grid1.coords t) (X1 a1 V t) (hT _) S).o15 = S.o15 := by
  simp only [idle1, Bool.and_eq_true, Bool.not_eq_true', beq_eq_false_iff_ne] at hi
  have e : step (grid1.coords t) (X1 a1 V t) (hT _) S = S := by
    unfold step
    rw [dif_neg (show ¬ (k1_cond2 (grid1.coords t) (wd (X1 a1 V t).tl (grid1.coords t)) (wd (X1 a1 V t).el (grid1.coords t)) = 1#1) from fun h => hi.2 ((cond2_atD a1 _).trans h))]
    unfold start
    rw [if_neg hi.1]
  rw [e]
  exact ⟨rfl, rfl⟩

/-- At an idle point of the second result the step leaves it. -/
theorem idle8 (t : Fin (cfg1 a1).N) (hi : idle1 a1.1 8 (grid1.coords t) = true) (S : HeadSt F) :
    (step (grid1.coords t) (X1 a1 V t) (hT _) S).o14 = S.o14 := by
  simp only [idle1, Bool.and_eq_true, Bool.not_eq_true', beq_eq_false_iff_ne, Bool.and_eq_false_iff] at hi
  have es : start (grid1.coords t) S = S := by
    unfold start
    rw [if_neg hi.1]
  unfold step
  rw [es]
  split_ifs with h2
  · unfold lblStep
    split_ifs with h3
    · exact absurd hi.2 (by
        rintro (h | h)
        · exact h ((cond2_atD a1 _).trans h2)
        · exact h ((congrArg (k1_cond3 _) (atD1 a1 _)).trans h3))
    · rfl
  · rfl

/-- A result's buffer holds what the body stored from the second point on. -/
theorem fresh_pos (w : Fin 10) (hw : ((cfg1 a1).win w).isOut = true) (hc : ∀ i i', ((cfg1 a1).win w).indexMap i = ((cfg1 a1).win w).indexMap i')
    (h0 : ∀ t : Fin grid1.N, t.val = 0 → idle1 a1.1 w (grid1.coords t) = false) (n : ℕ) : n + 1 < (cfg1 a1).N + 0 → (cfg1 a1).fresh w (n + 1) = false := by
  have hN : (cfg1 a1).N = 3096 := N_1
  induction n with
  | zero =>
    intro h
    have hn : 0 < (cfg1 a1).N := by omega
    rw [Pipeline.Cfg.fresh_succ _ _ _ hn]
    have hf : ((cfg1 a1).win w).flush ⟨0, hn⟩ = false := by
      rw [← Bool.not_eq_true, Pipeline.Window.flush_const _ hw hc (n := 3096) (m := 3095) N_1 rfl]
      simp
    rw [hf]
    have := h0 ⟨0, hn⟩ rfl
    rw [show (cfg1 a1).idle w ((cfg1 a1).grid.coords ⟨0, hn⟩) = idle1 a1.1 w (grid1.coords ⟨0, hn⟩) from rfl, this]
    rfl
  | succ n ih =>
    intro h
    have hn : n + 1 < (cfg1 a1).N := by omega
    rw [Pipeline.Cfg.fresh_succ _ _ _ hn, ih (by omega)]
    have hf : ((cfg1 a1).win w).flush ⟨n + 1, hn⟩ = false := by
      rw [← Bool.not_eq_true, Pipeline.Window.flush_const _ hw hc (n := 3096) (m := 3095) N_1 rfl]
      simp only
      omega
    rw [hf, Bool.and_false]
    rfl

theorem idle_first (w : Fin 10) (t : Fin grid1.N) (ht : t.val = 0) (hw : w = 7 ∨ w = 8 ∨ w = 9) : idle1 a1.1 w (grid1.coords t) = false := by
  have h1 := cond1_first t ht
  obtain rfl | rfl | rfl := hw <;>
    simp only [idle1, h1, beq_self_eq_true, Bool.not_true, Bool.false_and]

/-- What a result's buffer holds before a point: the recursion, but at the first point. -/
theorem before1_out (c : Dev nD) (w : Fin 10) (hw : w = 7 ∨ w = 8 ∨ w = 9) (ho : ((cfg1 a1).win w).isOut = true)
    (hcl : ∀ i a, ((cfg1 a1).win w).clip i a = none)
    (hc : ∀ i i', ((cfg1 a1).win w).indexMap i = ((cfg1 a1).win w).indexMap i')
    (hcarry : ∀ (t : Fin (cfg1 a1).N) (_ : t.val ≠ 0), idle1 a1.1 w (grid1.coords t) = true →
      (dat1 a1 V hT c).after w t = (dat1 a1 V hT c).after w ⟨t.val - 1, by omega⟩)
    (t : Fin (cfg1 a1).N) (ht : t.val ≠ 0) (d) : (dat1 a1 V hT c).before w t d = (dat1 a1 V hT c).after w ⟨t.val - 1, by omega⟩ := by
  rw [(dat1 a1 V hT c).before_out_traj w ho hcl (fun t ht hi _ => hcarry t ht hi) t.val t rfl d]
  have : (cfg1 a1).fresh w t.val = false := by
    have := fresh_pos a1 w ho hc (fun t ht => idle_first a1 w t ht hw) (t.val - 1) (by have := t.isLt; omega)
    rwa [Nat.sub_add_cancel (by omega)] at this
  rw [this]
  rfl

theorem pred_eq (t : Fin (cfg1 a1).N) (ht : t.val ≠ 0) : t.val - 1 + 1 = t.val := by omega

theorem before1_7 (c : Dev nD) (t : Fin (cfg1 a1).N) (ht : t.val ≠ 0) (d) : (dat1 a1 V hT c).before (7 : Fin 10) t d = (stT a1 V hT t.val).o13 := by
  refine (before1_out a1 V hT c 7 (.inl rfl) rfl (fun _ _ => rfl) (fun _ _ => rfl) (fun t ht hi => ?_) t ht d).trans ?_
  · show (stT a1 V hT (t.val + 1)).o13 = (stT a1 V hT (t.val - 1 + 1)).o13
    rw [pred_eq a1 t ht, stT_succ]
    exact (idle7 a1 V hT t hi _).1
  · show (stT a1 V hT (t.val - 1 + 1)).o13 = _
    rw [pred_eq a1 t ht]
theorem before1_8 (c : Dev nD) (t : Fin (cfg1 a1).N) (ht : t.val ≠ 0) (d) : (dat1 a1 V hT c).before (8 : Fin 10) t d = (stT a1 V hT t.val).o14 := by
  refine (before1_out a1 V hT c 8 (.inr (.inl rfl)) rfl (fun _ _ => rfl) (fun _ _ => rfl) (fun t ht hi => ?_) t ht d).trans ?_
  · show (stT a1 V hT (t.val + 1)).o14 = (stT a1 V hT (t.val - 1 + 1)).o14
    rw [pred_eq a1 t ht, stT_succ]
    exact idle8 a1 V hT t hi _
  · show (stT a1 V hT (t.val - 1 + 1)).o14 = _
    rw [pred_eq a1 t ht]
theorem before1_9 (c : Dev nD) (t : Fin (cfg1 a1).N) (ht : t.val ≠ 0) (d) : (dat1 a1 V hT c).before (9 : Fin 10) t d = (stT a1 V hT t.val).o15 := by
  refine (before1_out a1 V hT c 9 (.inr (.inr rfl)) rfl (fun _ _ => rfl) (fun _ _ => rfl) (fun t ht hi => ?_) t ht d).trans ?_
  · show (stT a1 V hT (t.val + 1)).o15 = (stT a1 V hT (t.val - 1 + 1)).o15
    rw [pred_eq a1 t ht, stT_succ]
    exact (idle7 a1 V hT t hi _).2
  · show (stT a1 V hT (t.val - 1 + 1)).o15 = _
    rw [pred_eq a1 t ht]

/-- What the body met, stepped, is the recursion after the point. -/
theorem step_met (c : Dev nD) (t : Fin (cfg1 a1).N) (d7) (d8) (d9) (l : Vec F S32x896 .fp8e4m3) (hl : t.val ≠ 0 → l = (stT a1 V hT t.val).l16) :
    step (grid1.coords t) (X1 a1 V t) (hT _) ⟨(dat1 a1 V hT c).before (7 : Fin 10) t d7, (dat1 a1 V hT c).before (8 : Fin 10) t d8, (dat1 a1 V hT c).before (9 : Fin 10) t d9, l⟩
      = stT a1 V hT (t.val + 1) := by
  rw [stT_succ]
  by_cases ht : t.val = 0
  · exact step_first _ _ _ _ _ (cond1_first t ht)
  · rw [before1_7 a1 V hT c t ht, before1_8 a1 V hT c t ht, before1_9 a1 V hT c t ht, hl ht]

/-- What the body leaves in a window's buffer is what the pipeline takes it to leave there. -/
theorem leaves_in (c : Dev nD) (w : Fin 10) (t : Fin (cfg1 a1).N) (h : idle1 a1.1 w (grid1.coords t) = false) :
    owns (c : Thread nD τ) (((cfg1 a1).win w).stage ((cfg1 a1).slots t w)) fullShare ((dat1 a1 V hT c).after w t) ⊢ ((dat1 a1 V hT c).leavesExact w t : sProp 𝕄) := by
  unfold Dat.leavesExact
  rw [show (cfg1 a1).idle w ((cfg1 a1).grid.coords t) = false from h]
theorem leaves_out (c : Dev nD) (w : Fin 10) (hw : w = 7 ∨ w = 8 ∨ w = 9) (t : Fin (cfg1 a1).N) (d)
    (h : t.val ≠ 0 → idle1 a1.1 w (grid1.coords t) = true → (dat1 a1 V hT c).before w t d = (dat1 a1 V hT c).after w t) :
    owns (c : Thread nD τ) (((cfg1 a1).win w).stage ((cfg1 a1).slots t w)) fullShare ((dat1 a1 V hT c).after w t) ⊢ ((dat1 a1 V hT c).leavesExact w t : sProp 𝕄) := by
  cases hi : idle1 a1.1 w (grid1.coords t) with
  | false => exact leaves_in a1 V hT c w t hi
  | true =>
    have ht : t.val ≠ 0 := fun h0 => by
      rw [idle_first a1 w t h0 hw] at hi
      exact Bool.false_ne_true hi
    unfold Dat.leavesExact
    rw [show (cfg1 a1).idle w ((cfg1 a1).grid.coords t) = true from hi]
    cases ((cfg1 a1).win w).flush t with
    | true => exact .rfl
    | false =>
      iintro H
      iexists d
      rw [h ht hi]
      iexact H

/-! ## The body obligation -/

/-- The tables as the body's memrefs. -/
theorem tables_owns (c : Dev nD) (v : pre1.Contents (Elt F)) (X : HeadIn F) (e0 : X.el = v 0) (e1 : X.tl = v 1) (e2 : X.lab = v 2) :
    (Pipeline.prefHeld pre1 c (fun _ => fullShare) v : sProp 𝕄)
      = iprop(owns (c : Thread nD τ) (Memref.whole main_arg6) fullShare X.el ∗ owns (c : Thread nD τ) (Memref.whole main_arg7) fullShare X.tl
          ∗ owns (c : Thread nD τ) (Memref.whole main_arg5) fullShare X.lab) := by
  unfold Pipeline.prefHeld
  rw [bigSep_univ_eq_bigSepL [(0 : Fin 3), (1 : Fin 3), (2 : Fin 3)] (by decide) (by decide), e0, e1, e2]
  have g0 := owns_whole (Val := Elt F) (Ix := Unit) (Name := ℕ) (U := UR sig nD τ) (Lvl := ℕ) (c : Thread nD τ) main_arg6 fullShare (v 0)
  have g1 := owns_whole (Val := Elt F) (Ix := Unit) (Name := ℕ) (U := UR sig nD τ) (Lvl := ℕ) (c : Thread nD τ) main_arg7 fullShare (v 1)
  have g2 := owns_whole (Val := Elt F) (Ix := Unit) (Name := ℕ) (U := UR sig nD τ) (Lvl := ℕ) (c : Thread nD τ) main_arg5 fullShare (v 2)
  exact congrArg₂ BIBase.sep g0.symm (congrArg₂ BIBase.sep g1.symm g2.symm)

/-- The kernel body at a point, as the pipeline calls it. -/
abbrev bodyAt1 (t : Fin (cfg1 a1).N) : Prog (TpuEff nD τ sig (Elt F) Λ₀ .tc) PUnit :=
  cc1_head (grid1.coords t) (Memref.whole main_arg6) (Memref.isWhole_whole _) (Memref.whole main_arg7) (Memref.isWhole_whole _) (Memref.whole main_arg5) (Memref.isWhole_whole _)
    (spec1_0.stage ((cfg1 a1).slots t 0)) (hstage1_0 (((cfg1 a1).slots t 0).cast nbuf1_0)) (spec1_1.stage ((cfg1 a1).slots t 1)) (hstage1_1 (((cfg1 a1).slots t 1).cast nbuf1_1)) (spec1_2.stage ((cfg1 a1).slots t 2)) (hstage1_2 (((cfg1 a1).slots t 2).cast nbuf1_2)) (spec1_3.stage ((cfg1 a1).slots t 3)) (hstage1_3 (((cfg1 a1).slots t 3).cast nbuf1_3)) (spec1_4.stage ((cfg1 a1).slots t 4)) (hstage1_4 (((cfg1 a1).slots t 4).cast nbuf1_4)) (spec1_5.stage ((cfg1 a1).slots t 5)) (hstage1_5 (((cfg1 a1).slots t 5).cast nbuf1_5)) (spec1_6.stage ((cfg1 a1).slots t 6)) (hstage1_6 (((cfg1 a1).slots t 6).cast nbuf1_6)) (spec1_7.stage ((cfg1 a1).slots t 7)) (hstage1_7 (((cfg1 a1).slots t 7).cast nbuf1_7)) (spec1_8.stage ((cfg1 a1).slots t 8)) (hstage1_8 (((cfg1 a1).slots t 8).cast nbuf1_8)) (spec1_9.stage ((cfg1 a1).slots t 9)) (hstage1_9 (((cfg1 a1).slots t 9).cast nbuf1_9))
    (Memref.whole cc1_scratch0) (Memref.isWhole_whole _)

theorem defs₀_row1 (t : Fin (cfg1 a1).N) : defs₀ (F := F) .tc (cfg1 a1).body ((cfg1 a1).bodyArgs t ((cfg1 a1).slots t)) = bodyAt1 a1 t := by
  unfold defs₀; rw [Defs.onTc_tc]

/-- The windows' conjunct of the obligation's post, from what the body leaves. -/
theorem leaves_all (c : Dev nD) (t : Fin (cfg1 a1).N) (d7 : ((cfg1 a1).win 7).block.Idx → Elt F ((cfg1 a1).win 7).elt) (d8 : ((cfg1 a1).win 8).block.Idx → Elt F ((cfg1 a1).win 8).elt) (d9 : ((cfg1 a1).win 9).block.Idx → Elt F ((cfg1 a1).win 9).elt) :
    (bigSep Finset.univ fun w : Fin 10 => owns (c : Thread nD τ) (((cfg1 a1).win w).stage ((cfg1 a1).slots t w)) fullShare ((dat1 a1 V hT c).after w t))
      ⊢ (bigSep Finset.univ fun w : Fin 10 => (dat1 a1 V hT c).leavesExact w t : sProp 𝕄) := by
  refine bigSep_mono fun w _ => ?_
  have h7 : t.val ≠ 0 → idle1 a1.1 7 (grid1.coords t) = true → (dat1 a1 V hT c).before (7 : Fin 10) t d7 = (dat1 a1 V hT c).after 7 t := fun ht hi => by
    refine (before1_7 a1 V hT c t ht d7).trans ?_
    show _ = (stT a1 V hT (t.val + 1)).o13
    rw [stT_succ]; exact (idle7 a1 V hT t hi _).1.symm
  have h8 : t.val ≠ 0 → idle1 a1.1 8 (grid1.coords t) = true → (dat1 a1 V hT c).before (8 : Fin 10) t d8 = (dat1 a1 V hT c).after 8 t := fun ht hi => by
    refine (before1_8 a1 V hT c t ht d8).trans ?_
    show _ = (stT a1 V hT (t.val + 1)).o14
    rw [stT_succ]; exact (idle8 a1 V hT t hi _).symm
  have h9 : t.val ≠ 0 → idle1 a1.1 9 (grid1.coords t) = true → (dat1 a1 V hT c).before (9 : Fin 10) t d9 = (dat1 a1 V hT c).after 9 t := fun ht hi => by
    refine (before1_9 a1 V hT c t ht d9).trans ?_
    show _ = (stT a1 V hT (t.val + 1)).o15
    rw [stT_succ]; exact (idle7 a1 V hT t hi _).2.symm
  exact match w with
    | 0 => leaves_in a1 V hT c 0 t rfl
    | 1 => leaves_in a1 V hT c 1 t rfl
    | 2 => leaves_in a1 V hT c 2 t rfl
    | 3 => leaves_in a1 V hT c 3 t rfl
    | 4 => leaves_in a1 V hT c 4 t rfl
    | 5 => leaves_in a1 V hT c 5 t rfl
    | 6 => leaves_in a1 V hT c 6 t rfl
    | 7 => leaves_out a1 V hT c 7 (.inl rfl) t d7 h7
    | 8 => leaves_out a1 V hT c 8 (.inr (.inl rfl)) t d8 h8
    | 9 => leaves_out a1 V hT c 9 (.inr (.inr rfl)) t d9 h9

theorem Phi1_castSucc (c : Dev nD) (t : Fin (cfg1 a1).N) : (dat1 a1 V hT c).Φ t.castSucc = phi1 a1 V hT c t.val := by
  show phi1 a1 V hT c t.castSucc.val = _
  rw [Fin.val_castSucc]
theorem Phi1_succ (c : Dev nD) (t : Fin (cfg1 a1).N) : (dat1 a1 V hT c).Φ t.succ = phi1 a1 V hT c (t.val + 1) := by
  show phi1 a1 V hT c t.succ.val = _
  rw [Fin.val_succ]

/-- The body obligation. -/
theorem body1 (c : Dev nD) : Pipeline.BodyObligation (dat1 a1 V hT c) (defs₀ (F := F)) Variants.none () Set.univ := fun t => by
  rw [defs₀_row1]
  rw [Phi1_castSucc, Phi1_succ]
  unfold phi1
  have hrun := run (F := F) c (grid1.coords t) (Memref.whole main_arg6) (Memref.isWhole_whole _) (Memref.whole main_arg7) (Memref.isWhole_whole _) (Memref.whole main_arg5) (Memref.isWhole_whole _)
    (spec1_0.stage ((cfg1 a1).slots t 0)) (hstage1_0 (((cfg1 a1).slots t 0).cast nbuf1_0)) (spec1_1.stage ((cfg1 a1).slots t 1)) (hstage1_1 (((cfg1 a1).slots t 1).cast nbuf1_1)) (spec1_2.stage ((cfg1 a1).slots t 2)) (hstage1_2 (((cfg1 a1).slots t 2).cast nbuf1_2)) (spec1_3.stage ((cfg1 a1).slots t 3)) (hstage1_3 (((cfg1 a1).slots t 3).cast nbuf1_3)) (spec1_4.stage ((cfg1 a1).slots t 4)) (hstage1_4 (((cfg1 a1).slots t 4).cast nbuf1_4)) (spec1_5.stage ((cfg1 a1).slots t 5)) (hstage1_5 (((cfg1 a1).slots t 5).cast nbuf1_5)) (spec1_6.stage ((cfg1 a1).slots t 6)) (hstage1_6 (((cfg1 a1).slots t 6).cast nbuf1_6)) (spec1_7.stage ((cfg1 a1).slots t 7)) (hstage1_7 (((cfg1 a1).slots t 7).cast nbuf1_7)) (spec1_8.stage ((cfg1 a1).slots t 8)) (hstage1_8 (((cfg1 a1).slots t 8).cast nbuf1_8)) (spec1_9.stage ((cfg1 a1).slots t 9)) (hstage1_9 (((cfg1 a1).slots t 9).cast nbuf1_9))
    (Memref.whole cc1_scratch0) (Memref.isWhole_whole _) (X1 a1 V t)
  rw [tables_owns c a1.1 (X1 a1 V t) rfl rfl rfl]
  rewrite [bigSep_W1 (fun w : Fin 10 => iprop(∃ d, owns (c : Thread nD τ) (((cfg1 a1).win w).stage ((cfg1 a1).slots t w)) fullShare ((dat1 a1 V hT c).before w t d)))]
  unfold rest1
  iintro ⟨⟨⟨He, Ht, Hl⟩, G0, G1, G2, ⟨%l, %hl, Hs⟩⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before1_0 a1 V hT c t d0, before1_1 a1 V hT c t d1, before1_2 a1 V hT c t d2, before1_3 a1 V hT c t d3, before1_4 a1 V hT c t d4, before1_5 a1 V hT c t d5, before1_6 a1 V hT c t d6]
  have hst := step_met a1 V hT c t d7 d8 d9 l hl
  have hlv := leaves_all a1 V hT c t d7 d8 d9
  ihave Hw := (hrun ⟨(dat1 a1 V hT c).before (7 : Fin 10) t d7, (dat1 a1 V hT c).before (8 : Fin 10) t d8, (dat1 a1 V hT c).before (9 : Fin 10) t d9, l⟩ (hT _) Set.univ) $$ [He Ht Hl Hs H0 H1 H2 H3 H4 H5 H6 H7 H8 H9]
  · isplitl [He]; · iexact He
    isplitl [Ht]; · iexact Ht
    isplitl [Hl]; · iexact Hl
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact Hs
  rw [hst]
  ihave Hw' := (wp_wand (Q' := _) _ _ _) $$ Hw
  iapply Hw'
  iintro %a ⟨He, Ht, Hl, H0, H1, H2, H3, H4, H5, H6, H7, H8, H9, Hs⟩
  isplitl [He Ht Hl G0 G1 G2 Hs]
  · isplitl [He Ht Hl]
    · isplitl [He]; · iexact He
      isplitl [Ht]; · iexact Ht
      iexact Hl
    isplitl [G0]; · iexact G0
    isplitl [G1]; · iexact G1
    isplitl [G2]; · iexact G2
    iexists _
    isplitr
    · ipureintro; exact fun _ => rfl
    · iexact Hs
  isplitl [HO]
  · unfold Dat.owesAt Pipeline.owesWithin
    icases HO with ⟨%W, %hW, HO⟩
    iexists W
    isplitr
    · ipureintro
      exact fun _ _ => Or.inl trivial
    · iexact HO
  iapply hlv
  rw [bigSep_W1]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end

end Cert.KernelIdeal.Hand

end
-- ==== Proof.RunIdeal.lean ====
/- The whole program's run: the two calls' proof data put between the host stretches, and the launch. Given that the
   tables admit the head's pipeline and its body's addresses, every execution ends with the arguments as launched, the
   counters at zero and the three results at the last valuation's. -/
module

public import proofs.«01_k».proof.Proof.Region1Ideal
public import proofs.«01_k».proof.Proof.Gen.KernelIdeal.Regions

@[expose] public section

set_option maxHeartbeats 1000000
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg afterRegion)

variable {F : FTy → Type} [FloatOps F] [Named F]

local notation "𝕄" => MT nD τ sig Unit (Elt F) ℕ (UR sig nD τ) ℕ

variable (m : (ℓ : Loc nD τ sig) → Buf (Elt F) ℓ)

/-! ## What the calls leave -/

/-- The head's tables as launched. -/
def tabs : pre1.Contents (Elt F) := fun k => m ((((0 : Dev nD) : Thread nD τ)).loc (pre1.ref k))

/-- The contents of the buffers after the first call (for the head's entry). -/
def outs8 : Outs (F := F) := fun _ r c => afterRegion (dat0 (V7 m c) c) (V7 m c) (Proc.devRef .tc r)

variable (hok : (ok1 (F := F)) (tabs m))

/-- The head's admitted tables. -/
def adm1 : (pcfg1 (F := F)).Adm := ⟨tabs m, hok⟩

variable (hT : TabsOK (adm1 m hok))

/-- The head's proof data on a core. -/
abbrev datH (c : Dev nD) : Dat τ (Elt F) Unit ℕ (UR sig nD τ) ℕ (cfg1 (adm1 m hok)) c := dat1 (adm1 m hok) (V11 m (outs8 m) c) hT c

/-- What the two calls leave. -/
def outsF : Outs (F := F) := fun k r c =>
  if k = 8 then afterRegion (dat0 (V7 m c) c) (V7 m c) (Proc.devRef .tc r)
  else afterRegion (datH m hok hT c) (V11 m (outs8 m) c) (Proc.devRef .tc r)

theorem outsF_8 (r) (c : Dev nD) : outsF m hok hT 8 r c = outs8 m 8 r c := if_pos rfl
theorem outsF_12 (r) (c : Dev nD) : outsF m hok hT 12 r c = afterRegion (datH m hok hT c) (V11 m (outs8 m) c) (Proc.devRef .tc r) := if_neg (by decide)

theorem V8_outs (c : Dev nD) : V8 m (outsF m hok hT) c = V8 m (outs8 m) c := by
  unfold V8; rw [outsF_8]
theorem V11_outs (c : Dev nD) : V11 m (outsF m hok hT) c = V11 m (outs8 m) c := by
  unfold V11 V10 V9; rw [V8_outs]

/-! ## The rest beside the buffers -/

/-- The calls' tables. -/
def aAll : (p : Fin 2) → (pcfgs (F := F) p).Adm
  | 0 => cfg0.toPCfg_adm
  | 1 => adm1 m hok

/-- The calls' proof data. -/
def pdats : (p : Fin 2) → (c : Dev nD) → Dat τ (Elt F) Unit ℕ (UR sig nD τ) ℕ (Pipeline.pin (pcfgs (F := F)) (aAll m hok) p) c
  | 0 => fun c => dat0 (V7 m c) c
  | 1 => fun c => datH m hok hT c

/-- The levels: one index on every TensorCore cell. -/
def Lv : GSem nD τ sig → Finset Unit := fun g => if g.1.2 = .tc then {()} else ∅

/-- Between the items a core owes nothing. -/
def EE : Fin 3 → Dev nD → sProp 𝕄 := fun _ c => iprop(∃ W, owes (c : Thread nD τ) (0 : CellTallies nD τ sig Unit) W)

theorem cut (p : Fin 2) : Pipeline.LevelCut (pcfgs (F := F)) (aAll m hok) () (Lv) (fun _ _ => (0 : ℕ)) p (fun _ => 0) (fun _ => 0) where
  hι c w s := by unfold Lv; rw [if_pos rfl]; exact Finset.mem_singleton_self _
  hιb _ _ _ := le_refl _
  hD _ _ _ h := absurd h (lt_irrefl 0)

/-- The first call's segment. -/
def R0 : RegionSeg (pcfgs (F := F)) (aAll m hok) (pdats m hok hT) () defs₀ Variants.none Lv (fun _ _ => (0 : ℕ)) 0 :=
  Pipeline.RegionSeg.ofHeldIn (pcfgs (F := F)) (aAll m hok) (pdats m hok hT) () defs₀ Variants.none Lv (fun _ _ => (0 : ℕ)) 0 (fun _ => 0)
    (Pipeline.ucRefs τ sig) (fun _ => BI.emp) (fun _ => BI.emp) launch0 rfl
    (fun c => (body0 (V7 m c) c).loose) (fun _ _ => rfl) (fun _ => rfl) (fun _ => Dat.share_full _ fun _ => rfl)
    (fun c => by
      show iprop(Pipeline.scopedRest spec0 c ∗ emp) ⊢ Pipeline.scopedRest spec0 c
      iintro ⟨H, _⟩; iexact H)
    (fun c => by
      show Pipeline.scopedRest spec0 c ⊢ iprop(Pipeline.scopedRest spec0 c ∗ emp)
      iintro H; isplitl [H]; · iexact H
      iempintro)
    (fun _ => 0) (cut m hok 0) (fun _ => BI.emp) (fun c => V7 m c) (fun c w => rfl)

theorem tabs_V11 (c : Dev nD) (k : Fin 3) : tabs m k = V11 m (outs8 m) c (Proc.devRef .tc (pre1.ref k)) := by
  obtain rfl : c = 0 := Subsingleton.elim _ _
  match k with
  | 0 => exact ((V11_of m _ 0 main_arg6 (by decide)).trans <| (V10_of m _ 0 main_arg6 (by decide)).trans <| (V9_of m _ 0 main_arg6 (by decide)).trans <| (V8_of m _ 0 main_arg6 (by decide)).trans <| (V7_of m 0 main_arg6 (by decide)).trans <| (V6_of m 0 main_arg6 (by decide)).trans <| (V5_of m 0 main_arg6 (by decide)).trans <| (V4_of m 0 main_arg6 (by decide)).trans <| (V3_of m 0 main_arg6 (by decide)).trans <| (V2_of m 0 main_arg6 (by decide)).trans <| (V1_of m 0 main_arg6 (by decide))).symm
  | 1 => exact ((V11_of m _ 0 main_arg7 (by decide)).trans <| (V10_of m _ 0 main_arg7 (by decide)).trans <| (V9_of m _ 0 main_arg7 (by decide)).trans <| (V8_of m _ 0 main_arg7 (by decide)).trans <| (V7_of m 0 main_arg7 (by decide)).trans <| (V6_of m 0 main_arg7 (by decide)).trans <| (V5_of m 0 main_arg7 (by decide)).trans <| (V4_of m 0 main_arg7 (by decide)).trans <| (V3_of m 0 main_arg7 (by decide)).trans <| (V2_of m 0 main_arg7 (by decide)).trans <| (V1_of m 0 main_arg7 (by decide))).symm
  | 2 => exact ((V11_of m _ 0 main_arg5 (by decide)).trans <| (V10_of m _ 0 main_arg5 (by decide)).trans <| (V9_of m _ 0 main_arg5 (by decide)).trans <| (V8_of m _ 0 main_arg5 (by decide)).trans <| (V7_of m 0 main_arg5 (by decide)).trans <| (V6_of m 0 main_arg5 (by decide)).trans <| (V5_of m 0 main_arg5 (by decide)).trans <| (V4_of m 0 main_arg5 (by decide)).trans <| (V3_of m 0 main_arg5 (by decide)).trans <| (V2_of m 0 main_arg5 (by decide)).trans <| (V1_of m 0 main_arg5 (by decide))).symm

section
variable (a1 : (pcfg1 (F := F)).Adm) (V : Valuation τ sig (Elt F)) (hT : TabsOK a1)

theorem phi1_in (c : Dev nD) : iprop(iprop(Pipeline.scopedRest spec1 c ∗ emp) ∗ Pipeline.prefHeld pre1 c (fun _ => fullShare) a1.1) ⊢ (phi1 a1 V hT c 0 : sProp 𝕄) := by
  rw [scopedRest1_eq]; unfold phi1 rest1
  iintro ⟨⟨⟨G0, G1, G2, ⟨%f, G3⟩⟩, _⟩, Ht⟩
  isplitl [Ht]; · iexact Ht
  isplitl [G0]; · iexact G0
  isplitl [G1]; · iexact G1
  isplitl [G2]; · iexact G2
  iexists f
  isplitr
  · ipureintro; exact fun h => absurd rfl h
  have e := owns_whole (Val := Elt F) (Ix := Unit) (Name := ℕ) (U := UR sig nD τ) (Lvl := ℕ) (c : Thread nD τ) cc1_scratch0 fullShare f
  rw [e]; iexact G3

theorem phi1_out (c : Dev nD) (n : ℕ) : (phi1 a1 V hT c n : sProp 𝕄) ⊢ iprop(iprop(Pipeline.scopedRest spec1 c ∗ emp) ∗ Pipeline.prefHeld pre1 c (fun _ => fullShare) a1.1) := by
  rw [scopedRest1_eq]; unfold phi1 rest1
  iintro ⟨Ht, G0, G1, G2, ⟨%l, %hl, G3⟩⟩
  isplitr [Ht]
  · isplitl
    · isplitl [G0]; · iexact G0
      isplitl [G1]; · iexact G1
      isplitl [G2]; · iexact G2
      have e := owns_whole (Val := Elt F) (Ix := Unit) (Name := ℕ) (U := UR sig nD τ) (Lvl := ℕ) (c : Thread nD τ) cc1_scratch0 fullShare l
      iexists l
      rw [← e]; iexact G3
    iempintro
  iexact Ht
end

/-- The head's segment. -/
def R1 : RegionSeg (pcfgs (F := F)) (aAll m hok) (pdats m hok hT) () defs₀ Variants.none Lv (fun _ _ => (0 : ℕ)) 1 :=
  Pipeline.RegionSeg.ofHeldInT (pcfgs (F := F)) (aAll m hok) (pdats m hok hT) () defs₀ Variants.none Lv (fun _ _ => (0 : ℕ)) 1 (fun _ => 0)
    (Pipeline.ucRefs τ sig) (fun _ => BI.emp) (fun _ => BI.emp) launch1
    (fun c => (body1 (adm1 m hok) (V11 m (outs8 m) c) hT c).loose) (fun _ _ => rfl) (fun _ => rfl) (fun _ => Dat.share_full _ fun _ => rfl)
    (fun c => phi1_in (adm1 m hok) (V11 m (outs8 m) c) hT c)
    (fun c => phi1_out (adm1 m hok) (V11 m (outs8 m) c) hT c _)
    (fun _ => 0) (cut m hok 1) (fun _ => BI.emp) (fun c => V11 m (outs8 m) c) (fun c w => rfl) (fun c k => tabs_V11 m c k)

theorem devRef_of_uc {b : DevRef τ sig} (hb : b ∈ Pipeline.ucRefs τ sig) : ∃ r : Ref sig .tc, b = Proc.devRef .tc r := by
  obtain ⟨r, -, e⟩ := Finset.mem_map.mp (Finset.mem_filter.mp hb).1
  exact ⟨r, e.symm⟩

theorem isOut0 : ∀ w : Fin 3, (spec0 w).isOut = true → Pipeline.arrRef spec0 w = main_v9 := by decide
theorem isOut1 : ∀ w : Fin 10, (spec1 w).isOut = true → Pipeline.arrRef spec1 w = main_v22_0 ∨ Pipeline.arrRef spec1 w = main_v22_1 ∨ Pipeline.arrRef spec1 w = main_v22_2 := by decide

/-- After the first call the buffers are the next valuation's. -/
theorem after0 (c : Dev nD) : ∀ b ∈ Pipeline.ucRefs τ sig, afterRegion (dat0 (V7 m c) c) (V7 m c) b = V8 m (outs8 m) c b := fun b hb => by
  obtain ⟨r, rfl⟩ := devRef_of_uc hb
  by_cases h : r = main_v9
  · subst h; unfold V8; rw [Function.update_self]; rfl
  · refine (Pipeline.afterRegion_keeps (dat0 (V7 m c) c) (V7 m c) (launch0 (F := F)).win.arr_inj (fun _ => rfl) r fun w hw => ?_).trans
      (Function.update_of_ne (a := (Proc.devRef .tc r : DevRef τ sig)) (fun e => h (Proc.devRef_injective _ e)) _ _).symm
    by_contra hne
    exact h (hw.symm.trans (isOut0 w (Bool.eq_true_of_not_eq_false (b := (spec0 w).isOut) hne)))

/-- After the head's call the buffers are the next valuation's. -/
theorem after1 (c : Dev nD) : ∀ b ∈ Pipeline.ucRefs τ sig, afterRegion (datH m hok hT c) (V11 m (outs8 m) c) b = V12 m (outsF m hok hT) c b := fun b hb => by
  obtain ⟨r, rfl⟩ := devRef_of_uc hb
  unfold V12
  rw [V11_outs, outsF_12, outsF_12, outsF_12]
  by_cases h2 : r = main_v22_2
  · subst h2; rw [Function.update_self]
  rw [Function.update_of_ne (a := (Proc.devRef .tc r : DevRef τ sig)) (fun e => h2 (Proc.devRef_injective _ e))]
  by_cases h1 : r = main_v22_1
  · subst h1; rw [Function.update_self]
  rw [Function.update_of_ne (a := (Proc.devRef .tc r : DevRef τ sig)) (fun e => h1 (Proc.devRef_injective _ e))]
  by_cases h0 : r = main_v22_0
  · subst h0; rw [Function.update_self]
  rw [Function.update_of_ne (a := (Proc.devRef .tc r : DevRef τ sig)) (fun e => h0 (Proc.devRef_injective _ e))]
  refine Pipeline.afterRegion_keeps (datH m hok hT c) (V11 m (outs8 m) c) (launch1 (F := F)).win.arr_inj (fun _ => rfl) r fun w hw => ?_
  by_contra hne
  rcases isOut1 w (Bool.eq_true_of_not_eq_false (b := (spec1 w).isOut) hne) with e | e | e
  · exact h0 (hw.symm.trans e)
  · exact h1 (hw.symm.trans e)
  · exact h2 (hw.symm.trans e)

theorem pre0_met (c : Dev nD) : iprop(StableHlo.held (c : Thread nD τ) (Pipeline.ucRefs τ sig) (V7 m c) ∗ EE (F := F) 0 c) ⊢ (R0 m hok hT).pre c := by
  unfold R0
  refine BIBase.Entails.trans ?_ (Pipeline.RegionSeg.ofHeldIn_pre (Pipeline.arrRefs_sub_ucRefs spec0 (by decide)) c)
  unfold EE
  iintro ⟨Hh, HO⟩
  isplitl [Hh]; · iexact Hh
  isplitl [HO]; · iexact HO
  isplitl <;> iempintro

theorem post0_met (c : Dev nD) : (R0 m hok hT).post c ⊢ iprop(StableHlo.held (c : Thread nD τ) (Pipeline.ucRefs τ sig) (V8 m (outsF m hok hT) c) ∗ EE (F := F) 1 c) := by
  unfold R0
  refine (Pipeline.RegionSeg.ofHeldIn_post (Pipeline.arrRefs_sub_ucRefs spec0 (by decide)) c).trans ?_
  rw [V8_outs]
  have e := StableHlo.held_congr (Ix := Unit) (Name := ℕ) (U := UR sig nD τ) (Lvl := ℕ) (c : Thread nD τ) (after0 m c)
  unfold EE
  iintro ⟨Hh, HO, _⟩
  isplitl [Hh]
  · rw [← e]; iexact Hh
  iexact HO

theorem pre1_met (c : Dev nD) : iprop(StableHlo.held (c : Thread nD τ) (Pipeline.ucRefs τ sig) (V11 m (outsF m hok hT) c) ∗ EE (F := F) 1 c) ⊢ (R1 m hok hT).pre c := by
  unfold R1
  rw [V11_outs]
  refine BIBase.Entails.trans ?_ (Pipeline.RegionSeg.ofHeldInT_pre (Pipeline.arrRefs_sub_ucRefs spec1 (by decide)) (Pipeline.tblRefs_sub_ucRefs pre1 (by decide)) c)
  unfold EE
  iintro ⟨Hh, HO⟩
  isplitl [Hh]; · iexact Hh
  isplitl [HO]; · iexact HO
  isplitl <;> iempintro

theorem post1_met (c : Dev nD) : (R1 m hok hT).post c ⊢ iprop(StableHlo.held (c : Thread nD τ) (Pipeline.ucRefs τ sig) (V12 m (outsF m hok hT) c) ∗ EE (F := F) 2 c) := by
  unfold R1
  refine (Pipeline.RegionSeg.ofHeldInT_post (Pipeline.arrRefs_sub_ucRefs spec1 (by decide)) (Pipeline.tblRefs_sub_ucRefs pre1 (by decide)) c).trans ?_
  have e := StableHlo.held_congr (Ix := Unit) (Name := ℕ) (U := UR sig nD τ) (Lvl := ℕ) (c : Thread nD τ) (after1 m hok hT c)
  unfold EE
  iintro ⟨Hh, HO, _⟩
  isplitl [Hh]
  · rw [← e]; iexact Hh
  iexact HO

end Cert.KernelIdeal.Hand

end
-- ==== Proof.TablesIdeal.lean ====
/- The head's tables, in range: the pipeline's blocks lie inside the codes and the body's addresses inside the tables,
   the weights and the results. -/
module

public import proofs.«01_k».proof.Proof.Region1Ideal
public import proofs.«01_k».proof.Proof.PreInt
public import Idealize.ShloMosaic.Lib.Affine

@[expose] public section

set_option maxHeartbeats 1000000
set_option maxRecDepth 16384

noncomputable section

namespace Cert.KernelIdeal.Hand

open Cert.KernelIdeal Cert.KernelIdeal.Gen
open Idealize.ShloMosaic Idealize.ShloMosaic.TcCoe Idealize.ShloMosaic.Affine

variable {F : FTy → Type} [FloatOps F] [Named F]

/-- A word that reads as a number not below zero has that number as its bits. -/
theorem toNat_of {x : BitVec 32} {n : ℤ} (h : IsInt x n) (h0 : 0 ≤ n) : (x.toNat : ℤ) = n := by
  unfold IsInt at h
  have h1 := BitVec.toInt_eq_toNat_cond x
  have h2 := x.isLt
  split at h1 <;> omega

theorem isInt_of {x : BitVec 32} {n : ℤ} (h : x.toInt = n) : IsInt x n := by unfold IsInt; exact h

/-- The row block the pipeline reads at a point, as a word. -/
def blkWord (v1 v8 a1 a2 : BitVec 32) : BitVec 32 :=
  let v9 : BitVec 32 := Scalar.subi v8 1#32
  let v15 : BitVec 32 := Scalar.subi (Scalar.extui (Scalar.cmpi .sgt v9 0#32)) (Scalar.extui (Scalar.cmpi .slt v9 0#32))
  let v20 : BitVec 32 := Scalar.subi (Scalar.extui (Scalar.cmpi .sgt 128#32 0#32)) (Scalar.extui (Scalar.cmpi .slt 128#32 0#32))
  let v10 : BitVec 32 := Scalar.divsi v9 128#32
  let v24 : BitVec 1 := Scalar.andi (Scalar.cmpi .ne v15 v20) (Scalar.cmpi .ne (Scalar.remsi v9 128#32) 0#32)
  Scalar.minsi (Scalar.select (Scalar.cmpi .sle a1 v1) a2 6#32) (Scalar.select v24 (Scalar.subi v10 1#32) v10)

theorem lit {n : ℕ} {e : ℤ} (h : e = n) (hn : n < 2 ^ 31) : IsInt (BitVec.ofNat 32 n) e := Affine.ofNat n ⟨h, hn⟩

theorem blkWord_eq {v1 v8 a1 a2 : BitVec 32} {tl el u tb : ℤ} (h1 : IsInt v1 tl) (h8 : IsInt v8 el) (ha1 : IsInt a1 u) (ha2 : IsInt a2 tb)
    (hel : 1 ≤ el) (hel' : el ≤ 768) : IsInt (blkWord v1 v8 a1 a2) (min (if u ≤ tl then tb else 6) ((el - 1) / 128)) := by
  have c0 : IsInt (0#32) 0 := lit (n := 0) rfl (by decide)
  have c1 : IsInt (1#32) 1 := lit (n := 1) rfl (by decide)
  have c6 : IsInt (6#32) 6 := lit (n := 6) rfl (by decide)
  have c128 : IsInt (128#32) 128 := lit (n := 128) rfl (by decide)
  have h9 : IsInt (Scalar.subi v8 1#32) (el - 1) := Affine.subi h8 c1 ⟨rfl, by omega, by omega⟩
  have h10 : IsInt (Scalar.divsi (Scalar.subi v8 1#32) 128#32) ((el - 1) / 128) := Affine.divsi h9 c128 ⟨rfl, by omega, by omega⟩
  have h22 : IsInt (Scalar.remsi (Scalar.subi v8 1#32) 128#32) ((el - 1) % 128) := Affine.remsi h9 c128 ⟨rfl, by omega, by omega⟩
  have h25 : IsInt (Scalar.subi (Scalar.divsi (Scalar.subi v8 1#32) 128#32) 1#32) ((el - 1) / 128 - 1) := Affine.subi h10 c1 ⟨rfl, by omega, by omega⟩
  have h20 : IsInt (Scalar.subi (Scalar.extui (Scalar.cmpi .sgt 128#32 0#32)) (Scalar.extui (Scalar.cmpi .slt 128#32 0#32))) 1 :=
    Affine.subi (Affine.extui_holds (Affine.sgt_holds c128 c0 (by omega)) rfl) (Affine.extui_fails (Affine.slt_fails c128 c0 (by omega)) rfl) ⟨rfl, by omega, by omega⟩
  have hslt := Affine.extui_fails (Affine.slt_fails h9 c0 (show ¬ (el - 1 < 0) by omega)) rfl
  have h26 : IsInt (Scalar.select (Scalar.andi (Scalar.cmpi .ne (Scalar.subi (Scalar.extui (Scalar.cmpi .sgt (Scalar.subi v8 1#32) 0#32)) (Scalar.extui (Scalar.cmpi .slt (Scalar.subi v8 1#32) 0#32))) (Scalar.subi (Scalar.extui (Scalar.cmpi .sgt 128#32 0#32)) (Scalar.extui (Scalar.cmpi .slt 128#32 0#32)))) (Scalar.cmpi .ne (Scalar.remsi (Scalar.subi v8 1#32) 128#32) 0#32))
      (Scalar.subi (Scalar.divsi (Scalar.subi v8 1#32) 128#32) 1#32) (Scalar.divsi (Scalar.subi v8 1#32) 128#32)) ((el - 1) / 128) := by
    refine Affine.select_fails ?_ h25 h10 rfl
    by_cases hz : 0 < el - 1
    · refine Affine.andi_fails_left (Affine.ne_fails (Affine.subi (e := 1) (Affine.extui_holds (Affine.sgt_holds h9 c0 hz) rfl) hslt ⟨rfl, by omega, by omega⟩) h20 rfl) trivial
    · exact Affine.andi_fails_right trivial (Affine.ne_fails h22 c0 (by omega))
  refine Affine.minsi ?_ h26 rfl
  by_cases hu : u ≤ tl
  · exact Affine.select_holds (Affine.sle_holds ha1 h1 hu) ha2 c6 (if_pos hu)
  · exact Affine.select_fails (Affine.sle_fails ha1 h1 hu) ha2 c6 (if_neg hu)

/-- The tables as words in range. -/
abbrev RangeOK (pf : pre1.Contents (Elt F)) : Prop := Cert.Pre_pre_int.Hand.InRange (pf 2) (pf 0) (pf 1)

theorem wd_idx (T : Vec F S4 .i32) (i : grid1.Coords) : ∃ b : S4.Idx, wd T i = T b := ⟨_, rfl⟩
theorem wdLab_idx (L : Vec F S4x128 .i32) (i : grid1.Coords) (h) : ∃ b : S4x128.Idx, wdLab L i h = L b := ⟨_, rfl⟩

theorem i0_lt (i : grid1.Coords) : (i 0).val < 4 := (i 0).isLt
theorem i1_lt (i : grid1.Coords) : (i 1).val < 129 := (i 1).isLt
theorem i2_lt (i : grid1.Coords) : (i 2).val < 6 := (i 2).isLt

/-- The block the pipeline reads at a point. -/
theorem transform0_eq (pf : pre1.Contents (Elt F)) (hr : RangeOK pf) (i : grid1.Coords) :
    cc1_transform_0 k1_off1_inb numel1_S1 pf i = ![(i 0).val, min (i 1).val (wd (pf 1) i).toNat, min (if (i 1).val ≤ (wd (pf 1) i).toNat then (i 2).val else 6) (((wd (pf 0) i).toNat - 1) / 128), 0] := by
  have e : cc1_transform_0 k1_off1_inb numel1_S1 pf i
      = ![(BitVec.ofNat 32 (i 0).val).toNat, (Scalar.minsi (BitVec.ofNat 32 (i 1).val) (wd (pf 1) i)).toNat,
          (blkWord (wd (pf 1) i) (wd (pf 0) i) (BitVec.ofNat 32 (i 1).val) (BitVec.ofNat 32 (i 2).val)).toNat, (0#32).toNat] := rfl
  have b0 := i0_lt i
  have b1 := i1_lt i
  have b2 := i2_lt i
  obtain ⟨x, hx⟩ := wd_idx (pf 1) i
  obtain ⟨y, hy⟩ := wd_idx (pf 0) i
  rw [e, hx, hy]
  have t1 := hr.tl_ge x
  have t2 := hr.tl_le x
  have l1 := hr.el_ge y
  have l2 := hr.el_le y
  have ht := toNat_of (isInt_of rfl) t1
  have hl := toNat_of (isInt_of rfl) (show (0 : ℤ) ≤ (pf 0 y).toInt by omega)
  have hb1 : IsInt (BitVec.ofNat 32 (i 1).val) ((i 1).val : ℤ) := lit rfl (by omega)
  have hb2 : IsInt (BitVec.ofNat 32 (i 2).val) ((i 2).val : ℤ) := lit rfl (by omega)
  have m1 := Affine.minsi hb1 (isInt_of (x := pf 1 x) rfl) rfl
  have m2 := blkWord_eq (isInt_of (x := pf 1 x) rfl) (isInt_of (x := pf 0 y) rfl) hb1 hb2 l1 l2
  have n1 := toNat_of m1 (by omega)
  have n2 := toNat_of m2 (by split <;> omega)
  have q0 : (BitVec.ofNat 32 (i 0).val).toNat = (i 0).val := by rw [BitVec.toNat_ofNat]; omega
  rw [q0]
  refine congrArg₂ (fun a b : ℕ => ![(i 0).val, a, b, 0]) ?_ ?_
  · omega
  · by_cases h : (i 1).val ≤ (pf 1 x).toNat
    · rw [if_pos h]; rw [if_pos (by omega)] at n2; omega
    · rw [if_neg h]; rw [if_neg (by omega)] at n2; omega

theorem S4x129_size (j : Fin 4) : S4x129x768x896.size j = ![4, 129, 768, 896] j := rfl

/-- The pipeline's blocks are inside the codes. -/
theorem ok1_of (pf : pre1.Contents (Elt F)) (hr : RangeOK pf) : ok1 pf := fun i => by
  have b0 := i0_lt i
  have b1 := i1_lt i
  have b2 := i2_lt i
  obtain ⟨y, hy⟩ := wd_idx (pf 0) i
  have l1 := hr.el_ge y
  have l2 := hr.el_le y
  have hl := toNat_of (isInt_of rfl) (show (0 : ℤ) ≤ (pf 0 y).toInt by omega)
  rw [← hy] at hl
  have hb : ∀ a : Fin 4, (cc1_transform_0 k1_off1_inb numel1_S1 pf i a + 1) * S1x1x128x896.size a ≤ S4x129x768x896.size a := by
    rw [transform0_eq pf hr i]
    intro a
    match a with
    | 0 => show ((i 0).val + 1) * 1 ≤ 4; omega
    | 1 => show (min (i 1).val (wd (pf 1) i).toNat + 1) * 1 ≤ 129; omega
    | 2 =>
      show (min (if (i 1).val ≤ (wd (pf 1) i).toNat then (i 2).val else 6) (((wd (pf 0) i).toNat - 1) / 128) + 1) * 128 ≤ 768
      rw [hy] at hl ⊢
      omega
    | 3 => show (0 + 1) * 896 ≤ 896; omega
  refine ⟨hb, .inr (.inl (.inr ⟨by decide, rfl, .inl ⟨?_, ?_⟩⟩))⟩
  · exact Dvd.dvd.mul_left (by decide : (4 : ℕ) ∣ 128) _
  · exact (by decide : (4 : ℕ) ∣ 128)

theorem ne_ext (c : BitVec 1) : Scalar.cmpi .ne (Scalar.extui c) (0#32) = 1#1 ↔ c = 1#1 := by revert c; decide

theorem coord_toInt {n : ℕ} (h : n < 2 ^ 31) : (BitVec.ofNat 32 n).toInt = (n : ℤ) := by
  have := lit (e := (n : ℤ)) rfl h
  unfold IsInt at this; exact this

theorem cond1_iff (i : grid1.Coords) : k1_cond1 i = 1#1 ↔ ((i 0).val = 0 ∧ (i 1).val = 0) ∧ (i 2).val = 0 := by
  have b0 := i0_lt i
  have b1 := i1_lt i
  have b2 := i2_lt i
  have hz : ∀ n : ℕ, n < 1000 → (Scalar.cmpi .eq (BitVec.ofNat 32 n) (0#32) = 1#1 ↔ n = 0) := fun n hn => by
    refine (IntOp.cmpi_eq (x := BitVec.ofNat 32 n) (y := 0#32)).trans ⟨fun h => ?_, fun h => by rw [h]⟩
    have := congrArg BitVec.toNat h
    rw [BitVec.toNat_ofNat, BitVec.toNat_ofNat] at this
    omega
  unfold k1_cond1
  dsimp only
  rw [ne_ext]
  refine (IntOp.andi_eq_one).trans (and_congr ((IntOp.andi_eq_one).trans (and_congr (hz _ (by omega)) (hz _ (by omega)))) (hz _ (by omega)))

theorem cond2_iff (i : grid1.Coords) (v9 v13 : BitVec 32) : k1_cond2 i v9 v13 = 1#1 ↔ ((i 1).val : ℤ) ≤ v9.toInt ∧ ((i 2).val : ℤ) * 128 < v13.toInt := by
  have b1 := i1_lt i
  have b2 := i2_lt i
  have hm : (Scalar.muli (BitVec.ofNat 32 (i 2).val) 128#32).toInt = ((i 2).val : ℤ) * 128 := by
    have := Affine.muli (lit (e := ((i 2).val : ℤ)) rfl (by omega)) (lit (n := 128) (e := 128) rfl (by decide)) ⟨rfl, by omega, by omega⟩
    unfold IsInt at this; exact this
  unfold k1_cond2
  dsimp only
  rw [ne_ext]
  refine (IntOp.andi_eq_one).trans (and_congr ((IntOp.cmpi_sle).trans ?_) ((IntOp.cmpi_slt).trans ?_))
  · rw [coord_toInt (by omega)]
  · exact (congrArg (fun z : ℤ => z < v13.toInt) hm).to_iff

theorem cond3_iff (i : grid1.Coords) (v : BitVec 32) : k1_cond3 i v = 1#1 ↔ ((i 1).val : ℤ) < v.toInt := by
  have b1 := i1_lt i
  unfold k1_cond3
  dsimp only
  rw [ne_ext]
  refine (IntOp.cmpi_slt).trans ?_
  rw [coord_toInt (by omega)]

/-- The body's addresses are inside the tables, the weights and the results. -/
theorem tabOK_of (el tl : Vec F S4 .i32) (lab : Vec F S4x128 .i32) (hr : Cert.Pre_pre_int.Hand.InRange lab el tl) (i : grid1.Coords) : TabOK el tl lab i := by
  have b0 := i0_lt i
  have b1 := i1_lt i
  have b2 := i2_lt i
  obtain ⟨x, hx⟩ := wd_idx tl i
  obtain ⟨y, hy⟩ := wd_idx el i
  have t1 := hr.tl_ge x
  have t2 := hr.tl_le x
  have l1 := hr.el_ge y
  rw [← hx] at t1 t2
  rw [← hy] at l1
  have h3lt : k1_cond3 i (wd tl i) = 1#1 → (i 1).val < 128 := fun h => by
    have := (cond3_iff i _).mp h
    omega
  have chk : k1_chk1 i (wd tl i) (wd el i) (wd tl i) := by
   refine ⟨fun h2 h3 => ?_, fun h2 h3 => ?_⟩
   · have := h3lt h3
     intro a
     match a with
     | 0 => show (BitVec.ofNat 32 (i 0).val).toNat + 1 ≤ 4; rw [BitVec.toNat_ofNat]; omega
     | 1 => show (BitVec.ofNat 32 (i 1).val).toNat + 1 ≤ 128; rw [BitVec.toNat_ofNat]; omega
   · have := h3lt h3
     rw [show k1_off9 i = ![(i 1).val, 0, 128 * (i 2).val] from k1_off2_eq i]
     intro a
     match a with
     | 0 => show (i 1).val + 1 ≤ 128; omega
     | 1 => show 0 + 4 ≤ 4; omega
     | 2 => show 128 * (i 2).val + 128 ≤ 768; omega
  refine ⟨chk, fun h2 h3 => ⟨fun _ _ => ?_, fun _ _ => ?_⟩, fun h1 => ?_⟩
  · obtain ⟨z, hz⟩ := wdLab_idx lab i (k1_off6_inb i _ _ _ chk h2 h3)
    have z1 := hr.lab_ge z
    have z2 := hr.lab_lt z
    have z3 := toNat_of (isInt_of (x := lab z) rfl) z1
    rw [hz]
    intro a
    match a with
    | 0 => show (lab z).toNat + 1 ≤ 5024; omega
    | 1 => show 0 + 896 ≤ 896; omega
  · obtain ⟨z, hz⟩ := wdLab_idx lab i (k1_off6_inb i _ _ _ chk h2 h3)
    have z1 := hr.lab_ge z
    have z2 := hr.lab_lt z
    have z3 := toNat_of (isInt_of (x := lab z) rfl) z1
    rw [hz]
    intro a
    match a with
    | 0 => show (lab z).toNat + 1 ≤ 5024; omega
    | 1 => show 0 + 128 ≤ 128; omega
  · obtain ⟨⟨-, e1⟩, e2⟩ := (cond1_iff i).mp h1
    exact (cond2_iff i _ _).mpr ⟨by rw [e1]; omega, by rw [e2]; omega⟩

end Cert.KernelIdeal.Hand

end
-- ==== Proof.RunAllIdeal.lean ====
/- The launch: the program's run at the two calls' proof data, and the frame that follows. -/
module

public import proofs.«01_k».proof.Proof.RunIdeal
public import proofs.«01_k».proof.Proof.TablesIdeal

@[expose] public section

set_option maxHeartbeats 1000000
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg afterRegion)

variable {F : FTy → Type} [FloatOps F] [Named F]

local notation "𝕄" => MT nD τ sig Unit (Elt F) ℕ (UR sig nD τ) ℕ

variable (m : (ℓ : Loc nD τ sig) → Buf (Elt F) ℓ)

theorem hL (g : GSem nD τ sig) (h : g.1.2 ≠ .tc) : Lv g = ∅ := if_neg h

variable (hok : (ok1 (F := F)) (tabs m)) (hT : TabsOK (adm1 m hok))

theorem hu₀ : (ownU (initOf (Pipeline.cells (Pipeline.pin (pcfgs (F := F)) (aAll m hok)) (cellOf_inj (aAll m hok))) (Pipeline.launchToks (Pipeline.pin (pcfgs (F := F)) (aAll m hok)) (cellOf_inj (aAll m hok)))) : sProp 𝕄)
    ⊢ |={Set.univ}=> iprop(BI.own (emb₁ (initOf (Pipeline.cells (Pipeline.pin (pcfgs (F := F)) (aAll m hok)) (cellOf_inj (aAll m hok))) (Pipeline.launchToks (Pipeline.pin (pcfgs (F := F)) (aAll m hok)) (cellOf_inj (aAll m hok))))) ∗ bigSep Finset.univ fun _ : Dev nD => (BI.emp : sProp 𝕄)) := by
  iintro Hu; imodintro
  isplitl [Hu]; · iapply (show (ownU _ : sProp 𝕄) ⊢ BI.own (emb₁ (initOf (Pipeline.cells (Pipeline.pin (pcfgs (F := F)) (aAll m hok)) (cellOf_inj (aAll m hok))) (Pipeline.launchToks (Pipeline.pin (pcfgs (F := F)) (aAll m hok)) (cellOf_inj (aAll m hok))))) from .rfl); iexact Hu
  iapply (show (BI.emp : sProp 𝕄) ⊢ bigSep Finset.univ (fun _ : Dev nD => (BI.emp : sProp 𝕄)) from by rw [BI.bigSep_emp_const])
  iempintro

theorem hE0 (ρ : Dev nD → PrngReg) : iprop((bigSep Finset.univ fun c : Dev nD => iprop(unscopedSems0 c ∗ owes (c : Thread nD τ) (0 : CellTallies nD τ sig Unit) ∅ ∗ Pipeline.launchCred (fun _ => (0 : CellTallies nD τ sig Unit)) c ∗ prngReg c (ρ c) ∗ emp)) ∗ levAts Lv (fun _ _ => (0 : ℕ)))
      ⊢ (|={Set.univ}=> bigSep Finset.univ (EE (F := F) 0) : sProp 𝕄) :=
  Pipeline.initEach (Lv) (fun _ _ => (0 : ℕ)) fun c => by
    unfold EE
    iintro ⟨⟨_, HO, _⟩, _⟩
    imodintro
    iexists ∅
    iexact HO

set_option backward.isDefEq.respectTransparency.types false in
/-- Every execution ends with the buffers at the last valuation, the arguments as launched and the counters at zero. -/
theorem run_main (ρ : Dev nD → PrngReg) :
    θ_run defs (onTc (τ := τ) (main (F := F))) ⟨m, fun _ => 0, ρ⟩ (fun r => (∀ c : Dev nD,
      (∀ b : Ref sig .tc, b.isScoped = false → r.2.mem ((c.tc : Thread nD τ).loc b) = V13 m (outsF m hok hT) c (Proc.devRef .tc b))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine Pipeline.θ_run_regions_kit_dev_sems (pcfgs (F := F)) (aAll m hok) (pdats m hok hT) () (cellOf_inj (aAll m hok)) emb₁ defs₀ Variants.none Lv (fun _ _ => (0 : ℕ)) m ρ main
    (segs m (outsF m hok hT) Variants.none Lv (fun _ _ => (0 : ℕ)) EE () (aAll m hok) (pdats m hok hT) (R0 m hok hT) (R1 m hok hT))
    (fun c Q => by
      rewrite [main_chain c, Seg.run_eq_chain,
        show (segs m (outsF m hok hT) Variants.none Lv (fun _ _ => (0 : ℕ)) EE () (aAll m hok) (pdats m hok hT) (R0 m hok hT) (R1 m hok hT) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) hL (fun _ => BI.emp)
    (initOf (Pipeline.cells (Pipeline.pin (pcfgs (F := F)) (aAll m hok)) (cellOf_inj (aAll m hok))) (Pipeline.launchToks (Pipeline.pin (pcfgs (F := F)) (aAll m hok)) (cellOf_inj (aAll m hok)))) (hu₀ m hok)
    (T₀ := fun c => iprop(StableHlo.held (c : Thread nD τ) (Pipeline.ucRefs τ sig) (V0 m c) ∗ EE (F := F) 0 c))
    (Tₙ := fun c => StableHlo.held (c : Thread nD τ) (Pipeline.ucRefs τ sig) (V13 m (outsF m hok hT) c))
    (hch := fun c => ⟨.rfl, .rfl, .rfl, .rfl, .rfl, .rfl, .rfl, pre0_met m hok hT c, post0_met m hok hT c, .rfl, .rfl, pre1_met m hok hT c, post1_met m hok hT c, sep_mono .rfl .rfl⟩)
    (hinit := ?_) (QY := fun c s => (∀ r : Ref sig .tc, r.isScoped = false → s.mem ((c.tc : Thread nD τ).loc r) = V13 m (outsF m hok hT) c (Proc.devRef .tc r)) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => (0 : CellTallies nD τ sig Unit)) c ∗ prngReg c (ρ c) ∗ emp))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V13 m (outsF m hok hT) c) s') $$ [Hh HSI]
    · isplitl [Hh] <;> iassumption
    icases Hr with ⟨%h, HSI⟩
    imodintro
    isplitr
    · ipureintro
      exact ⟨fun r hr => h (Proc.devRef .tc r) (Finset.mem_filter.mpr ⟨StableHlo.devRef_mem_tcRefs r, fun h' => Bool.false_ne_true (hr.symm.trans h')⟩), (h (Proc.devRef .tc main_arg0) (Finset.mem_filter.mpr ⟨StableHlo.devRef_mem_tcRefs main_arg0, by decide⟩)).trans (V13_main_arg0 m (outsF m hok hT) c),
        (h (Proc.devRef .tc main_arg1) (Finset.mem_filter.mpr ⟨StableHlo.devRef_mem_tcRefs main_arg1, by decide⟩)).trans (V13_main_arg1 m (outsF m hok hT) c),
        (h (Proc.devRef .tc main_arg2) (Finset.mem_filter.mpr ⟨StableHlo.devRef_mem_tcRefs main_arg2, by decide⟩)).trans (V13_main_arg2 m (outsF m hok hT) c),
        (h (Proc.devRef .tc main_arg3) (Finset.mem_filter.mpr ⟨StableHlo.devRef_mem_tcRefs main_arg3, by decide⟩)).trans (V13_main_arg3 m (outsF m hok hT) c),
        (h (Proc.devRef .tc main_arg4) (Finset.mem_filter.mpr ⟨StableHlo.devRef_mem_tcRefs main_arg4, by decide⟩)).trans (V13_main_arg4 m (outsF m hok hT) c),
        (h (Proc.devRef .tc main_arg5) (Finset.mem_filter.mpr ⟨StableHlo.devRef_mem_tcRefs main_arg5, by decide⟩)).trans (V13_main_arg5 m (outsF m hok hT) c),
        (h (Proc.devRef .tc main_arg6) (Finset.mem_filter.mpr ⟨StableHlo.devRef_mem_tcRefs main_arg6, by decide⟩)).trans (V13_main_arg6 m (outsF m hok hT) c),
        (h (Proc.devRef .tc main_arg7) (Finset.mem_filter.mpr ⟨StableHlo.devRef_mem_tcRefs main_arg7, by decide⟩)).trans (V13_main_arg7 m (outsF m hok hT) c)⟩
    · iexact HSI

/-- The tables in range: the run ends with the arguments as launched. -/
theorem frame (hr : RangeOK (tabs m)) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (h.1 c).2, h.2⟩) (run_main m (ok1_of _ hr) (fun i => tabOK_of _ _ _ hr i) ρ)

end Cert.KernelIdeal.Hand

end
-- ==== Proof.Softmax.lean ====
/- The mathematics of the head over the extended reals: the log-sum-exp of a row taken at once, the same taken chunk by
   chunk with a running maximum and base-two exponentials, and the change of base between them. -/
module

public import Idealize.ShloMosaic.PureOps.Ideal
public import Mathlib.Analysis.SpecialFunctions.Pow.Real
public import Mathlib.Analysis.SpecialFunctions.Log.Basic

@[expose] public section

noncomputable section

namespace Cert.Softmax

open Idealize.ShloMosaic

/-- A sum of real numbers, read in the extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- A number that is real or minus infinity. -/
def Low (x : EReal) : Prop := x = ⊥ ∨ ∃ r : ℝ, x = (r : EReal)

/-- The maximum of a family of numbers below infinity, folded from minus infinity, is real or minus infinity. -/
theorem fold_low {ι : Type} (s : Finset ι) (x : ι → EReal) (hx : ∀ i, Low (x i)) : Low (s.fold max ⊥ x) := by
  classical
  induction s using Finset.induction_on with
  | empty => exact Or.inl (by simp)
  | insert a s ha ih =>
    rw [Finset.fold_insert ha]
    rcases hx a with h | ⟨r, h⟩ <;> rcases ih with h' | ⟨r', h'⟩ <;> rw [h, h']
    · exact Or.inl (by simp)
    · exact Or.inr ⟨r', by simp⟩
    · exact Or.inr ⟨r, by simp⟩
    · exact Or.inr ⟨_, coe_max r r'⟩

/-- With one of them real it is real. -/
theorem fold_real {ι : Type} [Fintype ι] (x : ι → EReal) (hx : ∀ i, Low (x i)) (i : ι) {r : ℝ} (hi : x i = (r : EReal)) :
    ∃ M : ℝ, Finset.univ.fold max ⊥ x = (M : EReal) := by
  rcases fold_low Finset.univ x hx with h | h
  · have hle : x i ≤ Finset.univ.fold max ⊥ x := (Finset.le_fold_max _).mpr (Or.inr ⟨i, Finset.mem_univ i, le_refl _⟩)
    rw [h, hi] at hle
    exact absurd (le_bot_iff.mp hle) (EReal.coe_ne_bot r)
  · exact h

theorem exp_coe (r : ℝ) : Ideal.exp (r : EReal) = (Real.exp r : EReal) := rfl
theorem exp2_coe (r : ℝ) : Ideal.exp2 (r : EReal) = (Real.rpow 2 r : EReal) := rfl
theorem exp2_bot : Ideal.exp2 ⊥ = 0 := rfl
theorem log_coe {r : ℝ} (h : 0 < r) : Ideal.log (r : EReal) = (Real.log r : EReal) := if_neg (not_le.mpr h)

/-- The log-sum-exp of a row taken at once: the maximum plus the logarithm of the sum of the shifted exponentials. -/
theorem lse_once {n : ℕ} (hn : 0 < n) (f : Fin n → ℝ) (x : Fin n → EReal) (hx : ∀ i, x i = (f i : EReal)) :
    Finset.univ.fold max ⊥ x + Ideal.log (∑ i, Ideal.exp (x i - Finset.univ.fold max ⊥ x)) = ((Real.log (∑ i, Real.exp (f i)) : ℝ) : EReal) := by
  obtain ⟨M, hM⟩ := fold_real x (fun i => Or.inr ⟨_, hx i⟩) ⟨0, hn⟩ (hx _)
  have hs : (∑ i, Ideal.exp (x i - Finset.univ.fold max ⊥ x)) = ((∑ i, Real.exp (f i - M) : ℝ) : EReal) := by
    rw [← coe_sum]
    refine Finset.sum_congr rfl fun i _ => ?_
    rw [hM, hx, ← EReal.coe_sub, exp_coe]
  have hne : (Finset.univ : Finset (Fin n)).Nonempty := ⟨⟨0, hn⟩, Finset.mem_univ _⟩
  have hpos : 0 < ∑ i, Real.exp (f i - M) := Finset.sum_pos (fun i _ => Real.exp_pos _) hne
  rw [hs, hM, log_coe hpos, ← EReal.coe_add]
  congr 1
  have he : ∑ i, Real.exp (f i) = Real.exp M * ∑ i, Real.exp (f i - M) := by
    rw [Finset.mul_sum]
    refine Finset.sum_congr rfl fun i _ => ?_
    rw [← Real.exp_add]; congr 1; ring
  rw [he, Real.log_mul (Real.exp_pos M).ne' hpos.ne', Real.log_exp]

/-- The running pair stands for the sum `A` of base-two powers taken so far. -/
def Stands (m s : EReal) (A : ℝ) : Prop :=
  (m = ⊥ ∧ s = 0 ∧ A = 0) ∨ ∃ M S : ℝ, m = (M : EReal) ∧ s = (S : EReal) ∧ S * Real.rpow 2 M = A

/-- The power of two of a number that is real or minus infinity. -/
def pow2 (x : EReal) : ℝ := (Ideal.exp2 x).toReal

theorem pow2_bot : pow2 ⊥ = 0 := by unfold pow2; rw [exp2_bot]; rfl
theorem pow2_coe (r : ℝ) : pow2 (r : EReal) = Real.rpow 2 r := by unfold pow2; rw [exp2_coe]; rfl

theorem rpow2_mul (a b : ℝ) : Real.rpow 2 a * Real.rpow 2 b = Real.rpow 2 (a + b) := (Real.rpow_add (by norm_num : (0 : ℝ) < 2) a b).symm
theorem rpow2_pos (a : ℝ) : 0 < Real.rpow 2 a := Real.rpow_pos_of_pos (by norm_num) a

/-- One chunk of the running pair. -/
theorem stands_step {ι : Type} [Fintype ι] {m s : EReal} {A : ℝ} (h : Stands m s A) (x : ι → EReal) (hx : ∀ i, Low (x i)) (i₀ : ι) {r₀ : ℝ} (h₀ : x i₀ = (r₀ : EReal)) :
    (∃ N S : ℝ, max m (Finset.univ.fold max ⊥ x) = (N : EReal)
      ∧ s * Ideal.exp2 (m - max m (Finset.univ.fold max ⊥ x)) + ∑ i, Ideal.exp2 (x i - max m (Finset.univ.fold max ⊥ x)) = (S : EReal)
      ∧ S * Real.rpow 2 N = A + ∑ i, pow2 (x i)) := by
  obtain ⟨C, hC⟩ := fold_real x hx i₀ h₀
  have key : ∀ N : ℝ, (∑ i, Ideal.exp2 (x i - (N : EReal))) = ((∑ i, pow2 (x i) * Real.rpow 2 (-N) : ℝ) : EReal) := fun N => by
    rw [← coe_sum]
    refine Finset.sum_congr rfl fun i _ => ?_
    rcases hx i with h | ⟨r, h⟩
    · rw [h, pow2_bot, EReal.bot_sub, exp2_bot, zero_mul, EReal.coe_zero]
    · rw [h, pow2_coe, rpow2_mul, ← EReal.coe_sub, exp2_coe, sub_eq_add_neg]
  rw [hC]
  rcases h with ⟨hm, hs, hA⟩ | ⟨M, S, hm, hs, hA⟩
  · refine ⟨C, ∑ i, pow2 (x i) * Real.rpow 2 (-C), by rw [hm]; simp, ?_, ?_⟩
    · rw [hm, hs, zero_mul, zero_add, bot_sup_eq, key]
    · rw [← Finset.sum_mul, mul_assoc, rpow2_mul, neg_add_cancel, hA, zero_add]
      have : Real.rpow 2 0 = 1 := Real.rpow_zero 2
      rw [this, mul_one]
  · refine ⟨max M C, S * Real.rpow 2 (M - max M C) + ∑ i, pow2 (x i) * Real.rpow 2 (-max M C), by rw [hm, coe_max], ?_, ?_⟩
    · rw [hm, hs, coe_max, key, ← EReal.coe_sub, exp2_coe, ← EReal.coe_mul, ← EReal.coe_add]
    · have e0 : Real.rpow 2 0 = 1 := Real.rpow_zero 2
      rw [← Finset.sum_mul, add_mul, mul_assoc, rpow2_mul, mul_assoc, rpow2_mul, neg_add_cancel, e0, mul_one, sub_add_cancel, hA]

/-- The running pair's base-two log-sum-exp. -/
theorem lse2_of {N S A : ℝ} (hS : S * Real.rpow 2 N = A) (hA : 0 < A) :
    (N : EReal) + Ideal.log (S : EReal) * (((Real.log 2)⁻¹ : ℝ) : EReal) = ((Real.log A * (Real.log 2)⁻¹ : ℝ) : EReal) := by
  have hp := rpow2_pos N
  have hSp : 0 < S := by
    by_contra hc
    have := mul_nonpos_of_nonpos_of_nonneg (not_lt.mp hc) hp.le
    rw [hS] at this
    exact absurd hA (not_lt.mpr this)
  have hl : Real.log 2 ≠ 0 := (Real.log_pos (by norm_num)).ne'
  rw [log_coe hSp, ← EReal.coe_mul, ← EReal.coe_add]
  congr 1
  have e : Real.log (Real.rpow 2 N) = N * Real.log 2 := Real.log_rpow (by norm_num) N
  rw [← hS, Real.log_mul hSp.ne' hp.ne', e]
  field_simp
  ring

/-- A base-two power of a logit in base two is the logit's exponential. -/
theorem rpow2_log (L : ℝ) : Real.rpow 2 (L * (Real.log 2)⁻¹) = Real.exp L := by
  have hl : Real.log 2 ≠ 0 := (Real.log_pos (by norm_num)).ne'
  have : Real.rpow 2 (L * (Real.log 2)⁻¹) = Real.exp (Real.log 2 * (L * (Real.log 2)⁻¹)) := Real.rpow_def_of_pos (by norm_num) _
  rw [this]; congr 1; field_simp

/-- Back from base two: the difference of a logit and the log-sum-exp. -/
theorem back (L A : ℝ) : (((L * (Real.log 2)⁻¹ : ℝ) : EReal) - ((A * (Real.log 2)⁻¹ : ℝ) : EReal)) * ((Real.log 2 : ℝ) : EReal) = ((L - A : ℝ) : EReal) := by
  have hl : Real.log 2 ≠ 0 := (Real.log_pos (by norm_num)).ne'
  rw [← EReal.coe_sub, ← EReal.coe_mul]; congr 1; field_simp

end Cert.Softmax

end
-- ==== Proof.Row.lean ====
module

public import proofs.«01_k».proof.Proof.BodyIdeal
public import proofs.«01_k».proof.Proof.Softmax
public import Idealize.ShloMosaic.Lib.Pointwise
public import Idealize.ShloMosaic.PureOps.IdealRules

@[expose] public section

set_option maxHeartbeats 1000000
set_option maxRecDepth 16384

noncomputable section

namespace Cert.KernelIdeal.Hand

open Cert.KernelIdeal Cert.KernelIdeal.Gen Cert.Softmax
open Idealize.ShloMosaic

/-- The number that turns natural logarithms into base-two ones. -/
abbrev K2 : ℝ := (Real.log 2)⁻¹

theorem named_log2e : (Named.named (F := Ideal) κ "log2e" (φ := .f32) 1069066811#32 : EReal) = ((K2 : ℝ) : EReal) := IdealRules.named_const.ideal_named_scalar _ _ _ _ rfl
theorem named_ln2 : (Named.named (F := Ideal) κ "ln2" (φ := .f32) 1060205080#32 : EReal) = ((Real.log 2 : ℝ) : EReal) := IdealRules.named_const.ideal_named_scalar _ _ _ _ rfl
theorem named_neg : (Named.named (F := Ideal) κ "neg" (φ := .f32) 4048155338#32 : EReal) = ⊥ := IdealRules.named_const.ideal_named_scalar _ _ _ _ rfl
theorem ofBits_bot : Ideal.ofBits .f32 4286578688#32 = ⊥ := by simp [Ideal.ofBits, Ideal.ieee]

/-- The compare-and-select on words, as an `if` on numbers. -/
theorem sel_eq {α : Type} {n : ℕ} (hn : n ≤ 1000) (a b : Fin n) (x y : α) :
    Scalar.select (IntOp.cmpi .eq (BitVec.ofNat 32 a.val) (BitVec.ofNat 32 b.val)) x y = if a = b then x else y := by
  have : (BitVec.ofNat 32 a.val = BitVec.ofNat 32 b.val) ↔ a = b := by
    rw [← BitVec.toNat_inj, BitVec.toNat_ofNat, BitVec.toNat_ofNat, Nat.mod_eq_of_lt (by omega), Nat.mod_eq_of_lt (by omega), Fin.ext_iff]
  unfold Scalar.select IntOp.cmpi
  by_cases h : a = b
  · subst h; simp
  · have h' := fun e => h (this.mp e)
    rw [if_neg h, show (BitVec.ofNat 32 a.val == BitVec.ofNat 32 b.val) = false from beq_eq_false_iff_ne.mpr h']
    rfl

theorem sel_slt {α : Type} (a b : BitVec 32) (x y : α) :
    Scalar.select (IntOp.cmpi .slt a b) x y = if a.toInt < b.toInt then x else y := by
  unfold Scalar.select IntOp.cmpi
  by_cases h : a.toInt < b.toInt <;> simp [BitVec.slt, h]

theorem pay7_apply (x : Vec Ideal S1x1x128x896 .fp8e4m3) (l : Fin 128) (j : Fin 896) : k1_pay7 x (ix2 l j) = x (ix4 0 0 l j) := by
  dsimp only [k1_pay7]
  simp only [pointwise]

theorem pay8_apply (r : Fin 4) (x : Vec Ideal S1x4x128 .f32) (l : Fin 128) : k1_pay8 (BitVec.ofNat 32 r.val) x (ix2 0 l) = x (ix3 0 r l) := by
  dsimp only [k1_pay8]
  simp only [pointwise]
  simp only [List.foldl, zero_mul, zero_add]
  show ∑ k : Fin 4, Scalar.select (IntOp.cmpi .eq (BitVec.ofNat 32 k.val) (BitVec.ofNat 32 r.val)) (x (ix3 0 k l)) 0 = _
  simp only [sel_eq (n := 4) (by norm_num)]
  simp

theorem pay9_apply (r : Fin 4) (x : Vec Ideal S1x4x128 .f32) (l : Fin 128) : k1_pay9 (BitVec.ofNat 32 r.val) x (ix2 0 l) = x (ix3 0 r l) * ((K2 : ℝ) : EReal) := by
  dsimp only [k1_pay9]
  simp only [pointwise]
  rw [pay8_apply, named_log2e]

theorem pay12_apply (a v22) (x : Vec Ideal S1x1x128x896 .fp8e4m3) (w ws b) (r : Fin 256) (l : Fin 128) :
    k1_pay12 a x v22 w ws b (ix2 r l) = (0 + ∑ k, w (ix2 r k) * x (ix4 0 0 l k)) * ws (ix2 r l) * k1_pay9 a v22 (ix2 0 l) + b (ix2 r l) * ((K2 : ℝ) : EReal) := by
  dsimp only [k1_pay12]
  simp only [pointwise, named_log2e, pay7_apply]
  rfl

theorem pay15_apply (a v22) (x : Vec Ideal S1x1x128x896 .fp8e4m3) (w ws b) (r : Fin 160) (l : Fin 128) :
    k1_pay15 a x v22 w ws b (ix2 r l) = (0 + ∑ k, w (ix2 r k) * x (ix4 0 0 l k)) * ws (ix2 r l) * k1_pay9 a v22 (ix2 0 l) + b (ix2 r l) * ((K2 : ℝ) : EReal) := by
  dsimp only [k1_pay15]
  simp only [pointwise, named_log2e, pay7_apply]
  rfl

theorem pay13_apply (a v22 m) (x : Vec Ideal S1x1x128x896 .fp8e4m3) (w ws b) (l : Fin 128) :
    k1_pay13 a x v22 m w ws b (ix2 0 l) = max (m (ix2 0 l)) (Finset.univ.fold max ⊥ fun k : Fin 256 => k1_pay12 a x v22 w ws b (ix2 k l)) := by
  dsimp only [k1_pay13]
  simp only [pointwise, ofBits_bot]

theorem pay14_apply (a v22 m s) (x : Vec Ideal S1x1x128x896 .fp8e4m3) (w ws b) (l : Fin 128) :
    k1_pay14 a x v22 m s w ws b (ix2 0 l) = s (ix2 0 l) * Ideal.exp2 (m (ix2 0 l) - k1_pay13 a x v22 m w ws b (ix2 0 l))
      + ∑ k : Fin 256, Ideal.exp2 (k1_pay12 a x v22 w ws b (ix2 k l) - k1_pay13 a x v22 m w ws b (ix2 0 l)) := by
  dsimp only [k1_pay14]
  simp only [pointwise]
  rfl

/-- The last chunk with the rows beyond the vocabulary at minus infinity. -/
def tailCut (t : FVec Ideal S160x128 .f32) (l : Fin 128) (k : Fin 160) : EReal := if k.val < 136 then t (ix2 k l) else ⊥

theorem mask_eq (t : FVec Ideal S160x128 .f32) (l : Fin 128) (k : Fin 160) :
    Scalar.select (k1_pay16 (ix2 k l)) (t (ix2 k l)) (k1_pay17 (F := Ideal) (ix2 k l)) = tailCut t l k := by
  dsimp only [k1_pay17, k1_pay16]
  simp only [pointwise, named_neg, sel_slt]
  simp only [List.foldl, zero_mul, zero_add]
  unfold tailCut
  show (if (BitVec.ofNat 32 k.val).toInt < (136#32).toInt then _ else _) = _
  have h1 : (BitVec.ofNat 32 k.val).toInt = (k.val : ℤ) := by
    rw [BitVec.toInt_eq_toNat_of_lt (by rw [BitVec.toNat_ofNat]; omega), BitVec.toNat_ofNat]; omega
  rw [h1, show (136#32).toInt = 136 from rfl]
  by_cases h : k.val < 136
  · rw [if_pos h, if_pos (by omega)]
  · rw [if_neg h, if_neg (by omega)]

theorem pay18_apply (m s : FVec Ideal S1x128 .f32) (t) (l : Fin 128) :
    k1_pay18 (F := Ideal) m s t k1_pay16 k1_pay17 (ix2 0 l)
      = max (m (ix2 0 l)) (Finset.univ.fold max ⊥ (tailCut t l))
        + Ideal.log (s (ix2 0 l) * Ideal.exp2 (m (ix2 0 l) - max (m (ix2 0 l)) (Finset.univ.fold max ⊥ (tailCut t l)))
            + ∑ k, Ideal.exp2 (tailCut t l k - max (m (ix2 0 l)) (Finset.univ.fold max ⊥ (tailCut t l)))) * ((K2 : ℝ) : EReal) := by
  rw [show tailCut t l = fun k => Scalar.select (k1_pay16 (ix2 k l)) (t (ix2 k l)) (k1_pay17 (F := Ideal) (ix2 k l)) from funext fun k => (mask_eq t l k).symm]
  dsimp only [k1_pay18]
  simp only [pointwise, ofBits_bot, named_log2e]
  rfl

theorem pay19_apply (a v) (l : Fin 128) : k1_pay19 (F := Ideal) (BitVec.ofNat 32 a) v (ix2 0 l) = IntOp.cmpi .slt (BitVec.ofNat 32 (128 * a + l.val)) v := by
  dsimp only [k1_pay19]
  simp only [pointwise]
  simp only [List.foldl, zero_mul, zero_add]
  show IntOp.cmpi .slt (BitVec.ofNat 32 a * 128#32 + BitVec.ofNat 32 l.val) v = _
  congr 1
  apply BitVec.eq_of_toNat_eq
  simp only [BitVec.toNat_add, BitVec.toNat_mul, BitVec.toNat_ofNat]
  omega

theorem pay20_apply (a2 : ℕ) (v19 v32 m s t v52 v53 el w ws b) (l : Fin 128) :
    k1_pay20 (F := Ideal) (BitVec.ofNat 32 a2) v19 v32 m s t v52 v53 el w ws b (ix2 0 l)
      = if (BitVec.ofNat 32 (128 * a2 + l.val)).toInt < el.toInt then
          ((0 + ∑ k, w (ix2 0 k) * v19 (ix2 l k)) * ws (ix2 0 l) * v32 (ix2 0 l) + b (ix2 0 l) * ((K2 : ℝ) : EReal)
            - k1_pay18 m s t v52 v53 (ix2 0 l)) * ((Real.log 2 : ℝ) : EReal)
        else 0 := by
  dsimp only [k1_pay20]
  simp only [pointwise, named_log2e, named_ln2, pay19_apply, sel_slt]
  have e : ∀ h, (⟨(![0, 0] : Fin 2 → ℕ) 1 + l.val, h⟩ : Fin 128) = l := fun h => Fin.ext (Nat.zero_add _)
  simp only [e]
  rfl

theorem pay21_apply (a : Fin 4) (v97 v100) (q : Fin 4) (l : Fin 128) :
    k1_pay21 (F := Ideal) (BitVec.ofNat 32 a.val) v97 v100 (ix3 0 q l) = if q = a then v97 (ix2 0 l) else v100 (ix3 0 q l) := by
  dsimp only [k1_pay21]
  simp only [pointwise]
  simp only [List.foldl, zero_mul, zero_add]
  exact sel_eq (n := 4) (by norm_num) q a _ _

theorem pay22_apply (a : Fin 4) (a2 : ℕ) (v19 v30) (el : BitVec 32) (wl bm o) (q : Fin 4) (l : Fin 128) :
    k1_pay22 (F := Ideal) (BitVec.ofNat 32 a.val) v19 v30 (k1_pay19 (F := Ideal) (BitVec.ofNat 32 a2) el) wl bm o (ix3 0 q l)
      = if q = a then
          (if (BitVec.ofNat 32 (128 * a2 + l.val)).toInt < el.toInt then
            (0 + ∑ k, wl (ix2 0 k) * v19 (ix2 l k) + (0 + ∑ k, wl (ix2 1 k) * v19 (ix2 l k)) + (0 + ∑ k, wl (ix2 2 k) * v19 (ix2 l k)))
                * v30 (ix2 0 l) * Ideal.ofBits .f32 961656599#32 + bm
          else 0)
        else o (ix3 0 q l) := by
  dsimp only [k1_pay22]
  simp only [pointwise]
  simp only [List.foldl, zero_mul, zero_add]
  refine (sel_eq (n := 4) (by norm_num) q a _ _).trans ?_
  refine congrArg (fun t => if q = a then t else o (ix3 0 q l)) ?_
  rw [← sel_slt, ← pay19_apply]
  have e : (⟨0 + l.val, by omega⟩ : Fin 128) = l := Fin.ext (Nat.zero_add _)
  generalize Ideal.ofBits .f32 961656599#32 = cv
  generalize k1_pay19 (F := Ideal) (BitVec.ofNat 32 a2) el = p
  refine Eq.trans (b := Scalar.select (p (ix2 0 l))
    ((∑ k, wl (ix2 0 k) * v19 (ix2 ⟨0 + l.val, by omega⟩ k) + (∑ k, wl (ix2 1 k) * v19 (ix2 ⟨0 + l.val, by omega⟩ k)) + (∑ k, wl (ix2 2 k) * v19 (ix2 ⟨0 + l.val, by omega⟩ k)))
                * v30 (ix2 0 l) * cv + bm) 0) rfl ?_
  simp only [e, zero_add]

theorem pay6_apply (i : grid1.Coords) (a2 : ℕ) (v19 v32 lse) (el : BitVec 32) (w ws b o) (q : Fin 4) (l : Fin 128) :
    k1_pay6 (F := Ideal) i v19 v32 lse (k1_pay19 (F := Ideal) (BitVec.ofNat 32 a2) el) w ws b o (ix3 0 q l)
      = if q = (show Fin 4 from i 0) then
          (if (BitVec.ofNat 32 (128 * a2 + l.val)).toInt < el.toInt then
            ((0 + ∑ k, w (ix2 0 k) * v19 (ix2 l k)) * ws (ix2 0 l) * v32 (ix2 0 l) + b (ix2 0 l) * ((K2 : ℝ) : EReal)
              - lse (ix2 0 l)) * ((Real.log 2 : ℝ) : EReal)
          else 0)
        else o (ix3 0 q l) := by
  dsimp only [k1_pay6]
  simp only [pointwise, named_log2e, named_ln2]
  simp only [List.foldl, zero_mul, zero_add]
  refine (sel_eq (n := 4) (by norm_num) q (show Fin 4 from i 0) _ _).trans ?_
  refine congrArg (fun t => if q = (show Fin 4 from i 0) then t else o (ix3 0 q l)) ?_
  rw [← sel_slt, ← pay19_apply]
  have e : (⟨0 + l.val, by omega⟩ : Fin 128) = l := Fin.ext (Nat.zero_add _)
  generalize k1_pay19 (F := Ideal) (BitVec.ofNat 32 a2) el = p
  refine Eq.trans (b := Scalar.select (p (ix2 0 l))
    (((∑ k, w (ix2 0 k) * v19 (ix2 ⟨0 + l.val, by omega⟩ k)) * ws (ix2 0 l) * v32 (ix2 0 l) + b (ix2 0 l) * ((K2 : ℝ) : EReal)
              - lse (ix2 0 l)) * ((Real.log 2 : ℝ) : EReal)) 0) rfl ?_
  simp only [e, zero_add]

theorem pay5_apply (x) (j : Fin 896) : k1_pay5 (F := Ideal) x (ix2 0 j) = x (ix2 0 j) := by
  dsimp only [k1_pay5]
  simp only [pointwise]
-- ==== Proof.Lane.lean ====
module

public import proofs.«01_k».proof.Proof.Row

@[expose] public section

set_option maxHeartbeats 1000000
set_option maxRecDepth 16384

noncomputable section

namespace Cert.KernelIdeal.Hand

open Cert.KernelIdeal Cert.KernelIdeal.Gen Cert.Softmax
open Idealize.ShloMosaic

/-- A window read at an index is the array at the index shifted by the offsets. -/
theorem ld_at {s : Shape} {e : EltTy} (X : Vec Ideal s e) (off size : Fin s.rank → ℕ) (inb : ∀ a, off a + size a ≤ s.size a)
    (j : (Rect.unit (s := s) off size inb).shape.Idx) {off' : Fin s.rank → ℕ} (hoff : off = off') (i : s.Idx) (h : ∀ a, off' a + (j a).val = (i a).val) :
    View.ld (Val := Elt Ideal) (e' := e) X (Rect.unit (s := s) off size inb) j = X i :=
  congrArg X (funext fun a => Fin.ext (by
    show off a + 1 * (j a).val = (i a).val
    rw [one_mul]; exact (congrArg (· + (j a).val) (congrFun hoff a)).trans (h a)))

/-- The vocabulary logit of one encoder step against one row of the weight. -/
def logit (z : Fin 896 → ℝ) (zs : ℝ) (w : Fin 896 → ℝ) (ws b : ℝ) : ℝ := (∑ j, z j * w j) * zs * ws + b

/-- What the body reads at one lane of a grid point, as real numbers. -/
structure Lane (i : grid1.Coords) (X : HeadIn Ideal) (l : Fin 128) (z : Fin 896 → ℝ) (zs : ℝ) (w : ℕ → Fin 896 → ℝ) (ws b : ℕ → ℝ) : Prop where
  hz : ∀ j, X.z (ix4 0 0 l j) = ((z j : ℝ) : EReal)
  hzs : X.zs (ix3 (show Fin 129 from i 1) (show Fin 4 from i 0) ⟨128 * (i 2).val + l.val, by have : (i 2).val < 6 := (i 2).isLt; omega⟩) = ((zs : ℝ) : EReal)
  hw : ∀ (v : Fin 5024) j, X.w (ix2 v j) = ((w v.val j : ℝ) : EReal)
  hws : ∀ v : Fin 5024, X.ws (ix2 v l) = ((ws v.val : ℝ) : EReal)
  hb : ∀ v : Fin 5024, X.b2 (ix2 v l) = ((b v.val : ℝ) : EReal)

theorem coe_dot (f g : Fin 896 → ℝ) : ∑ j, ((f j : ℝ) : EReal) * ((g j : ℝ) : EReal) = ((∑ j, f j * g j : ℝ) : EReal) := by
  rw [← coe_sum]; exact Finset.sum_congr rfl fun j _ => (EReal.coe_mul _ _).symm

section
variable {i : grid1.Coords} {X : HeadIn Ideal} {l : Fin 128} {z : Fin 896 → ℝ} {zs : ℝ} {w : ℕ → Fin 896 → ℝ} {ws b : ℕ → ℝ} (H : Lane i X l z zs w ws b)

/-- The logits of the lane over the vocabulary. -/
abbrev lg (z : Fin 896 → ℝ) (zs : ℝ) (w : ℕ → Fin 896 → ℝ) (ws b : ℕ → ℝ) (v : ℕ) : ℝ := logit z zs (w v) (ws v) (b v)

/-- The kernel's base-two logit, in its own order of factors, is the logit times the constant. -/
theorem scaled (f g : Fin 896 → ℝ) (c zs d : ℝ) :
    (0 + ∑ k, ((f k : ℝ) : EReal) * ((g k : ℝ) : EReal)) * ((c : ℝ) : EReal) * (((zs : ℝ) : EReal) * ((K2 : ℝ) : EReal)) + ((d : ℝ) : EReal) * ((K2 : ℝ) : EReal)
      = ((logit g zs f c d * K2 : ℝ) : EReal) := by
  rw [zero_add, coe_dot, ← EReal.coe_mul, ← EReal.coe_mul, ← EReal.coe_mul, ← EReal.coe_mul, ← EReal.coe_add]
  congr 1
  have : ∑ j, f j * g j = ∑ j, g j * f j := Finset.sum_congr rfl fun j _ => mul_comm _ _
  unfold logit
  rw [this]; ring

theorem v18_apply (l : Fin 128) (j : Fin 896) : v18 X (ix4 0 0 l j) = X.z (ix4 0 0 l j) :=
  ld_at X.z _ _ _ _ rfl _ (by intro a; exact (by fin_cases a <;> exact Nat.zero_add _))

theorem v22_apply (q : Fin 4) (l : Fin 128) :
    v22 i X (ix3 0 q l) = X.zs (ix3 (show Fin 129 from i 1) q ⟨128 * (i 2).val + l.val, by have : (i 2).val < 6 := (i 2).isLt; omega⟩) :=
  ld_at X.zs _ _ _ _ (k1_off2_eq i) _ (by
    intro a
    fin_cases a
    · rfl
    · exact Nat.zero_add _
    · rfl)

theorem a0_eq (i : grid1.Coords) : a0 i = BitVec.ofNat 32 (show Fin 4 from i 0).val := rfl

include H

theorem zl (j : Fin 896) : k1_pay7 (v18 X) (ix2 l j) = ((z j : ℝ) : EReal) := by rw [pay7_apply, v18_apply, H.hz]
theorem zsl : k1_pay8 (a0 i) (v22 i X) (ix2 0 l) = ((zs : ℝ) : EReal) := by rw [a0_eq, pay8_apply, v22_apply, H.hzs]
theorem zs2 : k1_pay9 (a0 i) (v22 i X) (ix2 0 l) = ((zs : ℝ) : EReal) * ((K2 : ℝ) : EReal) := by rw [a0_eq, pay9_apply, v22_apply, H.hzs]

/-- A row of the chunk at row `o` of the vocabulary. -/
theorem chunk_row (k : Fin k1_t1_loop.trips) (r : Fin 256) :
    k1_pay12 (a0 i) (v18 X) (v22 i X)
        (View.ld (Val := Elt Ideal) (e' := .fp8e4m3) X.w (Rect.unit (s := S5024x896) (k1_off3 k) S256x896.size (k1_off3_inb k)))
        (View.ld (Val := Elt Ideal) (e' := .f32) X.ws (Rect.unit (s := S5024x128) (k1_off4 k) S256x128.size (k1_off4_inb k)))
        (View.ld (Val := Elt Ideal) (e' := .f32) X.b2 (Rect.unit (s := S5024x128) (k1_off4 k) S256x128.size (k1_off4_inb k))) (ix2 r l)
      = ((lg z zs w ws b (256 * k.val + r.val) * K2 : ℝ) : EReal) := by
  have hk : k.val < 19 := k.isLt
  have hv : 256 * k.val + r.val < 5024 := by omega
  have e3 : ∀ j, View.ld (Val := Elt Ideal) (e' := .fp8e4m3) X.w (Rect.unit (s := S5024x896) (k1_off3 k) S256x896.size (k1_off3_inb k)) (ix2 r j) = ((w (256 * k.val + r.val) j : ℝ) : EReal) := fun j =>
    (ld_at X.w _ _ _ _ (k1_off3_eq k) (ix2 ⟨_, hv⟩ j) (by
      intro a; fin_cases a
      · rfl
      · exact Nat.zero_add _)).trans (H.hw ⟨_, hv⟩ j)
  have e4 : ∀ Y : Vec Ideal S5024x128 .f32, View.ld (Val := Elt Ideal) (e' := .f32) Y (Rect.unit (s := S5024x128) (k1_off4 k) S256x128.size (k1_off4_inb k)) (ix2 r l) = Y (ix2 ⟨_, hv⟩ l) := fun Y =>
    ld_at Y _ _ _ _ (k1_off4_eq k) (ix2 ⟨_, hv⟩ l) (by
      intro a; fin_cases a
      · rfl
      · exact Nat.zero_add _)
  rw [pay12_apply, zs2 H, e4, e4, H.hws, H.hb]
  simp only [e3, v18_apply, H.hz]
  exact scaled _ _ _ _ _

theorem tail_row (r : Fin 160) : tailv i X (ix2 r l) = ((lg z zs w ws b (4864 + r.val) * K2 : ℝ) : EReal) := by
  have hv : 4864 + r.val < 5024 := by omega
  have e3 : ∀ j, View.ld (Val := Elt Ideal) (e' := .fp8e4m3) X.w (Rect.unit (s := S5024x896) ![4864, 0] S160x896.size inb_S5024x896_S160x896_4864_0) (ix2 r j) = ((w (4864 + r.val) j : ℝ) : EReal) := fun j =>
    (ld_at X.w _ _ _ _ rfl (ix2 ⟨_, hv⟩ j) (by
      intro a; fin_cases a
      · rfl
      · exact Nat.zero_add _)).trans (H.hw ⟨_, hv⟩ j)
  have e4 : ∀ Y : Vec Ideal S5024x128 .f32, View.ld (Val := Elt Ideal) (e' := .f32) Y (Rect.unit (s := S5024x128) ![4864, 0] S160x128.size inb_S5024x128_S160x128_4864_0) (ix2 r l) = Y (ix2 ⟨_, hv⟩ l) := fun Y =>
    ld_at Y _ _ _ _ rfl (ix2 ⟨_, hv⟩ l) (by
      intro a; fin_cases a
      · rfl
      · exact Nat.zero_add _)
  unfold tailv
  rw [pay15_apply, zs2 H, e4, e4, H.hws, H.hb]
  simp only [e3, v18_apply, H.hz]
  exact scaled _ _ _ _ _

/-- The running pair stands for the exponentials of the logits of the chunks taken. -/
theorem lp_stands (k : ℕ) (hk : k ≤ 19) :
    Stands ((lp i X k).1 (ix2 0 l)) ((lp i X k).2 (ix2 0 l)) (∑ v ∈ Finset.range (256 * k), Real.exp (lg z zs w ws b v)) := by
  induction k with
  | zero =>
    refine Or.inl ⟨?_, ?_, by simp⟩
    · show k1_pay10 (F := Ideal) (ix2 0 l) = ⊥
      exact named_neg
    · show k1_pay11 (F := Ideal) (ix2 0 l) = 0
      dsimp only [k1_pay11]
      simp only [pointwise]
  | succ k ih =>
    have hk' : k < k1_t1_loop.trips := (show k < 19 by omega)
    have h := ih (by omega)
    rw [lp, dif_pos hk']
    have hrow := chunk_row H ⟨k, hk'⟩
    obtain ⟨N, S, h1, h2, h3⟩ := stands_step h (fun r : Fin 256 => ((lg z zs w ws b (256 * k + r.val) * K2 : ℝ) : EReal)) (fun r => Or.inr ⟨_, rfl⟩) 0 rfl
    refine Or.inr ⟨N, S, ?_, ?_, ?_⟩
    · refine (pay13_apply _ _ _ _ _ _ _ _).trans ?_; simp only [hrow]; exact h1
    · refine (pay14_apply _ _ _ _ _ _ _ _ _).trans ?_; rw [pay13_apply]; simp only [hrow]; exact h2
    · rw [h3, show 256 * (k + 1) = 256 * k + 256 by ring, Finset.sum_range_add]
      congr 1
      rw [Finset.sum_range]
      exact Finset.sum_congr rfl fun r _ => by rw [pow2_coe]; exact rpow2_log _

/-- The lane's log-sum-exp in base two. -/
theorem lse_eq : lse i X (ix2 0 l) = ((Real.log (∑ v ∈ Finset.range 5000, Real.exp (lg z zs w ws b v)) * K2 : ℝ) : EReal) := by
  have h := lp_stands H 19 le_rfl
  have hcut : ∀ k : Fin 160, tailCut (tailv i X) l k = if k.val < 136 then ((lg z zs w ws b (4864 + k.val) * K2 : ℝ) : EReal) else ⊥ := fun k => by
    unfold tailCut; rw [tail_row H]
  have hc0 : tailCut (tailv i X) l 0 = ((lg z zs w ws b (4864 + 0) * K2 : ℝ) : EReal) := by rw [hcut]; rfl
  obtain ⟨N, S, h1, h2, h3⟩ := stands_step h (tailCut (tailv i X) l) (fun k => by
    rw [hcut]; split_ifs
    · exact Or.inr ⟨_, rfl⟩
    · exact Or.inl rfl) 0 hc0
  unfold lse
  rw [pay18_apply]
  have e19 : k1_t1_loop.trips = 19 := rfl
  rw [e19, h2, h1]
  refine lse2_of (h3.trans ?_) ?_
  · rw [show 5000 = 256 * 19 + 136 by norm_num, Finset.sum_range_add]
    refine congrArg (_ + ·) ?_
    have hp : ∀ k : Fin 160, pow2 (tailCut (tailv i X) l k) = (fun k : ℕ => if k < 136 then Real.exp (lg z zs w ws b (4864 + k)) else 0) k.val := fun k => by
      rw [hcut]
      show _ = if k.val < 136 then _ else _
      split_ifs
      · rw [pow2_coe]; exact rpow2_log _
      · exact pow2_bot
    refine (Finset.sum_congr rfl fun k _ => hp k).trans ?_
    refine (Finset.sum_range (fun k : ℕ => if k < 136 then Real.exp (lg z zs w ws b (4864 + k)) else 0)).symm.trans ?_
    rw [show 160 = 136 + 24 by norm_num, Finset.sum_range_add]
    rw [Finset.sum_congr rfl fun k hk => if_pos (Finset.mem_range.mp hk), Finset.sum_eq_zero (s := Finset.range 24) fun k _ => if_neg (by omega), add_zero]
  · exact Finset.sum_pos (fun _ _ => Real.exp_pos _) ⟨0, by simp⟩

/-- The lane's blank log-probability, or zero beyond the encoder's length. -/
theorem blank_eq : blank i X (ix2 0 l)
    = if (BitVec.ofNat 32 (128 * (i 2).val + l.val)).toInt < (wd X.el i).toInt then
        ((lg z zs w ws b 0 - Real.log (∑ v ∈ Finset.range 5000, Real.exp (lg z zs w ws b v)) : ℝ) : EReal) else 0 := by
  unfold blank
  have hl := lse_eq H
  unfold lse at hl
  have e3 : ∀ j, View.ld (Val := Elt Ideal) (e' := .fp8e4m3) X.w (Rect.unit (s := S5024x896) ![0, 0] S32x896.size inb_S5024x896_S32x896_0_0) (ix2 0 j) = ((w 0 j : ℝ) : EReal) := fun j =>
    (ld_at X.w _ _ _ _ rfl (ix2 0 j) (by
      intro a; fin_cases a
      · rfl
      · exact Nat.zero_add _)).trans (H.hw 0 j)
  have e4 : ∀ Y : Vec Ideal S5024x128 .f32, View.ld (Val := Elt Ideal) (e' := .f32) Y (Rect.unit (s := S5024x128) ![0, 0] S32x128.size inb_S5024x128_S32x128_0_0) (ix2 0 l) = Y (ix2 0 l) := fun Y =>
    ld_at Y _ _ _ _ rfl (ix2 0 l) (by
      intro a; fin_cases a
      · rfl
      · exact Nat.zero_add _)
  have hs := H.hws 0
  have hb := H.hb 0
  rw [pay20_apply, hl, zs2 H, e4, e4, hs, hb]
  simp only [e3, zl H]
  rw [scaled, back]
  rfl

/-- The lane of a slab of the first result once rewritten. -/
theorem slab13_eq (o : Vec Ideal S129x4x768 .f32) (q : Fin 4) :
    slab13 i X o (ix3 0 q l) = if q = (show Fin 4 from i 0) then
        (if (BitVec.ofNat 32 (128 * (i 2).val + l.val)).toInt < (wd X.el i).toInt then
          ((lg z zs w ws b 0 - Real.log (∑ v ∈ Finset.range 5000, Real.exp (lg z zs w ws b v)) : ℝ) : EReal) else 0)
      else o (ix3 (show Fin 129 from i 1) q ⟨128 * (i 2).val + l.val, by have : (i 2).val < 6 := (i 2).isLt; omega⟩) := by
  unfold slab13
  rw [a0_eq, pay21_apply, blank_eq H]
  congr 1
  exact ld_at o _ _ _ _ (k1_off2_eq i) _ (by
    intro a
    fin_cases a
    · rfl
    · exact Nat.zero_add _
    · rfl)

/-- The label's row of the scratch is the label's row of the weight. -/
theorem newL_row (v : BitVec 32) (h : ∀ a, (k1_off7 v) a + S1x896.size a ≤ S5024x896.size a) (m : Vec Ideal S32x896 .fp8e4m3) (j : Fin 896) (hv : v.toNat < 5024) :
    newL X v h m (ix2 0 j) = ((w v.toNat j : ℝ) : EReal) := by
  unfold newL
  have h1 : ∀ a : Fin S32x896.rank, (![0, 0] : Fin 2 → ℕ) a ≤ ((ix2 0 j : S32x896.Idx) a).val ∧ ((ix2 0 j : S32x896.Idx) a).val < (![0, 0] : Fin 2 → ℕ) a + S4x896.size a := by
    intro a; fin_cases a
    · exact ⟨le_refl 0, (by norm_num : (0 : ℕ) < 0 + 4)⟩
    · exact ⟨Nat.zero_le _, (show j.val < 0 + 896 by omega)⟩
  refine (dif_pos h1).trans ?_
  have h2 : ∀ a : Fin S4x896.rank, (![0, 0] : Fin 2 → ℕ) a ≤ ((ix2 0 j : S4x896.Idx) a).val ∧ ((ix2 0 j : S4x896.Idx) a).val < (![0, 0] : Fin 2 → ℕ) a + S1x896.size a := by
    intro a; fin_cases a
    · exact ⟨le_refl 0, (by norm_num : (0 : ℕ) < 0 + 1)⟩
    · exact ⟨Nat.zero_le _, (show j.val < 0 + 896 by omega)⟩
  refine (congrArg (updateSlice (View.ld (Val := Elt Ideal) (e' := .fp8e4m3) m (Rect.unit (s := S32x896) ![0, 0] S4x896.size inb_S32x896_S4x896_0_0))
      (k1_pay5 (View.ld (Val := Elt Ideal) (e' := .fp8e4m3) X.w (Rect.unit (s := S5024x896) (k1_off7 v) S1x896.size h))) ![0, 0] slices_S4x896_S1x896_0_0)
    (show _ = (ix2 0 j : S4x896.Idx) from funext fun a => by fin_cases a <;> rfl)).trans ?_
  refine (dif_pos h2).trans ?_
  refine Eq.trans (b := k1_pay5 (View.ld (Val := Elt Ideal) (e' := .fp8e4m3) X.w (Rect.unit (s := S5024x896) (k1_off7 v) S1x896.size h)) (ix2 0 j)) ?_ ?_
  · exact congrArg _ (funext fun a => by fin_cases a <;> rfl)
  rw [pay5_apply]
  refine (ld_at X.w _ _ _ _ rfl (ix2 ⟨v.toNat, hv⟩ j) (by
      intro a; fin_cases a
      · rfl
      · exact Nat.zero_add _)).trans (H.hw ⟨v.toNat, hv⟩ j)

/-- The lane of a slab of the second result once rewritten. -/
theorem slab14_eq (v : BitVec 32) (h7 : ∀ a, (k1_off7 v) a + S1x896.size a ≤ S5024x896.size a)
    (h8 : ∀ a, (k1_off8 v) a + S1x128.size a ≤ S5024x128.size a) (h9 : ∀ a, (k1_off9 i) a + S1x4x128.size a ≤ S128x4x768.size a)
    (hu : (i 1).val < 128) (hv : v.toNat < 5024)
    (o : Vec Ideal S128x4x768 .f32) (m : Vec Ideal S32x896 .fp8e4m3) (q : Fin 4) :
    slab14 i X v h7 h8 h9 o m (ix3 0 q l) = if q = (show Fin 4 from i 0) then
        (if (BitVec.ofNat 32 (128 * (i 2).val + l.val)).toInt < (wd X.el i).toInt then
          ((lg z zs w ws b v.toNat - Real.log (∑ v ∈ Finset.range 5000, Real.exp (lg z zs w ws b v)) : ℝ) : EReal) else 0)
      else o (ix3 ⟨(i 1).val, hu⟩ q ⟨128 * (i 2).val + l.val, by have : (i 2).val < 6 := (i 2).isLt; omega⟩) := by
  unfold slab14
  have e3 : ∀ j, View.ld (Val := Elt Ideal) (e' := .fp8e4m3) (newL X v h7 m) (Rect.unit (s := S32x896) ![0, 0] S32x896.size inb_S32x896_S32x896_0_0) (ix2 0 j) = ((w v.toNat j : ℝ) : EReal) := fun j =>
    (ld_at _ _ _ _ _ rfl (ix2 0 j) (by
      intro a; fin_cases a
      · rfl
      · exact Nat.zero_add _)).trans (newL_row H v h7 m j hv)
  have e4 : ∀ Y : Vec Ideal S5024x128 .f32, View.ld (Val := Elt Ideal) (e' := .f32) Y (Rect.unit (s := S5024x128) (k1_off8 v) S1x128.size h8) (ix2 0 l) = Y (ix2 ⟨v.toNat, hv⟩ l) := fun Y =>
    ld_at Y _ _ _ _ rfl (ix2 ⟨v.toNat, hv⟩ l) (by
      intro a; fin_cases a
      · rfl
      · exact Nat.zero_add _)
  have hs := H.hws ⟨v.toNat, hv⟩
  have hb := H.hb ⟨v.toNat, hv⟩
  rw [pay6_apply, lse_eq H, zs2 H, e4, e4, hs, hb]
  simp only [e3, zl H]
  rw [scaled, back]
  refine congrArg (fun t => if q = (show Fin 4 from i 0) then (if (BitVec.ofNat 32 (128 * (i 2).val + l.val)).toInt < (wd X.el i).toInt then
          ((lg z zs w ws b v.toNat - Real.log (∑ v ∈ Finset.range 5000, Real.exp (lg z zs w ws b v)) : ℝ) : EReal) else 0) else t) ?_
  exact ld_at o _ _ _ _ ((show k1_off9 i = k1_off2 i from rfl).trans (k1_off2_eq i)) _ (by
    intro a
    fin_cases a
    · rfl
    · exact Nat.zero_add _
    · rfl)

/-- The mean's constant. -/
def kV : ℝ := (Ideal.ofBits .f32 961656599#32).toReal

omit H in
theorem kV_eq : Ideal.ofBits .f32 961656599#32 = ((kV : ℝ) : EReal) := by
  unfold kV
  rw [EReal.coe_toReal] <;> simp only [Ideal.ofBits, Ideal.ieee] <;> simp <;> rw [← EReal.coe_mul]
  · exact EReal.coe_ne_top _
  · exact EReal.coe_ne_bot _

/-- The lane of a slab of the third result once rewritten. -/
theorem slab15_eq (hwl : ∀ (r : Fin 16) j, r.val < 3 → X.wl (ix2 r j) = if r.val = 0 then ((∑ v ∈ Finset.range 5000, w v j * ws v : ℝ) : EReal) else 0)
    (hbm : ∀ k, X.bm k = (((∑ v ∈ Finset.range 5000, b v) * kV : ℝ) : EReal))
    (o : Vec Ideal S129x4x768 .f32) (q : Fin 4) :
    slab15 i X o (ix3 0 q l) = if q = (show Fin 4 from i 0) then
        (if (BitVec.ofNat 32 (128 * (i 2).val + l.val)).toInt < (wd X.el i).toInt then
          ((kV * ∑ v ∈ Finset.range 5000, lg z zs w ws b v : ℝ) : EReal) else 0)
      else o (ix3 (show Fin 129 from i 1) q ⟨128 * (i 2).val + l.val, by have : (i 2).val < 6 := (i 2).isLt; omega⟩) := by
  unfold slab15
  have e3 : ∀ r : Fin 16, ∀ j, View.ld (Val := Elt Ideal) (e' := .bf16) X.wl (Rect.unit (s := S16x896) ![0, 0] S16x896.size inb_S16x896_S16x896_0_0) (ix2 r j) = X.wl (ix2 r j) := fun r j =>
    ld_at _ _ _ _ _ rfl (ix2 r j) (by
      intro a; fin_cases a
      · exact Nat.zero_add _
      · exact Nat.zero_add _)
  have e4 : View.ld (Val := Elt Ideal) (e' := .f32) X.bm (Rect.unit (s := S1x1) ![0, 0] S1x1.size inb_S1x1_S1x1_0_0) (Shape.Idx.first (numel1_S1x1.symm ▸ Nat.one_pos)) = (((∑ v ∈ Finset.range 5000, b v) * kV : ℝ) : EReal) := hbm _
  have w0 : ∀ j, X.wl (ix2 0 j) = ((∑ v ∈ Finset.range 5000, w v j * ws v : ℝ) : EReal) := fun j => (hwl 0 j (by norm_num)).trans (if_pos rfl)
  have w1 : ∀ j, X.wl (ix2 1 j) = 0 := fun j => (hwl 1 j (by norm_num)).trans (if_neg (by norm_num))
  have w2 : ∀ j, X.wl (ix2 2 j) = 0 := fun j => (hwl 2 j (by norm_num)).trans (if_neg (by norm_num))
  rw [a0_eq, pay22_apply, ← a0_eq, e4, zsl H, kV_eq]
  simp only [e3, zl H, w0, w1, w2, zero_mul, Finset.sum_const_zero, add_zero, zero_add]
  rw [coe_dot, ← EReal.coe_mul, ← EReal.coe_mul, ← EReal.coe_add]
  have e : (∑ j, (∑ v ∈ Finset.range 5000, w v j * ws v) * z j) * zs * kV + (∑ v ∈ Finset.range 5000, b v) * kV = kV * ∑ v ∈ Finset.range 5000, lg z zs w ws b v := by
    unfold lg logit
    rw [Finset.sum_add_distrib, mul_add, mul_comm kV (∑ v ∈ Finset.range 5000, b v)]
    refine congrArg (· + _) ?_
    simp only [Finset.sum_mul, Finset.mul_sum]
    rw [Finset.sum_comm]
    exact Finset.sum_congr rfl fun v _ => Finset.sum_congr rfl fun j _ => by ring
  rw [e]
  refine congrArg (fun t => if q = (show Fin 4 from i 0) then (if (BitVec.ofNat 32 (128 * (i 2).val + l.val)).toInt < (wd X.el i).toInt then
          ((kV * ∑ v ∈ Finset.range 5000, lg z zs w ws b v : ℝ) : EReal) else 0) else t) ?_
  exact ld_at o _ _ _ _ (k1_off2_eq i) _ (by
    intro a
    fin_cases a
    · rfl
    · exact Nat.zero_add _
    · rfl)

end

end Cert.KernelIdeal.Hand

end
-- ==== Proof.State.lean ====
/- What the head's resident results hold after any number of grid points, element by element: the closed form where
   the element's point has been met, zero elsewhere. -/
module

public import proofs.«01_k».proof.Proof.Lane
public import proofs.«01_k».proof.Proof.TablesIdeal

@[expose] public section

set_option maxHeartbeats 1000000
set_option maxRecDepth 16384

noncomputable section

namespace Cert.KernelIdeal.Hand

open Cert.KernelIdeal Cert.KernelIdeal.Gen Cert.Softmax
open Idealize.ShloMosaic

/-- A slab put into a resident result, at an index. -/
theorem put_slab {n : ℕ} (x : Vec Ideal ⟨3, ![n, 4, 768]⟩ .f32) {off : Fin 3 → ℕ} {i1 i2 : ℕ} (hoff : off = ![i1, 0, 128 * i2])
    (y : FVec Ideal S1x4x128 .f32) (u : Fin n) (q : Fin 4) (t : Fin 768) :
    VecWindow.put (s := ⟨3, ![n, 4, 768]⟩) x off S1x4x128.size y (ix3 u q t)
      = if u.val = i1 ∧ t.val / 128 = i2 then y (ix3 0 q ⟨t.val % 128, Nat.mod_lt _ (by norm_num)⟩) else x (ix3 u q t) := by
  subst hoff
  by_cases h : u.val = i1 ∧ t.val / 128 = i2
  · rw [if_pos h]
    have hin : ∀ a : Fin 3, (![i1, 0, 128 * i2] : Fin 3 → ℕ) a ≤ ((ix3 u q t : (⟨3, ![n, 4, 768]⟩ : Shape).Idx) a).val
        ∧ ((ix3 u q t : (⟨3, ![n, 4, 768]⟩ : Shape).Idx) a).val < (![i1, 0, 128 * i2] : Fin 3 → ℕ) a + S1x4x128.size a := by
      intro a; fin_cases a
      · show i1 ≤ u.val ∧ u.val < i1 + 1; omega
      · show 0 ≤ q.val ∧ q.val < 0 + 4; omega
      · show 128 * i2 ≤ t.val ∧ t.val < 128 * i2 + 128; omega
    refine (dif_pos hin).trans (congrArg y (funext fun a => Fin.ext ?_))
    fin_cases a
    · show u.val - i1 = 0; omega
    · show q.val - 0 = q.val; omega
    · show t.val - 128 * i2 = t.val % 128; omega
  · rw [if_neg h]
    refine dif_neg fun hin => h ?_
    have h0 : i1 ≤ u.val ∧ u.val < i1 + 1 := hin (0 : Fin 3)
    have h2 : 128 * i2 ≤ t.val ∧ t.val < 128 * i2 + 128 := hin (2 : Fin 3)
    omega

/-- A batch's index in a table of four words. -/
abbrev jx (q : Fin 4) : S4.Idx := Idealize.ShloMosaic.ix1 q

/-- The grid point's batch. -/
def c0 (i : grid1.Coords) : Fin 4 := ⟨(i 0).val, i0_lt i⟩
/-- The grid point's label position. -/
def c1 (i : grid1.Coords) : Fin 129 := ⟨(i 1).val, i1_lt i⟩
/-- The encoder step of a lane of the grid point. -/
def stepOf (i : grid1.Coords) (l : Fin 128) : Fin 768 := ⟨128 * (i 2).val + l.val, by have := i2_lt i; omega⟩

theorem wd_eq (T : Vec Ideal S4 .i32) (i : grid1.Coords) : wd T i = T (jx (c0 i)) :=
  congrArg T (funext fun a => Fin.ext (by
    obtain rfl : a = (0 : Fin 1) := Subsingleton.elim (α := Fin 1) a 0
    show k1_off1 i 0 + 1 * 0 = (i 0).val
    rw [k1_off1_eq]; rfl))

theorem wdLab_eq (L : Vec Ideal S4x128 .i32) (i : grid1.Coords) (h : ∀ a, (k1_off6 i) a + S1x1.size a ≤ S4x128.size a) (hu : (i 1).val < 128) :
    wdLab L i h = L (ix2 (c0 i) ⟨(i 1).val, hu⟩) :=
  congrArg L (funext fun a => Fin.ext (by
    have b0 := i0_lt i
    match a with
    | 0 =>
      show (BitVec.ofNat 32 (i 0).val).toNat + 1 * 0 = (i 0).val
      rw [BitVec.toNat_ofNat]; omega
    | 1 =>
      show (BitVec.ofNat 32 (i 1).val).toNat + 1 * 0 = (i 1).val
      rw [BitVec.toNat_ofNat]; omega))

theorem coords_val (t : Fin grid1.N) : t.val < 3096 ∧ (grid1.coords t 0).val = t.val / 774 ∧ (grid1.coords t 1).val = t.val / 6 % 129 ∧ (grid1.coords t 2).val = t.val % 6 := by
  have h := t.isLt
  have hN : t.val < 3096 := by rw [← N_1]; exact h
  have h0 := Pipeline.Grid.coords_val (G := grid1) t 0 (S := 774) (B := 4) (by decide) rfl
  have h1 := Pipeline.Grid.coords_val (G := grid1) t 1 (S := 6) (B := 129) (by decide) rfl
  have h2 := Pipeline.Grid.coords_val (G := grid1) t 2 (S := 1) (B := 6) (by decide) rfl
  refine ⟨hN, ?_, h1, ?_⟩
  · rw [h0]; omega
  · rw [h2]; omega

section
variable (a1 : (pcfg1 (F := Ideal)).Adm) (V : Valuation τ sig (Elt Ideal)) (hT : TabsOK a1)
variable (z : Fin 4 → Fin 129 → Fin 768 → Fin 896 → ℝ) (zs : Fin 4 → Fin 129 → Fin 768 → ℝ) (w : ℕ → Fin 896 → ℝ) (ws b : ℕ → ℝ)

/-- What the head is fed, as real numbers, where it computes. -/
structure Fed : Prop where
  hr : Cert.Pre_pre_int.Hand.InRange (a1.1 2) (a1.1 0) (a1.1 1)
  lane : ∀ t : Fin grid1.N, k1_cond2 (grid1.coords t) (wd (a1.1 1) (grid1.coords t)) (wd (a1.1 0) (grid1.coords t)) = 1#1 → ∀ l,
    Lane (grid1.coords t) (X1 a1 V t) l (z (c0 (grid1.coords t)) (c1 (grid1.coords t)) (stepOf (grid1.coords t) l))
      (zs (c0 (grid1.coords t)) (c1 (grid1.coords t)) (stepOf (grid1.coords t) l)) w ws b
  hwl : ∀ t : Fin grid1.N, ∀ (r : Fin 16) j, r.val < 3 → (X1 a1 V t).wl (ix2 r j) = if r.val = 0 then ((∑ v ∈ Finset.range 5000, w v j * ws v : ℝ) : EReal) else 0
  hbm : ∀ t : Fin grid1.N, ∀ k, (X1 a1 V t).bm k = (((∑ v ∈ Finset.range 5000, b v) * kV : ℝ) : EReal)

/-- The logits at an encoder step and a label position. -/
abbrev lgt (q : Fin 4) (u : Fin 129) (t : Fin 768) (v : ℕ) : ℝ := lg (z q u t) (zs q u t) w ws b v
/-- Their log-sum-exp. -/
def lsum (q : Fin 4) (u : Fin 129) (t : Fin 768) : ℝ := Real.log (∑ v ∈ Finset.range 5000, Real.exp (lgt z zs w ws b q u t v))

/-- The first result. -/
def spec13 (el tl : Vec Ideal S4 .i32) (u : Fin 129) (q : Fin 4) (t : Fin 768) : EReal :=
  if (u.val : ℤ) ≤ (tl (jx q)).toInt ∧ (t.val : ℤ) < (el (jx q)).toInt then ((lgt z zs w ws b q u t 0 - lsum z zs w ws b q u t : ℝ) : EReal) else 0
/-- The second result. -/
def spec14 (el tl : Vec Ideal S4 .i32) (lab : Vec Ideal S4x128 .i32) (u : Fin 128) (q : Fin 4) (t : Fin 768) : EReal :=
  if (u.val : ℤ) < (tl (jx q)).toInt ∧ (t.val : ℤ) < (el (jx q)).toInt then
    ((lgt z zs w ws b q (u.castLE (by norm_num)) t (lab (ix2 q u)).toNat - lsum z zs w ws b q (u.castLE (by norm_num)) t : ℝ) : EReal) else 0
/-- The third result. -/
def spec15 (el tl : Vec Ideal S4 .i32) (u : Fin 129) (q : Fin 4) (t : Fin 768) : EReal :=
  if (u.val : ℤ) ≤ (tl (jx q)).toInt ∧ (t.val : ℤ) < (el (jx q)).toInt then ((kV * ∑ v ∈ Finset.range 5000, lgt z zs w ws b q u t v : ℝ) : EReal) else 0

variable {a1 V z zs w ws b} (Fd : Fed a1 V z zs w ws b)

/-- The first point's zeroing finds the results zero. -/
theorem start_stT (t : Fin grid1.N) : start (grid1.coords t) (stT a1 V hT t.val) = stT a1 V hT t.val := by
  unfold start
  split_ifs with h
  · have h' := (cond1_iff _).mp h
    obtain ⟨hN, e0, e1, e2⟩ := coords_val t
    have : t.val = 0 := by omega
    rw [this]; rfl
  · rfl

theorem zero13 (k) : (k1_pay1 (F := Ideal)) k = 0 := by dsimp only [k1_pay1]; simp only [pointwise]
theorem zero14 (k) : (k1_pay2 (F := Ideal)) k = 0 := by dsimp only [k1_pay2]; simp only [pointwise]
theorem zero15 (k) : (k1_pay3 (F := Ideal)) k = 0 := by dsimp only [k1_pay3]; simp only [pointwise]

/-- The lane's encoder step is within the length where the kernel's words compare so. -/
theorem lane_lt (i2 l : ℕ) (h2 : i2 < 6) (hl : l < 128) (x : BitVec 32) : (BitVec.ofNat 32 (128 * i2 + l)).toInt < x.toInt ↔ ((128 * i2 + l : ℕ) : ℤ) < x.toInt := by
  rw [coord_toInt (by omega)]

/-- The label's part leaves the first and third results. -/
theorem lbl13 (i) (X : HeadIn Ideal) (hTi) (h2) (S) : (lblStep i X hTi h2 S).o13 = S.o13 := by unfold lblStep; split_ifs <;> rfl
theorem lbl15 (i) (X : HeadIn Ideal) (hTi) (h2) (S) : (lblStep i X hTi h2 S).o15 = S.o15 := by unfold lblStep; split_ifs <;> rfl

/-- The first result at an index once a grid point is done. -/
theorem step13 (i : grid1.Coords) (X : HeadIn Ideal) (hTi : TabOK X.el X.tl X.lab i) (S : HeadSt Ideal) (h0 : start i S = S)
    (hL : k1_cond2 i (wd X.tl i) (wd X.el i) = 1#1 → ∀ l, Lane i X l (z (c0 i) (c1 i) (stepOf i l)) (zs (c0 i) (c1 i) (stepOf i l)) w ws b)
    (u : Fin 129) (q : Fin 4) (t : Fin 768) (hz : q.val = (i 0).val ∧ u.val = (i 1).val ∧ t.val / 128 = (i 2).val → S.o13 (ix3 u q t) = 0) :
    (step i X hTi S).o13 (ix3 u q t) = if q.val = (i 0).val ∧ u.val = (i 1).val ∧ t.val / 128 = (i 2).val then spec13 z zs w ws b X.el X.tl u q t else S.o13 (ix3 u q t) := by
  unfold step
  rw [h0]
  by_cases h2 : k1_cond2 i (wd X.tl i) (wd X.el i) = 1#1
  · rw [dif_pos h2, lbl13]
    refine (put_slab (n := 129) _ (k1_off2_eq i) _ u q t).trans ?_
    by_cases hm : u.val = (i 1).val ∧ t.val / 128 = (i 2).val
    · rw [if_pos hm]
      obtain ⟨l, rfl⟩ : ∃ l, t = stepOf i l := ⟨⟨t.val % 128, by omega⟩, Fin.ext (show t.val = 128 * (i 2).val + t.val % 128 by omega)⟩
      obtain rfl : u = c1 i := Fin.ext hm.1
      have hll : (⟨(stepOf i l).val % 128, Nat.mod_lt _ (by norm_num)⟩ : Fin 128) = l := Fin.ext (show (128 * (i 2).val + l.val) % 128 = l.val by omega)
      rw [hll, slab13_eq (hL h2 l)]
      by_cases hq : q = c0 i
      · subst hq
        have hc := (cond2_iff i _ _).mp h2
        rw [wd_eq] at hc
        refine (if_pos rfl).trans ((if_pos ⟨rfl, hm⟩).trans ?_).symm
        unfold spec13
        rw [wd_eq X.el]
        by_cases hlt' : ((128 * (i 2).val + l.val : ℕ) : ℤ) < (X.el (jx (c0 i))).toInt
        · rw [if_pos ((lane_lt _ _ (i2_lt i) l.isLt _).mpr hlt')]
          exact if_pos ⟨hc.1, hlt'⟩
        · rw [if_neg fun h => hlt' ((lane_lt _ _ (i2_lt i) l.isLt _).mp h)]
          exact if_neg fun h => hlt' h.2
      · refine (if_neg hq).trans (if_neg fun h => hq (Fin.ext h.1)).symm
    · rw [if_neg hm, if_neg fun h => hm h.2]
  · rw [dif_neg h2]
    by_cases hp : q.val = (i 0).val ∧ u.val = (i 1).val ∧ t.val / 128 = (i 2).val
    · rw [if_pos hp, hz hp]
      unfold spec13
      obtain rfl : q = c0 i := Fin.ext hp.1
      refine (if_neg fun h => h2 ((cond2_iff i _ _).mpr ?_)).symm
      rw [wd_eq, wd_eq]
      refine ⟨by have := h.1; omega, ?_⟩
      have := h.2
      omega
    · rw [if_neg hp]

include Fd in
/-- What the first result holds before point `n`. -/
theorem o13_eq (n : ℕ) (hn : n ≤ 3096) (u : Fin 129) (q : Fin 4) (t : Fin 768) :
    (stT a1 V hT n).o13 (ix3 u q t) = if (q.val * 129 + u.val) * 6 + t.val / 128 < n then spec13 z zs w ws b (a1.1 0) (a1.1 1) u q t else 0 := by
  induction n with
  | zero => rw [if_neg (by omega)]; exact zero13 (ix3 u q t)
  | succ n ih =>
    have hlt : n < grid1.N := by rw [N_1]; omega
    have hs : stT a1 V hT (n + 1) = step (grid1.coords ⟨n, hlt⟩) (X1 a1 V ⟨n, hlt⟩) (hT _) (stT a1 V hT n) := stT_succ a1 V hT (⟨n, hlt⟩ : Fin grid1.N)
    have h0 : start (grid1.coords ⟨n, hlt⟩) (stT a1 V hT n) = stT a1 V hT n := start_stT (V := V) hT (⟨n, hlt⟩ : Fin grid1.N)
    obtain ⟨hN, e0, e1, e2⟩ := coords_val ⟨n, hlt⟩
    replace e0 : (grid1.coords ⟨n, hlt⟩ 0).val = n / 774 := e0
    replace e1 : (grid1.coords ⟨n, hlt⟩ 1).val = n / 6 % 129 := e1
    replace e2 : (grid1.coords ⟨n, hlt⟩ 2).val = n % 6 := e2
    have hih := ih (by omega)
    rw [hs]
    refine (step13 _ (X1 a1 V ⟨n, hlt⟩) _ _ h0 (Fd.lane ⟨n, hlt⟩) u q t fun h => hih.trans (if_neg ?_)).trans ?_
    · omega
    · rw [hih]
      by_cases hp : (q.val * 129 + u.val) * 6 + t.val / 128 = n
      · rw [if_pos (by omega), if_pos (by omega)]; rfl
      · rw [if_neg (by omega)]
        refine if_congr (iff_of_eq ?_) rfl rfl
        rw [eq_iff_iff]; omega

/-- The third result at an index once a grid point is done. -/
theorem step15 (i : grid1.Coords) (X : HeadIn Ideal) (hTi : TabOK X.el X.tl X.lab i) (S : HeadSt Ideal) (h0 : start i S = S)
    (hL : k1_cond2 i (wd X.tl i) (wd X.el i) = 1#1 → ∀ l, Lane i X l (z (c0 i) (c1 i) (stepOf i l)) (zs (c0 i) (c1 i) (stepOf i l)) w ws b)
    (hwl : ∀ (r : Fin 16) j, r.val < 3 → X.wl (ix2 r j) = if r.val = 0 then ((∑ v ∈ Finset.range 5000, w v j * ws v : ℝ) : EReal) else 0)
    (hbm : ∀ k, X.bm k = (((∑ v ∈ Finset.range 5000, b v) * kV : ℝ) : EReal))
    (u : Fin 129) (q : Fin 4) (t : Fin 768) (hz : q.val = (i 0).val ∧ u.val = (i 1).val ∧ t.val / 128 = (i 2).val → S.o15 (ix3 u q t) = 0) :
    (step i X hTi S).o15 (ix3 u q t) = if q.val = (i 0).val ∧ u.val = (i 1).val ∧ t.val / 128 = (i 2).val then spec15 z zs w ws b X.el X.tl u q t else S.o15 (ix3 u q t) := by
  unfold step
  rw [h0]
  by_cases h2 : k1_cond2 i (wd X.tl i) (wd X.el i) = 1#1
  · rw [dif_pos h2, lbl15]
    refine (put_slab (n := 129) _ (k1_off2_eq i) _ u q t).trans ?_
    by_cases hm : u.val = (i 1).val ∧ t.val / 128 = (i 2).val
    · rw [if_pos hm]
      obtain ⟨l, rfl⟩ : ∃ l, t = stepOf i l := ⟨⟨t.val % 128, by omega⟩, Fin.ext (show t.val = 128 * (i 2).val + t.val % 128 by omega)⟩
      obtain rfl : u = c1 i := Fin.ext hm.1
      have hll : (⟨(stepOf i l).val % 128, Nat.mod_lt _ (by norm_num)⟩ : Fin 128) = l := Fin.ext (show (128 * (i 2).val + l.val) % 128 = l.val by omega)
      rw [hll, slab15_eq (hL h2 l) hwl hbm]
      by_cases hq : q = c0 i
      · subst hq
        have hc := (cond2_iff i _ _).mp h2
        rw [wd_eq] at hc
        refine (if_pos rfl).trans ((if_pos ⟨rfl, hm⟩).trans ?_).symm
        unfold spec15
        rw [wd_eq X.el]
        by_cases hlt' : ((128 * (i 2).val + l.val : ℕ) : ℤ) < (X.el (jx (c0 i))).toInt
        · rw [if_pos ((lane_lt _ _ (i2_lt i) l.isLt _).mpr hlt')]
          exact if_pos ⟨hc.1, hlt'⟩
        · rw [if_neg fun h => hlt' ((lane_lt _ _ (i2_lt i) l.isLt _).mp h)]
          exact if_neg fun h => hlt' h.2
      · refine (if_neg hq).trans (if_neg fun h => hq (Fin.ext h.1)).symm
    · rw [if_neg hm, if_neg fun h => hm h.2]
  · rw [dif_neg h2]
    by_cases hp : q.val = (i 0).val ∧ u.val = (i 1).val ∧ t.val / 128 = (i 2).val
    · rw [if_pos hp, hz hp]
      unfold spec15
      obtain rfl : q = c0 i := Fin.ext hp.1
      refine (if_neg fun h => h2 ((cond2_iff i _ _).mpr ?_)).symm
      rw [wd_eq, wd_eq]
      refine ⟨by have := h.1; omega, ?_⟩
      have := h.2
      omega
    · rw [if_neg hp]

include Fd in
/-- What the third result holds before point `n`. -/
theorem o15_eq (n : ℕ) (hn : n ≤ 3096) (u : Fin 129) (q : Fin 4) (t : Fin 768) :
    (stT a1 V hT n).o15 (ix3 u q t) = if (q.val * 129 + u.val) * 6 + t.val / 128 < n then spec15 z zs w ws b (a1.1 0) (a1.1 1) u q t else 0 := by
  induction n with
  | zero => rw [if_neg (by omega)]; exact zero15 (ix3 u q t)
  | succ n ih =>
    have hlt : n < grid1.N := by rw [N_1]; omega
    have hs : stT a1 V hT (n + 1) = step (grid1.coords ⟨n, hlt⟩) (X1 a1 V ⟨n, hlt⟩) (hT _) (stT a1 V hT n) := stT_succ a1 V hT (⟨n, hlt⟩ : Fin grid1.N)
    have h0 : start (grid1.coords ⟨n, hlt⟩) (stT a1 V hT n) = stT a1 V hT n := start_stT (V := V) hT (⟨n, hlt⟩ : Fin grid1.N)
    obtain ⟨hN, e0, e1, e2⟩ := coords_val ⟨n, hlt⟩
    replace e0 : (grid1.coords ⟨n, hlt⟩ 0).val = n / 774 := e0
    replace e1 : (grid1.coords ⟨n, hlt⟩ 1).val = n / 6 % 129 := e1
    replace e2 : (grid1.coords ⟨n, hlt⟩ 2).val = n % 6 := e2
    have hih := ih (by omega)
    rw [hs]
    refine (step15 _ (X1 a1 V ⟨n, hlt⟩) _ _ h0 (Fd.lane ⟨n, hlt⟩) (Fd.hwl _) (Fd.hbm _) u q t fun h => hih.trans (if_neg ?_)).trans ?_
    · omega
    · rw [hih]
      by_cases hp : (q.val * 129 + u.val) * 6 + t.val / 128 = n
      · rw [if_pos (by omega), if_pos (by omega)]; rfl
      · rw [if_neg (by omega)]
        refine if_congr (iff_of_eq ?_) rfl rfl
        rw [eq_iff_iff]; omega

/-- The second result at an index once a grid point is done. -/
theorem step14 (i : grid1.Coords) (X : HeadIn Ideal) (hTi : TabOK X.el X.tl X.lab i) (S : HeadSt Ideal) (h0 : start i S = S)
    (hL : k1_cond2 i (wd X.tl i) (wd X.el i) = 1#1 → ∀ l, Lane i X l (z (c0 i) (c1 i) (stepOf i l)) (zs (c0 i) (c1 i) (stepOf i l)) w ws b)
    (hlab : ∀ k, 0 ≤ (X.lab k).toInt ∧ (X.lab k).toInt < 5000)
    (u : Fin 128) (q : Fin 4) (t : Fin 768) (hz : q.val = (i 0).val ∧ u.val = (i 1).val ∧ t.val / 128 = (i 2).val → S.o14 (ix3 u q t) = 0) :
    (step i X hTi S).o14 (ix3 u q t) = if q.val = (i 0).val ∧ u.val = (i 1).val ∧ t.val / 128 = (i 2).val then spec14 z zs w ws b X.el X.tl X.lab u q t else S.o14 (ix3 u q t) := by
  unfold step
  rw [h0]
  by_cases h2 : k1_cond2 i (wd X.tl i) (wd X.el i) = 1#1
  · rw [dif_pos h2]
    unfold lblStep
    by_cases h3 : k1_cond3 i (wd X.tl i) = 1#1
    · rw [dif_pos h3]
      have hc3 := (cond3_iff i _).mp h3
      refine (put_slab (n := 128) _ ((show k1_off9 i = k1_off2 i from rfl).trans (k1_off2_eq i)) _ u q t).trans ?_
      by_cases hm : u.val = (i 1).val ∧ t.val / 128 = (i 2).val
      · rw [if_pos hm]
        obtain ⟨l, rfl⟩ : ∃ l, t = stepOf i l := ⟨⟨t.val % 128, by omega⟩, Fin.ext (show t.val = 128 * (i 2).val + t.val % 128 by omega)⟩
        have hll : (⟨(stepOf i l).val % 128, Nat.mod_lt _ (by norm_num)⟩ : Fin 128) = l := Fin.ext (show (128 * (i 2).val + l.val) % 128 = l.val by omega)
        have hu : (i 1).val < 128 := by have := u.isLt; omega
        obtain rfl : u = ⟨(i 1).val, hu⟩ := Fin.ext hm.1
        have hlv := wdLab_eq X.lab i (k1_off6_inb i _ _ _ hTi.chk1 h2 h3) hu
        have hv : (wdLab X.lab i (k1_off6_inb i _ _ _ hTi.chk1 h2 h3)).toNat < 5024 := by
          rw [hlv]
          have := hlab (ix2 (c0 i) ⟨(i 1).val, hu⟩)
          have := toNat_of (isInt_of (x := X.lab (ix2 (c0 i) ⟨(i 1).val, hu⟩)) rfl) this.1
          omega
        rw [hll, slab14_eq (hL h2 l) _ _ _ _ hu hv]
        by_cases hq : q = c0 i
        · subst hq
          refine (if_pos rfl).trans ((if_pos ⟨rfl, hm⟩).trans ?_).symm
          unfold spec14
          rw [hlv, wd_eq X.el]
          rw [wd_eq] at hc3
          by_cases hlt' : ((128 * (i 2).val + l.val : ℕ) : ℤ) < (X.el (jx (c0 i))).toInt
          · rw [if_pos ((lane_lt _ _ (i2_lt i) l.isLt _).mpr hlt')]
            exact if_pos ⟨hc3, hlt'⟩
          · rw [if_neg fun h => hlt' ((lane_lt _ _ (i2_lt i) l.isLt _).mp h)]
            exact if_neg fun h => hlt' h.2
        · refine (if_neg hq).trans (if_neg fun h => hq (Fin.ext h.1)).symm
      · rw [if_neg hm, if_neg fun h => hm h.2]
    · rw [dif_neg h3]
      by_cases hp : q.val = (i 0).val ∧ u.val = (i 1).val ∧ t.val / 128 = (i 2).val
      · rw [if_pos hp]
        refine (hz hp).trans ?_
        unfold spec14
        obtain rfl : q = c0 i := Fin.ext hp.1
        refine (if_neg fun h => h3 ((cond3_iff i _).mpr ?_)).symm
        rw [wd_eq]
        have := h.1
        omega
      · rw [if_neg hp]
  · rw [dif_neg h2]
    by_cases hp : q.val = (i 0).val ∧ u.val = (i 1).val ∧ t.val / 128 = (i 2).val
    · rw [if_pos hp, hz hp]
      unfold spec14
      obtain rfl : q = c0 i := Fin.ext hp.1
      refine (if_neg fun h => h2 ((cond2_iff i _ _).mpr ?_)).symm
      rw [wd_eq, wd_eq]
      refine ⟨by have := h.1; omega, ?_⟩
      have := h.2
      omega
    · rw [if_neg hp]

include Fd in
/-- What the second result holds before point `n`. -/
theorem o14_eq (n : ℕ) (hn : n ≤ 3096) (u : Fin 128) (q : Fin 4) (t : Fin 768) :
    (stT a1 V hT n).o14 (ix3 u q t) = if (q.val * 129 + u.val) * 6 + t.val / 128 < n then spec14 z zs w ws b (a1.1 0) (a1.1 1) (a1.1 2) u q t else 0 := by
  induction n with
  | zero => rw [if_neg (by omega)]; exact zero14 (ix3 u q t)
  | succ n ih =>
    have hlt : n < grid1.N := by rw [N_1]; omega
    have hs : stT a1 V hT (n + 1) = step (grid1.coords ⟨n, hlt⟩) (X1 a1 V ⟨n, hlt⟩) (hT _) (stT a1 V hT n) := stT_succ a1 V hT (⟨n, hlt⟩ : Fin grid1.N)
    have h0 : start (grid1.coords ⟨n, hlt⟩) (stT a1 V hT n) = stT a1 V hT n := start_stT (V := V) hT (⟨n, hlt⟩ : Fin grid1.N)
    obtain ⟨hN, e0, e1, e2⟩ := coords_val ⟨n, hlt⟩
    replace e0 : (grid1.coords ⟨n, hlt⟩ 0).val = n / 774 := e0
    replace e1 : (grid1.coords ⟨n, hlt⟩ 1).val = n / 6 % 129 := e1
    replace e2 : (grid1.coords ⟨n, hlt⟩ 2).val = n % 6 := e2
    have hih := ih (by omega)
    rw [hs]
    refine (step14 _ (X1 a1 V ⟨n, hlt⟩) _ _ h0 (Fd.lane ⟨n, hlt⟩) (fun k => ⟨Fd.hr.lab_ge k, Fd.hr.lab_lt k⟩) u q t fun h => hih.trans (if_neg ?_)).trans ?_
    · omega
    · rw [hih]
      by_cases hp : (q.val * 129 + u.val) * 6 + t.val / 128 = n
      · rw [if_pos (by omega), if_pos (by omega)]; rfl
      · rw [if_neg (by omega)]
        refine if_congr (iff_of_eq ?_) rfl rfl
        rw [eq_iff_iff]; omega

end

end Cert.KernelIdeal.Hand

end
-- ==== Proof.Blocks.lean ====
/- The blocks the head call reads: the codes' block at a point, every other array whole; and what its results hold
   once the last point has written them back. -/
module

public import proofs.«01_k».proof.Proof.State
public import proofs.«01_k».proof.Proof.RunAllIdeal

@[expose] public section

set_option maxHeartbeats 1000000
set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

variable {F : FTy → Type} [FloatOps F] [Named F]
variable (a1 : (pcfg1 (F := F)).Adm) (V : Valuation τ sig (Elt F))

theorem blk_1 (t : Fin (cfg1 a1).N) : blk1 a1 V 1 t = V (Proc.devRef .tc main_arg1) := by
  funext y
  show V (Proc.devRef .tc main_arg1) ((((cfg1 a1).win 1).rect t).emb y) = _
  exact congrArg _ (funext fun a => Fin.ext (((cfg1 a1).win 1).rect_emb_val_of_index_zero t a (by fin_cases a <;> rfl) y))
theorem blk_2 (t : Fin (cfg1 a1).N) : blk1 a1 V 2 t = V (Proc.devRef .tc main_v2) := by
  funext y
  show V (Proc.devRef .tc main_v2) ((((cfg1 a1).win 2).rect t).emb y) = _
  exact congrArg _ (funext fun a => Fin.ext (((cfg1 a1).win 2).rect_emb_val_of_index_zero t a (by fin_cases a <;> rfl) y))
theorem blk_3 (t : Fin (cfg1 a1).N) : blk1 a1 V 3 t = V (Proc.devRef .tc main_v5) := by
  funext y
  show V (Proc.devRef .tc main_v5) ((((cfg1 a1).win 3).rect t).emb y) = _
  exact congrArg _ (funext fun a => Fin.ext (((cfg1 a1).win 3).rect_emb_val_of_index_zero t a (by fin_cases a <;> rfl) y))
theorem blk_4 (t : Fin (cfg1 a1).N) : blk1 a1 V 4 t = V (Proc.devRef .tc main_v8) := by
  funext y
  show V (Proc.devRef .tc main_v8) ((((cfg1 a1).win 4).rect t).emb y) = _
  exact congrArg _ (funext fun a => Fin.ext (((cfg1 a1).win 4).rect_emb_val_of_index_zero t a (by fin_cases a <;> rfl) y))
theorem blk_5 (t : Fin (cfg1 a1).N) : blk1 a1 V 5 t = V (Proc.devRef .tc main_v18) := by
  funext y
  show V (Proc.devRef .tc main_v18) ((((cfg1 a1).win 5).rect t).emb y) = _
  exact congrArg _ (funext fun a => Fin.ext (((cfg1 a1).win 5).rect_emb_val_of_index_zero t a (by fin_cases a <;> rfl) y))
theorem blk_6 (t : Fin (cfg1 a1).N) : blk1 a1 V 6 t = V (Proc.devRef .tc main_v21) := by
  funext y
  show V (Proc.devRef .tc main_v21) ((((cfg1 a1).win 6).rect t).emb y) = _
  exact congrArg _ (funext fun a => Fin.ext (((cfg1 a1).win 6).rect_emb_val_of_index_zero t a (by fin_cases a <;> rfl) y))

/-- The codes' block at a point that needs the head: the rows of that point's example, prediction step and time block. -/
theorem blk_0 (hr : Cert.Pre_pre_int.Hand.InRange (a1.1 2) (a1.1 0) (a1.1 1)) (t : Fin (cfg1 a1).N)
    (h2 : k1_cond2 (grid1.coords t) (wd (a1.1 1) (grid1.coords t)) (wd (a1.1 0) (grid1.coords t)) = 1#1) (l : Fin 128) (j : Fin 896) :
    blk1 a1 V 0 t (Idealize.ShloMosaic.ix4 0 0 l j) = V (Proc.devRef .tc main_v0) (Idealize.ShloMosaic.ix4 (c0 (grid1.coords t)) (c1 (grid1.coords t)) (stepOf (grid1.coords t) l) j) := by
  have hi := transform0_eq (F := F) a1.1 hr (grid1.coords t)
  have h := (cond2_iff (grid1.coords t) _ _).mp h2
  have b0 := i0_lt (grid1.coords t)
  have b1 := i1_lt (grid1.coords t)
  have b2 := i2_lt (grid1.coords t)
  obtain ⟨x, hx⟩ := wd_idx (a1.1 1) (grid1.coords t)
  obtain ⟨y, hy⟩ := wd_idx (a1.1 0) (grid1.coords t)
  have ht := toNat_of (isInt_of (rfl : (a1.1 1 x : BitVec 32).toInt = _)) (hr.tl_ge x)
  have he := toNat_of (isInt_of (rfl : (a1.1 0 y : BitVec 32).toInt = _)) (by have := hr.el_ge y; omega)
  have g1 := hr.el_ge y
  rw [hx, hy] at h hi
  show V (Proc.devRef .tc main_v0) ((((cfg1 a1).win 0).rect t).emb _) = _
  refine congrArg _ (funext fun a => Fin.ext ?_)
  refine (((cfg1 a1).win 0).rect_emb_val t _ a).trans ?_
  have hi' : ((cfg1 a1).win 0).index t = _ := hi
  rw [hi']
  match a with
  | ⟨0, _⟩ => show (grid1.coords t 0).val * 1 + 0 = (grid1.coords t 0).val; omega
  | ⟨1, _⟩ => show min (grid1.coords t 1).val _ * 1 + 0 = (grid1.coords t 1).val; omega
  | ⟨2, _⟩ =>
    show min (if (grid1.coords t 1).val ≤ _ then (grid1.coords t 2).val else 6) _ * 128 + l.val = 128 * (grid1.coords t 2).val + l.val
    rw [if_pos (by omega)]
    omega
  | ⟨3, _⟩ => show 0 * 896 + j.val = j.val; omega

variable (hT : TabsOK a1)

/-- Of a result that is flushed whole by the last point alone, the array after the run is what that point left. -/
theorem arr_out (c : Dev nD) (w : Fin 10) (ho : ((cfg1 a1).win w).isOut = true)
    (hc : ∀ i i', ((cfg1 a1).win w).indexMap i = ((cfg1 a1).win w).indexMap i')
    (G : Buf (Elt F) (((cfg1 a1).win w).arr.view.loc (c.tc : Thread nD τ)))
    (hG : ∀ t : Fin (cfg1 a1).N, t.val = 3095 → (dat1 a1 V hT c).flushed w t = (((cfg1 a1).win w).blk t).view.read (Elt F) G)
    (hcov : ∀ (t : Fin (cfg1 a1).N) (i : (((cfg1 a1).win w).arr.view.loc (c.tc : Thread nD τ)).2.ty.Idx), i ∈ (((cfg1 a1).win w).blk t).view.set) :
    (dat1 a1 V hT c).arrAt w (cfg1 a1).N = G := by
  have hN : (cfg1 a1).N = 3096 := N_1
  have hf : ∀ t : Fin (cfg1 a1).N, ((cfg1 a1).win w).flush t = true ↔ t.val = 3095 :=
    fun t => (Pipeline.Window.flush_const _ ho hc (n := 3096) (m := 3095) N_1 rfl t).trans
      (by have : t.val < 3096 := N_1 ▸ t.isLt
          rw [Nat.mod_eq_of_lt this])
  refine (dat1 a1 V hT c).arrAt_eq_of_cover w G (fun t h => hG t ((hf t).mp h)) (fun i => ⟨⟨3095, by omega⟩, (hf _).mpr rfl, hcov _ i⟩)

theorem arr_7 (c : Dev nD) : (dat1 a1 V hT c).arrAt (7 : Fin 10) (cfg1 a1).N = (stT a1 V hT 3096).o13 := by
  have e : ∀ (t : Fin (cfg1 a1).N) (y : S129x4x768.Idx), (((cfg1 a1).win 7).rect t).emb y = y := fun t y =>
    funext fun a => Fin.ext (((cfg1 a1).win 7).rect_emb_val_of_index_zero t a (by fin_cases a <;> rfl) y)
  refine arr_out a1 V hT c 7 rfl (fun _ _ => rfl) _ (fun t ht => ?_) (fun t i => ?_)
  · funext y
    show (stT a1 V hT (t.val + 1)).o13 _ = (stT a1 V hT 3096).o13 ((((cfg1 a1).win 7).rect t).emb y)
    rw [e, ht]
  · exact Finset.mem_map.mpr ⟨i, Finset.mem_univ _, e t i⟩
theorem arr_8 (c : Dev nD) : (dat1 a1 V hT c).arrAt (8 : Fin 10) (cfg1 a1).N = (stT a1 V hT 3096).o14 := by
  have e : ∀ (t : Fin (cfg1 a1).N) (y : S128x4x768.Idx), (((cfg1 a1).win 8).rect t).emb y = y := fun t y =>
    funext fun a => Fin.ext (((cfg1 a1).win 8).rect_emb_val_of_index_zero t a (by fin_cases a <;> rfl) y)
  refine arr_out a1 V hT c 8 rfl (fun _ _ => rfl) _ (fun t ht => ?_) (fun t i => ?_)
  · funext y
    show (stT a1 V hT (t.val + 1)).o14 _ = (stT a1 V hT 3096).o14 ((((cfg1 a1).win 8).rect t).emb y)
    rw [e, ht]
  · exact Finset.mem_map.mpr ⟨i, Finset.mem_univ _, e t i⟩
theorem arr_9 (c : Dev nD) : (dat1 a1 V hT c).arrAt (9 : Fin 10) (cfg1 a1).N = (stT a1 V hT 3096).o15 := by
  have e : ∀ (t : Fin (cfg1 a1).N) (y : S129x4x768.Idx), (((cfg1 a1).win 9).rect t).emb y = y := fun t y =>
    funext fun a => Fin.ext (((cfg1 a1).win 9).rect_emb_val_of_index_zero t a (by fin_cases a <;> rfl) y)
  refine arr_out a1 V hT c 9 rfl (fun _ _ => rfl) _ (fun t ht => ?_) (fun t i => ?_)
  · funext y
    show (stT a1 V hT (t.val + 1)).o15 _ = (stT a1 V hT 3096).o15 ((((cfg1 a1).win 9).rect t).emb y)
    rw [e, ht]
  · exact Finset.mem_map.mpr ⟨i, Finset.mem_univ _, e t i⟩

end Cert.KernelIdeal.Hand

end
-- ==== Proof.Host.lean ====
/- The arrays the host operations hand the head call, element by element. -/
module

public import proofs.«01_k».proof.Proof.Blocks
public import Idealize.ShloMosaic.Lib.StableHlo.ReadAt

@[expose] public section

set_option maxHeartbeats 1000000
set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ) (outs : Outs (F := Ideal)) (c : Dev nD)

theorem host_v0 (i : S4x129x768x896.Idx) : V11 m outs c main_v0 i = Ideal.ofBits .fp8e4m3 (V0 m c main_arg0 i) := by
  rw [V11_of m outs c main_v0 (by decide), V10_of m outs c main_v0 (by decide), V9_of m outs c main_v0 (by decide), V8_of m outs c main_v0 (by decide),
    V7_of m c main_v0 (by decide), V6_of m c main_v0 (by decide), V5_of m c main_v0 (by decide), V4_of m c main_v0 (by decide), V3_of m c main_v0 (by decide), V2_of m c main_v0 (by decide)]
  unfold V1
  after_reads_at
theorem V7_v2 (v : Fin 5024) (j : Fin 896) : V7 m c main_v2 (Idealize.ShloMosaic.ix2 v j) = Ideal.ofBits .fp8e4m3 (if h : v.val < 5000 then V0 m c main_arg2 (Idealize.ShloMosaic.ix2 ⟨v.val, h⟩ j) else 0#8) := by
  rw [V7_of m c main_v2 (by decide), V6_of m c main_v2 (by decide), V5_of m c main_v2 (by decide), V4_of m c main_v2 (by decide)]
  unfold V3 V2 V1
  after_reads_at
  rfl
theorem zero_int : FloatOps.sitofp (F := Ideal) FTy.f32 0#32 = (0 : EReal) := by
  show (((0#32 : BitVec 32).toInt : ℝ) : EReal) = 0
  simp
theorem V7_v5 (b : S5000.Idx → EReal) (hb : V0 m c main_arg3 = b) (v : Fin 5024) (l : Fin 128) : (V7 m c main_v5 : S5024x128.Idx → EReal) (Idealize.ShloMosaic.ix2 v l) = if h : v.val < 5000 then b (Idealize.ShloMosaic.ix1 ⟨v.val, h⟩) else 0 := by
  rw [V7_of m c main_v5 (by decide), V6_of m c main_v5 (by decide)]
  unfold V5 V4 V3 V2 V1
  after_reads_at
  rw [hb]
  split
  · rfl
  · exact zero_int
theorem V7_v8 (b : S5000.Idx → EReal) (hb : V0 m c main_arg4 = b) (v : Fin 5024) (l : Fin 128) : (V7 m c main_v8 : S5024x128.Idx → EReal) (Idealize.ShloMosaic.ix2 v l) = if h : v.val < 5000 then b (Idealize.ShloMosaic.ix1 ⟨v.val, h⟩) else 0 := by
  unfold V7 V6 V5 V4 V3 V2 V1
  after_reads_at
  rw [hb]
  split
  · rfl
  · exact zero_int
theorem host_v18 (x : Fin 896 → EReal) (hx : ∀ j, (V8 m outs c main_v9 : S1x896.Idx → EReal) (Idealize.ShloMosaic.ix2 0 j) = x j) (r : Fin 16) (j : Fin 896) (hr : r.val < 3) :
    (V11 m outs c main_v18 : S16x896.Idx → EReal) (Idealize.ShloMosaic.ix2 r j)
      = if r.val = 0 then x j else if r.val = 1 then x j - x j else (x j - x j) - (x j - x j) := by
  rw [V11_of m outs c main_v18 (by decide)]
  unfold V10 V9
  after_reads_at
  rw [dif_pos hr]
  simp only [StableHlo.upto, List.take]
  after_reads_at
  have hx' : ∀ k : Fin 1, (V8 m outs c main_v9 : S1x896.Idx → EReal) (Idealize.ShloMosaic.ix2 k j) = x j := fun k => by
    obtain rfl : k = 0 := Subsingleton.elim _ _
    exact hx j
  by_cases h0 : r.val = 0
  · rw [dif_pos (by omega), if_pos h0]
    exact hx' _
  · rw [dif_neg (by omega), if_neg h0]
    by_cases h1 : r.val = 1
    · rw [dif_pos (by omega), if_pos h1]
      exact congrArg (fun t : EReal => t - t) (hx' _)
    · rw [dif_neg (by omega), if_neg h1]
      exact congrArg (fun t : EReal => t - t - (t - t)) (hx' _)
theorem host_v21 (b : S5000.Idx → EReal) (hb : V0 m c main_arg4 = b) (k : S1x1.Idx) : (V11 m outs c main_v21 : S1x1.Idx → EReal) k = (∑ v : Fin 5000, b (Idealize.ShloMosaic.ix1 v)) * Ideal.ofBits .f32 0x3951B717#32 := by
  have h4 : V10 m outs c main_arg4 = V0 m c main_arg4 := by
    rw [V10_of m outs c main_arg4 (by decide), V9_of m outs c main_arg4 (by decide), V8_of m outs c main_arg4 (by decide), V7_of m c main_arg4 (by decide), V6_of m c main_arg4 (by decide), V5_of m c main_arg4 (by decide), V4_of m c main_arg4 (by decide), V3_of m c main_arg4 (by decide), V2_of m c main_arg4 (by decide), V1_of m c main_arg4 (by decide)]
  rw [← hb, ← h4]
  unfold V11
  after_reads_at
variable (W : Valuation τ sig (Elt Ideal))
theorem host_v23 (q : Fin 4) (t : Fin 768) (u : Fin 129) : (StableHlo.after hostOps2 W main_v23 : S4x768x129.Idx → EReal) (Idealize.ShloMosaic.ix3 q t u) = (W main_v22_0 : S129x4x768.Idx → EReal) (Idealize.ShloMosaic.ix3 u q t) := by
  after_reads_at
theorem host_v24 (q : Fin 4) (t : Fin 768) (u : Fin 128) : (StableHlo.after hostOps2 W main_v24 : S4x768x128.Idx → EReal) (Idealize.ShloMosaic.ix3 q t u) = (W main_v22_1 : S128x4x768.Idx → EReal) (Idealize.ShloMosaic.ix3 u q t) := by
  after_reads_at
theorem host_v25 (q : Fin 4) (t : Fin 768) (u : Fin 129) : (StableHlo.after hostOps2 W main_v25 : S4x768x129.Idx → EReal) (Idealize.ShloMosaic.ix3 q t u) = (W main_v22_2 : S129x4x768.Idx → EReal) (Idealize.ShloMosaic.ix3 u q t) := by
  after_reads_at

end Cert.KernelIdeal.Hand

end
-- ==== Proof.Wsum.lean ====
/- The weight sums: each lane the sum over the vocabulary of the weight times its scale. -/
module

public import proofs.«01_k».proof.Proof.Blocks

@[expose] public section

set_option maxHeartbeats 1000000
set_option maxRecDepth 16384

noncomputable section

namespace Cert.KernelIdeal.Hand

open Cert.KernelIdeal Cert.KernelIdeal.Gen
open Idealize.ShloMosaic Idealize.ShloMosaic.TcCoe Cert.Softmax

theorem pay0_4_apply (o : FVec Ideal S1x128 .f32) (w : FVec Ideal S5024x128 .fp8e4m3) (ws : FVec Ideal S5024x128 .f32) (l : Fin 128) :
    k0_pay4 o w ws (Idealize.ShloMosaic.ix2 0 l) = o (Idealize.ShloMosaic.ix2 0 l) + ∑ v : Fin 5024, w (Idealize.ShloMosaic.ix2 v l) * ws (Idealize.ShloMosaic.ix2 v l) := by
  dsimp only [k0_pay4]
  simp only [pointwise]

theorem pay0_3_apply (j : Fin 896) : k0_pay3 (F := Ideal) (Idealize.ShloMosaic.ix2 0 j) = (0 : EReal) := by
  dsimp only [k0_pay3]
  simp only [pointwise]

variable (w : Vec Ideal S5024x896 .fp8e4m3) (ws : Vec Ideal S5024x128 .f32) (wr : ℕ → Fin 896 → ℝ) (sr : ℕ → ℝ)

/-- One block of lanes: those lanes gain their sums. -/
theorem wput_eq (hw : ∀ (v : Fin 5024) j, w (Idealize.ShloMosaic.ix2 v j) = ((wr v.val j : ℝ) : EReal)) (hws : ∀ (v : Fin 5024) l, ws (Idealize.ShloMosaic.ix2 v l) = ((sr v.val : ℝ) : EReal))
    (n : ℕ) (h1 : ∀ a, (![0, n] : Fin 2 → ℕ) a + S1x128.size a ≤ S1x896.size a) (h2 : ∀ a, (![0, n] : Fin 2 → ℕ) a + S5024x128.size a ≤ S5024x896.size a)
    (o : Vec Ideal S1x896 .f32) (ho : ∀ j : Fin 896, o (Idealize.ShloMosaic.ix2 0 j) = if j.val < n then ((∑ v ∈ Finset.range 5024, wr v j * sr v : ℝ) : EReal) else 0) (j : Fin 896) :
    wput n h1 h2 w ws o (Idealize.ShloMosaic.ix2 0 j) = if j.val < n + 128 then ((∑ v ∈ Finset.range 5024, wr v j * sr v : ℝ) : EReal) else 0 := by
  have hn : n + 128 ≤ 896 := h1 1
  unfold wput
  by_cases h : n ≤ j.val ∧ j.val < n + 128
  · have hin : ∀ a : Fin 2, (![0, n] : Fin 2 → ℕ) a ≤ ((Idealize.ShloMosaic.ix2 0 j : S1x896.Idx) a).val
        ∧ ((Idealize.ShloMosaic.ix2 0 j : S1x896.Idx) a).val < (![0, n] : Fin 2 → ℕ) a + S1x128.size a := by
      intro a; fin_cases a
      · show 0 ≤ 0 ∧ 0 < 0 + 1; omega
      · exact h
    have e : ∀ y : FVec Ideal S1x128 .f32, VecWindow.put o ![0, n] S1x128.size y (Idealize.ShloMosaic.ix2 0 j) = y (Idealize.ShloMosaic.ix2 0 ⟨j.val - n, by omega⟩) := fun y => by
      refine (dif_pos hin).trans (congrArg y (funext fun a => Fin.ext ?_))
      fin_cases a
      · rfl
      · rfl
    rw [e, if_pos h.2]
    refine (pay0_4_apply _ _ _ _).trans ?_
    have a1 : View.ld (Val := Elt Ideal) (e' := .f32) o (Rect.unit (s := S1x896) ![0, n] S1x128.size h1) (Idealize.ShloMosaic.ix2 0 ⟨j.val - n, by omega⟩) = (0 : EReal) := by
      refine (ld_at o _ _ h1 _ rfl (Idealize.ShloMosaic.ix2 0 j) (fun a => ?_)).trans ?_
      · fin_cases a
        · rfl
        · show n + (j.val - n) = j.val; omega
      · rw [ho, if_neg (by omega)]
    rw [a1, zero_add, ← Fin.sum_univ_eq_sum_range (fun v => wr v j * sr v), ← coe_sum]
    refine Finset.sum_congr rfl fun v _ => ?_
    rw [EReal.coe_mul, ← hw, ← hws v ⟨j.val - n, by omega⟩]
    refine congrArg₂ (· * ·) (ld_at w _ _ h2 _ rfl (Idealize.ShloMosaic.ix2 v j) (fun a => ?_)) ?_
    · fin_cases a
      · show 0 + v.val = v.val; omega
      · show n + (j.val - n) = j.val; omega
    · refine (ld_at ws _ _ _ _ rfl (Idealize.ShloMosaic.ix2 v _) (fun a => ?_))
      fin_cases a
      · show 0 + v.val = v.val; omega
      · show 0 + _ = _; omega
  · have hout : ¬ ∀ a : Fin 2, (![0, n] : Fin 2 → ℕ) a ≤ ((Idealize.ShloMosaic.ix2 0 j : S1x896.Idx) a).val
        ∧ ((Idealize.ShloMosaic.ix2 0 j : S1x896.Idx) a).val < (![0, n] : Fin 2 → ℕ) a + S1x128.size a := fun q => h (q 1)
    refine (dif_neg hout).trans ((ho j).trans ?_)
    by_cases hj : j.val < n
    · rw [if_pos hj, if_pos (by omega)]
    · rw [if_neg hj, if_neg (by omega)]

theorem wsumV_eq (hw : ∀ (v : Fin 5024) j, w (Idealize.ShloMosaic.ix2 v j) = ((wr v.val j : ℝ) : EReal)) (hws : ∀ (v : Fin 5024) l, ws (Idealize.ShloMosaic.ix2 v l) = ((sr v.val : ℝ) : EReal))
    (j : Fin 896) : wsumV w ws (Idealize.ShloMosaic.ix2 0 j) = ((∑ v ∈ Finset.range 5024, wr v j * sr v : ℝ) : EReal) := by
  have h0 : ∀ j : Fin 896, k0_pay3 (F := Ideal) (Idealize.ShloMosaic.ix2 0 j) = if j.val < 0 then ((∑ v ∈ Finset.range 5024, wr v j * sr v : ℝ) : EReal) else 0 := fun j => by
    rw [pay0_3_apply, if_neg (Nat.not_lt_zero _)]
  have h1 := wput_eq w ws wr sr hw hws 0 inb_S1x896_S1x128_0_0 inb_S5024x896_S5024x128_0_0 _ h0
  have h2 := wput_eq w ws wr sr hw hws 128 inb_S1x896_S1x128_0_128 inb_S5024x896_S5024x128_0_128 _ h1
  have h3 := wput_eq w ws wr sr hw hws 256 inb_S1x896_S1x128_0_256 inb_S5024x896_S5024x128_0_256 _ h2
  have h4 := wput_eq w ws wr sr hw hws 384 inb_S1x896_S1x128_0_384 inb_S5024x896_S5024x128_0_384 _ h3
  have h5 := wput_eq w ws wr sr hw hws 512 inb_S1x896_S1x128_0_512 inb_S5024x896_S5024x128_0_512 _ h4
  have h6 := wput_eq w ws wr sr hw hws 640 inb_S1x896_S1x128_0_640 inb_S5024x896_S5024x128_0_640 _ h5
  have h7 := wput_eq w ws wr sr hw hws 768 inb_S1x896_S1x128_0_768 inb_S5024x896_S5024x128_0_768 _ h6
  exact (h7 j).trans (if_pos j.isLt)

/-- What the first call leaves is the weight sums of its two arrays. -/
theorem wsum_arr {F : FTy → Type} [FloatOps F] [Named F] (V : Valuation τ sig (Elt F)) (c : Dev nD) :
    Pipeline.afterRegion (dat0 V c) V (Proc.devRef .tc main_v9) = wsumV (V (Proc.devRef .tc main_v2)) (V (Proc.devRef .tc main_v5)) := by
  have e : ∀ (t : Fin cfg0.N) (y : S1x896.Idx), ((cfg0.win 2).rect t).emb y = y := fun t y =>
    funext fun a => Fin.ext ((cfg0.win 2).rect_emb_val_of_index_zero t a (by fin_cases a <;> rfl) y)
  have e0 : stg00 V = V (Proc.devRef .tc main_v2) := by
    funext y
    show V (Proc.devRef .tc main_v2) (((cfg0.win 0).rect t0_0).emb y) = _
    exact congrArg _ (funext fun a => Fin.ext ((cfg0.win 0).rect_emb_val_of_index_zero t0_0 a (by fin_cases a <;> rfl) y))
  have e1 : stg01 V = V (Proc.devRef .tc main_v5) := by
    funext y
    show V (Proc.devRef .tc main_v5) (((cfg0.win 1).rect t0_0).emb y) = _
    exact congrArg _ (funext fun a => Fin.ext ((cfg0.win 1).rect_emb_val_of_index_zero t0_0 a (by fin_cases a <;> rfl) y))
  refine (Pipeline.afterRegion_arr (dat0 V c) V (launch0 (F := F)).win.arr_inj 2).trans ?_
  rw [← e0, ← e1]
  refine (dat0 V c).arrAt_eq_of_cover 2 (wsumV (stg00 V) (stg01 V)) (fun t h => ?_) (fun i => ⟨t0_0, by decide, Finset.mem_map.mpr ⟨i, Finset.mem_univ _, e t0_0 i⟩⟩)
  funext y
  show wsumV (stg00 V) (stg01 V) _ = wsumV (stg00 V) (stg01 V) (((cfg0.win 2).rect t).emb y)
  rw [e]

end Cert.KernelIdeal.Hand

end
-- ==== Proof.Args.lean ====
/- The arguments as real numbers: the codes decoded, the scales and the bias; nothing beyond the vocabulary. -/
module

public import proofs.«01_k».proof.Proof.PrePre
public import Idealize.ShloMosaic.Lib.Pointwise

@[expose] public section

set_option maxHeartbeats 1000000

noncomputable section

namespace Cert.Args

open Idealize.ShloMosaic

/-- The real number an 8-bit code stands for. -/
def dec (b : BitVec 8) : ℝ := (Ideal.e4m3fn b).toReal

/-- Every code but the two that stand for no number is a real number. -/
theorem dec_eq {b : BitVec 8} (h1 : b ≠ 127#8) (h2 : b ≠ 255#8) : Ideal.ofBits .fp8e4m3 b = ((dec b : ℝ) : EReal) := by
  have hb : ∀ b : BitVec 8, (b.extractLsb' 3 4).toNat = 15 ∧ (b.extractLsb' 0 3).toNat = 7 → b = 127#8 ∨ b = 255#8 := by decide
  have hn : ¬ ((b.extractLsb' 3 4).toNat = 15 ∧ (b.extractLsb' 0 3).toNat = 7) := fun h => (hb b h).elim h1 h2
  show Ideal.e4m3fn b = _
  unfold dec Ideal.e4m3fn
  simp only [if_neg hn]
  split <;> rw [EReal.toReal_coe]

/-- The zero byte is the number 0. -/
theorem dec_zero : dec 0#8 = 0 := by simp [dec, Ideal.e4m3fn]

theorem ofBits_zero8 : Ideal.ofBits .fp8e4m3 0#8 = ((0 : ℝ) : EReal) := by
  rw [dec_eq (by decide) (by decide), dec_zero]

/-- The joint's codes. -/
def zR (a0 : Cert.Pre_pre.S4x129x768x896.Idx → BitVec 8) (q : Fin 4) (u : Fin 129) (t : Fin 768) (j : Fin 896) : ℝ := dec (a0 (ix4 q u t j))
/-- The joint's scales. -/
def zsR (a1 : Cert.Pre_pre.S129x4x768.Idx → EReal) (q : Fin 4) (u : Fin 129) (t : Fin 768) : ℝ := (a1 (ix3 u q t)).toReal
/-- The weight's codes, zero past the vocabulary. -/
def wR (a2 : Cert.Pre_pre.S5000x896.Idx → BitVec 8) (v : ℕ) (j : Fin 896) : ℝ := if h : v < 5000 then dec (a2 (ix2 ⟨v, h⟩ j)) else 0
/-- A vector over the vocabulary, zero past it. -/
def vR (a : Cert.Pre_pre.S5000.Idx → EReal) (v : ℕ) : ℝ := if h : v < 5000 then (a (ix1 ⟨v, h⟩)).toReal else 0

theorem real_eq {x : EReal} (h : ∃ r : ℝ, x = (r : EReal)) : x = ((x.toReal : ℝ) : EReal) := by
  obtain ⟨r, rfl⟩ := h
  rw [EReal.toReal_coe]

end Cert.Args

end
-- ==== Proof.Feed.lean ====
/- What the head call is fed, as real numbers, and so what its three results hold after the run. -/
module

public import proofs.«01_k».proof.Proof.Host
public import proofs.«01_k».proof.Proof.Wsum
public import proofs.«01_k».proof.Proof.Args

@[expose] public section

set_option maxHeartbeats 1000000
set_option maxRecDepth 16384

noncomputable section

namespace Cert.KernelIdeal.Hand

open Cert.KernelIdeal Cert.KernelIdeal.Gen
open Idealize.ShloMosaic Idealize.ShloMosaic.TcCoe Cert.Softmax Cert.Args

variable (m : (ℓ : Loc nD τ sig) → Buf (Elt Ideal) ℓ) (hok : (ok1 (F := Ideal)) (tabs m))
variable {a0 : IVec S4x129x768x896 8} {a1 : FVec Ideal S129x4x768 .f32} {a2 : IVec S5000x896 8} {a3 a4 : FVec Ideal S5000 .f32}
  {lab : IVec S4x128 32} {el tl : IVec S4 32} (G : Cert.Pre_pre.Hand.Good a0 a1 a2 a3 a4 lab el tl)
  (h0 : V0 m 0 main_arg0 = a0) (h1 : V0 m 0 main_arg1 = a1) (h2 : V0 m 0 main_arg2 = a2) (h3 : V0 m 0 main_arg3 = a3) (h4 : V0 m 0 main_arg4 = a4)
  (h5 : tabs m 2 = lab) (h6 : tabs m 0 = el) (h7 : tabs m 1 = tl)

/-- An array of the first stretch is the same when the head is entered. -/
theorem V11_of_V7 (outs : Outs (F := Ideal)) (c : Dev nD) (r : Ref sig .tc) (k1 : r ∉ hostOps1_2_W) (k2 : r ∉ hostOps1_1_W) (k3 : r ∉ hostOps1_W)
    (k4 : r ∉ ([main_v9] : List (Ref sig .tc))) : V11 m outs c r = V7 m c r := by
  rw [V11_of m outs c r k1, V10_of m outs c r k2, V9_of m outs c r k3, V8_of m outs c r k4]

include G in
theorem w_real (v : Fin 5024) (j : Fin 896) :
    Ideal.ofBits .fp8e4m3 (if h : v.val < 5000 then a2 (Idealize.ShloMosaic.ix2 ⟨v.val, h⟩ j) else 0#8) = ((wR a2 v.val j : ℝ) : EReal) := by
  unfold wR
  by_cases h : v.val < 5000
  · rw [dif_pos h, dif_pos h]; exact dec_eq (G.w127 _) (G.w255 _)
  · rw [dif_neg h, dif_neg h]; exact ofBits_zero8

theorem v_real {a : FVec Ideal S5000 .f32} (ha : ∀ i, ∃ r : ℝ, a i = (r : EReal)) (v : Fin 5024) :
    (if h : v.val < 5000 then a (Idealize.ShloMosaic.ix1 ⟨v.val, h⟩) else (0 : EReal)) = ((vR a v.val : ℝ) : EReal) := by
  unfold vR
  by_cases h : v.val < 5000
  · rw [dif_pos h, dif_pos h]; exact real_eq (ha _)
  · rw [dif_neg h, dif_neg h]; rfl

include G h2 in
theorem w_in (v : Fin 5024) (j : Fin 896) : V7 m 0 main_v2 (Idealize.ShloMosaic.ix2 v j) = ((wR a2 v.val j : ℝ) : EReal) := by
  rw [V7_v2, h2]
  exact w_real G v j
include G h3 in
theorem ws_in (v : Fin 5024) (l : Fin 128) : (V7 m 0 main_v5 : S5024x128.Idx → EReal) (Idealize.ShloMosaic.ix2 v l) = ((vR a3 v.val : ℝ) : EReal) :=
  (V7_v5 m 0 a3 h3 v l).trans (v_real G.ws_fin v)
include G h4 in
theorem b_in (v : Fin 5024) (l : Fin 128) : (V7 m 0 main_v8 : S5024x128.Idx → EReal) (Idealize.ShloMosaic.ix2 v l) = ((vR a4 v.val : ℝ) : EReal) :=
  (V7_v8 m 0 a4 h4 v l).trans (v_real G.b_fin v)

include G h2 h3 in
/-- The weight sums, as real numbers. -/
theorem wsum_in (j : Fin 896) : (V8 m (outs8 m) 0 main_v9 : S1x896.Idx → EReal) (Idealize.ShloMosaic.ix2 0 j) = ((∑ v ∈ Finset.range 5000, wR a2 v j * vR a3 v : ℝ) : EReal) := by
  unfold V8
  rw [Function.update_self]
  unfold outs8
  rw [wsum_arr]
  refine (wsumV_eq _ _ (wR a2) (vR a3) (w_in m G h2) (ws_in m G h3) j).trans (congrArg _ ?_)
  refine (Finset.sum_subset (Finset.range_mono (by norm_num)) fun v _ hv => ?_).symm
  have : ¬ v < 5000 := fun h => hv (Finset.mem_range.mpr h)
  unfold wR
  rw [dif_neg this, zero_mul]

include G in
theorem b_sum : (∑ v : Fin 5000, a4 (Idealize.ShloMosaic.ix1 v)) = ((∑ v ∈ Finset.range 5000, vR a4 v : ℝ) : EReal) := by
  rw [← Fin.sum_univ_eq_sum_range (fun v => vR a4 v), ← coe_sum]
  refine Finset.sum_congr rfl fun v _ => ?_
  unfold vR
  rw [dif_pos v.isLt]
  exact real_eq (G.b_fin _)

include G h0 h1 h2 h3 h4 h5 h6 h7 in
/-- The head's inputs are the arguments' real numbers. -/
theorem fed : Fed (adm1 m hok) (V11 m (outs8 m) 0) (zR a0) (zsR a1) (wR a2) (vR a3) (vR a4) where
  hr := by
    show Cert.Pre_pre_int.Hand.InRange (tabs m 2) (tabs m 0) (tabs m 1)
    rw [h5, h6, h7]; exact G.rng
  lane t hc l := by
    have hr : Cert.Pre_pre_int.Hand.InRange (tabs m 2) (tabs m 0) (tabs m 1) := by rw [h5, h6, h7]; exact G.rng
    refine ⟨fun j => ?_, ?_, fun v j => ?_, fun v => ?_, fun v => ?_⟩
    · refine (blk_0 (adm1 m hok) (V11 m (outs8 m) 0) hr t hc l j).trans ((host_v0 m (outs8 m) 0 _).trans ?_)
      rw [h0]
      exact dec_eq (G.z127 _) (G.z255 _)
    · refine (congrFun (blk_1 (adm1 m hok) (V11 m (outs8 m) 0) t) _).trans ?_
      have e : V11 m (outs8 m) 0 main_arg1 = a1 := by
        rw [V11_of_V7 m _ 0 main_arg1 (by decide) (by decide) (by decide) (by decide), V7_of m 0 main_arg1 (by decide), V6_of m 0 main_arg1 (by decide), V5_of m 0 main_arg1 (by decide), V4_of m 0 main_arg1 (by decide), V3_of m 0 main_arg1 (by decide), V2_of m 0 main_arg1 (by decide), V1_of m 0 main_arg1 (by decide)]
        exact h1
      rw [e]
      exact real_eq (G.zs_fin _)
    · refine (congrFun (blk_2 (adm1 m hok) (V11 m (outs8 m) 0) t) _).trans ?_
      rw [V11_of_V7 m _ 0 main_v2 (by decide) (by decide) (by decide) (by decide)]
      exact w_in m G h2 v j
    · refine (congrFun (blk_3 (adm1 m hok) (V11 m (outs8 m) 0) t) _).trans ?_
      rw [V11_of_V7 m _ 0 main_v5 (by decide) (by decide) (by decide) (by decide)]
      exact ws_in m G h3 v l
    · refine (congrFun (blk_4 (adm1 m hok) (V11 m (outs8 m) 0) t) _).trans ?_
      rw [V11_of_V7 m _ 0 main_v8 (by decide) (by decide) (by decide) (by decide)]
      exact b_in m G h4 v l
  hwl t r j hr := by
    refine (congrFun (blk_5 (adm1 m hok) (V11 m (outs8 m) 0) t) _).trans ((host_v18 m (outs8 m) 0 _ (wsum_in m G h2 h3) r j hr).trans ?_)
    have z (x : ℝ) : (x : EReal) - (x : EReal) = 0 := by rw [← EReal.coe_sub, sub_self]; rfl
    by_cases e0 : r.val = 0
    · rw [if_pos e0, if_pos e0]
    · rw [if_neg e0, if_neg e0, z]
      split
      · rfl
      · exact z 0
  hbm t k := by
    refine (congrFun (blk_6 (adm1 m hok) (V11 m (outs8 m) 0) t) _).trans ((host_v21 m (outs8 m) 0 a4 h4 k).trans ?_)
    rw [b_sum G, kV_eq, ← EReal.coe_mul]

variable (hT : TabsOK (adm1 m hok))

include G h0 h1 h2 h3 h4 h5 h6 h7 in
theorem res_v23 (q : Fin 4) (t : Fin 768) (u : Fin 129) : (V13 m (outsF m hok hT) 0 main_v23 : S4x768x129.Idx → EReal) (Idealize.ShloMosaic.ix3 q t u)
    = spec13 (zR a0) (zsR a1) (wR a2) (vR a3) (vR a4) el tl u q t := by
  refine (host_v23 _ q t u).trans ?_
  have e : V12 m (outsF m hok hT) 0 main_v22_0 = (stT (adm1 m hok) (V11 m (outs8 m) 0) hT 3096).o13 :=
    (after1 m hok hT 0 _ (by decide)).symm.trans ((Pipeline.afterRegion_arr (datH m hok hT 0) _ (launch1 (F := Ideal)).win.arr_inj 7).trans (arr_7 _ _ hT 0))
  rw [e, o13_eq hT (fed m hok G h0 h1 h2 h3 h4 h5 h6 h7) 3096 le_rfl, if_pos (by omega)]
  show spec13 _ _ _ _ _ (tabs m 0) (tabs m 1) u q t = _
  rw [h6, h7]
include G h0 h1 h2 h3 h4 h5 h6 h7 in
theorem res_v24 (q : Fin 4) (t : Fin 768) (u : Fin 128) : (V13 m (outsF m hok hT) 0 main_v24 : S4x768x128.Idx → EReal) (Idealize.ShloMosaic.ix3 q t u)
    = spec14 (zR a0) (zsR a1) (wR a2) (vR a3) (vR a4) el tl lab u q t := by
  refine (host_v24 _ q t u).trans ?_
  have e : V12 m (outsF m hok hT) 0 main_v22_1 = (stT (adm1 m hok) (V11 m (outs8 m) 0) hT 3096).o14 :=
    (after1 m hok hT 0 _ (by decide)).symm.trans ((Pipeline.afterRegion_arr (datH m hok hT 0) _ (launch1 (F := Ideal)).win.arr_inj 8).trans (arr_8 _ _ hT 0))
  rw [e, o14_eq hT (fed m hok G h0 h1 h2 h3 h4 h5 h6 h7) 3096 le_rfl, if_pos (by omega)]
  show spec14 _ _ _ _ _ (tabs m 0) (tabs m 1) (tabs m 2) u q t = _
  rw [h5, h6, h7]
include G h0 h1 h2 h3 h4 h5 h6 h7 in
theorem res_v25 (q : Fin 4) (t : Fin 768) (u : Fin 129) : (V13 m (outsF m hok hT) 0 main_v25 : S4x768x129.Idx → EReal) (Idealize.ShloMosaic.ix3 q t u)
    = spec15 (zR a0) (zsR a1) (wR a2) (vR a3) (vR a4) el tl u q t := by
  refine (host_v25 _ q t u).trans ?_
  have e : V12 m (outsF m hok hT) 0 main_v22_2 = (stT (adm1 m hok) (V11 m (outs8 m) 0) hT 3096).o15 :=
    (after1 m hok hT 0 _ (by decide)).symm.trans ((Pipeline.afterRegion_arr (datH m hok hT 0) _ (launch1 (F := Ideal)).win.arr_inj 9).trans (arr_9 _ _ hT 0))
  rw [e, o15_eq hT (fed m hok G h0 h1 h2 h3 h4 h5 h6 h7) 3096 le_rfl, if_pos (by omega)]
  show spec15 _ _ _ _ _ (tabs m 0) (tabs m 1) u q t = _
  rw [h6, h7]

end Cert.KernelIdeal.Hand

end
-- ==== Proof.RefRow.lean ====
/- The reference's values at an index: its logits, their log-sum-exp, the masks and the three results. -/
module

public import proofs.«01_k».proof.Proof.State
public import proofs.«01_k».proof.Proof.Args
public import proofs.«01_k».proof.Proof.Gen.ReferenceIdeal.Value
public import Idealize.ShloMosaic.Lib.StableHlo.ReadAt

@[expose] public section

set_option maxHeartbeats 1000000
set_option maxRecDepth 16384

noncomputable section

namespace Cert.ReferenceIdeal.Hand

open Cert.ReferenceIdeal Cert.ReferenceIdeal.Gen
open Idealize.ShloMosaic Idealize.ShloMosaic.TcCoe Cert.Softmax Cert.Args

/-- A select is the choice its bit stands for. -/
theorem sel_iff {α : Type} {C : BitVec 1} {P : Prop} [Decidable P] (h : C = 1#1 ↔ P) {a b z : α} (hab : P → a = b) :
    Scalar.select C a z = if P then b else z := by
  show (if C = 1#1 then a else z) = _
  by_cases hp : P
  · rw [if_pos (h.mpr hp), if_pos hp, hab hp]
  · rw [if_neg (fun e => hp (h.mp e)), if_neg hp]

theorem nat_toInt {n : ℕ} (h : n < 2 ^ 31) : (BitVec.ofNat 32 n).toInt = (n : ℤ) := by
  rw [BitVec.toInt_eq_toNat_of_lt (by rw [BitVec.toNat_ofNat]; omega), BitVec.toNat_ofNat]; omega

theorem ix3_congr {n0 n1 n2 : ℕ} {a a' : Fin n0} {b b' : Fin n1} {c c' : Fin n2} (ha : a.val = a'.val) (hb : b.val = b'.val) (hc : c.val = c'.val) :
    (ix3 a b c : (⟨3, ![n0, n1, n2]⟩ : Shape).Idx) = ix3 a' b' c' := by
  rw [Fin.ext ha, Fin.ext hb, Fin.ext hc]

theorem ix4_congr {n0 n1 n2 n3 : ℕ} {a a' : Fin n0} {b b' : Fin n1} {c c' : Fin n2} {d d' : Fin n3} (ha : a.val = a'.val) (hb : b.val = b'.val) (hc : c.val = c'.val)
    (hd : d.val = d'.val) : (ix4 a b c d : (⟨4, ![n0, n1, n2, n3]⟩ : Shape).Idx) = ix4 a' b' c' d' := by
  rw [Fin.ext ha, Fin.ext hb, Fin.ext hc, Fin.ext hd]

variable (x0 : FVec Ideal S4x768x129x896 .fp8e4m3) (x2 : FVec Ideal S5000x896 .fp8e4m3) (x1 : FVec Ideal S4x768x129x1 .f32) (x3 x4 : FVec Ideal S1x1x1x5000 .f32)

/-- A logit of the reference. -/
theorem pay1_apply (q : Fin 4) (t : Fin 768) (u : Fin 129) (v : Fin 5000) : k0_pay1 (F := Ideal) x0 x2 x1 x3 x4 (ix4 q t u v)
    = (∑ j : Fin 896, (x0 (ix4 q t u j) : EReal) * x2 (ix2 v j)) * x1 (ix4 q t u 0) * x3 (ix4 0 0 0 v) + x4 (ix4 0 0 0 v) := by
  dsimp only [k0_pay1]
  simp only [pointwise]
  rw [zero_add]
  rfl

theorem max_apply (X : FVec Ideal S4x768x129x5000 .f32) (q : Fin 4) (t : Fin 768) (u : Fin 129) :
    multiReduction .maximumf [3] S4x768x129 X 0xFF800000#32 reduces_S4x768x129x5000_S4x768x129 (.inl rfl) rfl (ix3 q t u)
      = Finset.univ.fold max ⊥ (fun v => X (ix4 q t u v)) := by
  simp only [pointwise]
  rw [Cert.KernelIdeal.Hand.ofBits_bot]

theorem lse_apply (X : FVec Ideal S4x768x129x5000 .f32) (M : FVec Ideal S4x768x129 .f32) (q : Fin 4) (t : Fin 768) (u : Fin 129) :
    addf M (log (multiReduction .add [3] S4x768x129 (exp (subf X (broadcastTo S4x768x129x5000 (shapeCast S4x768x129x1 M shapeCasts_S4x768x129_S4x768x129x1)
      broadcasts_S4x768x129x1_S4x768x129x5000))) 0x00000000#32 reduces_S4x768x129x5000_S4x768x129 (.inl rfl) rfl)) (ix3 q t u)
    = M (ix3 q t u) + Ideal.log (∑ v : Fin 5000, Ideal.exp (X (ix4 q t u v) - M (ix3 q t u))) := by
  simp only [pointwise]
  rfl

/-- The reference's log-sum-exp of a row. -/
theorem pay2_apply (q : Fin 4) (t : Fin 768) (u : Fin 129) (r : Fin 5000 → EReal) (hr : ∀ v, k0_pay1 (F := Ideal) x0 x2 x1 x3 x4 (ix4 q t u v) = r v) : k0_pay2 (F := Ideal) x0 x2 x1 x3 x4 (ix3 q t u)
    = Finset.univ.fold max ⊥ r + Ideal.log (∑ v : Fin 5000, Ideal.exp (r v - Finset.univ.fold max ⊥ r)) := by
  obtain rfl : (fun v => k0_pay1 (F := Ideal) x0 x2 x1 x3 x4 (ix4 q t u v)) = r := funext hr
  clear hr
  rw [← max_apply]
  exact lse_apply _ _ q t u

theorem pay3_apply (q : Fin 4) (t : Fin 768) (u : Fin 129) (r : Fin 5000 → EReal) (hr : ∀ v, k0_pay1 (F := Ideal) x0 x2 x1 x3 x4 (ix4 q t u v) = r v) : k0_pay3 (F := Ideal) x0 x2 x1 x3 x4 (ix3 q t u)
    = Ideal.ofBits .f32 961656599#32 * ∑ v : Fin 5000, r v := by
  obtain rfl : (fun v => k0_pay1 (F := Ideal) x0 x2 x1 x3 x4 (ix4 q t u v)) = r := funext hr
  clear hr
  dsimp only [k0_pay3]
  generalize k0_pay1 (F := Ideal) x0 x2 x1 x3 x4 = X
  simp only [pointwise]

theorem pay4_apply (q : Fin 4) (t : Fin 768) (u : Fin 129) : k0_pay4 (F := Ideal) x0 x2 x1 x3 x4 (ix3 q t u)
    = (k0_pay1 (F := Ideal) x0 x2 x1 x3 x4 (ix4 q t u 0) : EReal) - k0_pay2 (F := Ideal) x0 x2 x1 x3 x4 (ix3 q t u) := by
  dsimp only [k0_pay4]
  generalize k0_pay1 (F := Ideal) x0 x2 x1 x3 x4 = X
  generalize k0_pay2 (F := Ideal) x0 x2 x1 x3 x4 = Y
  simp only [pointwise]
  exact congrArg (fun i => (X i : EReal) - Y (ix3 q t u)) (ix4_congr (Nat.zero_add _) (Nat.zero_add _) (Nat.zero_add _) rfl)

theorem pay6_apply (e l : IVec S4x1x1 32) (q : Fin 4) (t : Fin 768) (u : Fin 129) : k0_pay6 (F := Ideal) e l (ix3 q t u) = 1#1
    ↔ (t.val : ℤ) < (e (ix3 q 0 0)).toInt ∧ (u.val : ℤ) ≤ (l (ix3 q 0 0)).toInt := by
  dsimp only [k0_pay6, k0_pay5]
  simp only [pointwise]
  simp only [List.foldl, zero_mul, zero_add]
  show IntOp.andi (IntOp.cmpi .slt (BitVec.ofNat 32 t.val) (e (ix3 q 0 0))) (IntOp.cmpi .sle (BitVec.ofNat 32 u.val) (l (ix3 q 0 0))) = 1#1 ↔ _
  refine IntOp.andi_eq_one.trans (and_congr (IntOp.cmpi_slt.trans ?_) (IntOp.cmpi_sle.trans ?_))
  · rw [nat_toInt (by omega)]
  · rw [nat_toInt (by omega)]

theorem pay7_apply (X : FVec Ideal S4x768x129 .f32) (e l : IVec S4x1x1 32) (q : Fin 4) (t : Fin 768) (u : Fin 129) : k0_pay7 X e l (ix3 q t u)
    = if (t.val : ℤ) < (e (ix3 q 0 0)).toInt ∧ (u.val : ℤ) ≤ (l (ix3 q 0 0)).toInt then X (ix3 q t u) else 0 := by
  have h := pay6_apply e l q t u
  dsimp only [k0_pay7]
  generalize k0_pay6 (F := Ideal) e l = Y at h ⊢
  simp only [pointwise]
  exact sel_iff h fun _ => rfl

theorem pay9_apply (X : FVec Ideal S4x768x129 .f32) (e l : IVec S4x1x1 32) (q : Fin 4) (t : Fin 768) (u : Fin 129) : k0_pay9 X e l (ix3 q t u)
    = if (t.val : ℤ) < (e (ix3 q 0 0)).toInt ∧ (u.val : ℤ) ≤ (l (ix3 q 0 0)).toInt then X (ix3 q t u) else 0 :=
  pay7_apply X e l q t u

theorem pay8_apply (X : FVec Ideal S4x768x129x5000 .f32) (Y : FVec Ideal S4x768x129 .f32) (lb : IVec S4x1x128x1 32) (e l : IVec S4x1x1 32) (q : Fin 4) (t : Fin 768) (u : Fin 128) :
    k0_pay8 X Y (iota .tc S4x768x128x5000 32 [3] iota_S4x768x128x5000_d3_w32) lb e l (ix3 q t u)
    = if (t.val : ℤ) < (e (ix3 q 0 0)).toInt ∧ (u.val : ℤ) < (l (ix3 q 0 0)).toInt then
        (∑ v : Fin 5000, if BitVec.ofNat 32 v.val = lb (ix4 q 0 u 0) then X (ix4 q t (u.castLE (by norm_num)) v) else 0) - Y (ix3 q t (u.castLE (by norm_num))) else 0 := by
  dsimp only [k0_pay8, k0_pay5]
  simp only [pointwise]
  simp only [List.foldl, zero_mul, zero_add]
  refine sel_iff (IntOp.andi_eq_one.trans (and_congr (IntOp.cmpi_slt.trans ?_) (IntOp.cmpi_slt.trans ?_))) fun _ =>
    congrArg₂ (fun a b : EReal => a - b) (Finset.sum_congr rfl fun k _ => sel_iff (IntOp.cmpi_eq.trans ?_) fun _ => ?_) ?_
  · have h2 : (![0, 0, 0] 1 + t.val) = t.val := Nat.zero_add _
    have p : (BitVec.ofNat 32 (![0, 0, 0] 1 + t.val)).toInt = (t.val : ℤ) := by rw [h2, nat_toInt (by omega)]
    exact (congrArg₂ (fun (n : ℤ) (i : S4x1x1.Idx) => n < (e i).toInt) p (ix3_congr (Nat.zero_add _) rfl rfl)).to_iff
  · show (BitVec.ofNat 32 u.val).toInt < (l (ix3 q 0 0)).toInt ↔ _
    rw [nat_toInt (by omega)]
  · rfl
  · exact congrArg X (ix4_congr (Nat.zero_add _) (Nat.zero_add _) (Nat.zero_add _) (Nat.zero_add _))
  · exact congrArg Y (ix3_congr (Nat.zero_add _) (Nat.zero_add _) (Nat.zero_add _))

end Cert.ReferenceIdeal.Hand

end
-- ==== Proof.RefArr.lean ====
/- What the reference reads, and what its results hold, as whole arrays and at an index. -/
module

public import proofs.«01_k».proof.Proof.Args
public import proofs.«01_k».proof.Proof.Gen.ReferenceIdeal.Value
public import Idealize.ShloMosaic.Lib.StableHlo.ReadAt

@[expose] public section

set_option maxHeartbeats 1000000
set_option maxRecDepth 16384

noncomputable section

namespace Cert.ReferenceIdeal.Hand

open Cert.ReferenceIdeal Cert.ReferenceIdeal.Gen Cert.ReferenceIdeal.Value
open Idealize.ShloMosaic Idealize.ShloMosaic.TcCoe Cert.Args
open Idealize.ShloMosaic.Pipeline (Dat)

section
variable {F : FTy → Type} [FloatOps F] [Named F]
variable (m : (ℓ : Loc nD τ sig) → Buf (Elt F) ℓ) (c : Dev nD)

theorem iblk_0 (t : Fin cfg0.N) : iblk m c 0 t = V m c main_v1 := by
  funext y
  show V m c main_v1 (((cfg0.win 0).rect t).emb y) = _
  exact congrArg _ (funext fun a => Fin.ext ((cfg0.win 0).rect_emb_val_of_index_zero t a (by fin_cases a <;> rfl) y))
theorem iblk_1 (t : Fin cfg0.N) : iblk m c 1 t = V m c main_v4 := by
  funext y
  show V m c main_v4 (((cfg0.win 1).rect t).emb y) = _
  exact congrArg _ (funext fun a => Fin.ext ((cfg0.win 1).rect_emb_val_of_index_zero t a (by fin_cases a <;> rfl) y))
theorem iblk_2 (t : Fin cfg0.N) : iblk m c 2 t = V m c main_v3 := by
  funext y
  show V m c main_v3 (((cfg0.win 2).rect t).emb y) = _
  exact congrArg _ (funext fun a => Fin.ext ((cfg0.win 2).rect_emb_val_of_index_zero t a (by fin_cases a <;> rfl) y))
theorem iblk_3 (t : Fin cfg0.N) : iblk m c 3 t = V m c main_v5 := by
  funext y
  show V m c main_v5 (((cfg0.win 3).rect t).emb y) = _
  exact congrArg _ (funext fun a => Fin.ext ((cfg0.win 3).rect_emb_val_of_index_zero t a (by fin_cases a <;> rfl) y))
theorem iblk_4 (t : Fin cfg0.N) : iblk m c 4 t = V m c main_v6 := by
  funext y
  show V m c main_v6 (((cfg0.win 4).rect t).emb y) = _
  exact congrArg _ (funext fun a => Fin.ext ((cfg0.win 4).rect_emb_val_of_index_zero t a (by fin_cases a <;> rfl) y))
theorem iblk_5 (t : Fin cfg0.N) : iblk m c 5 t = V m c main_v7 := by
  funext y
  show V m c main_v7 (((cfg0.win 5).rect t).emb y) = _
  exact congrArg _ (funext fun a => Fin.ext ((cfg0.win 5).rect_emb_val_of_index_zero t a (by fin_cases a <;> rfl) y))
theorem iblk_6 (t : Fin cfg0.N) : iblk m c 6 t = V m c main_v8 := by
  funext y
  show V m c main_v8 (((cfg0.win 6).rect t).emb y) = _
  exact congrArg _ (funext fun a => Fin.ext ((cfg0.win 6).rect_emb_val_of_index_zero t a (by fin_cases a <;> rfl) y))
theorem iblk_7 (t : Fin cfg0.N) : iblk m c 7 t = V m c main_v9 := by
  funext y
  show V m c main_v9 (((cfg0.win 7).rect t).emb y) = _
  exact congrArg _ (funext fun a => Fin.ext ((cfg0.win 7).rect_emb_val_of_index_zero t a (by fin_cases a <;> rfl) y))

theorem z2 : (![0, 0] : Fin 2 → Nat) = fun _ => 0 := by funext a; fin_cases a <;> rfl
theorem z3 : (![0, 0, 0] : Fin 3 → Nat) = fun _ => 0 := by funext a; fin_cases a <;> rfl
theorem z4 : (![0, 0, 0, 0] : Fin 4 → Nat) = fun _ => 0 := by funext a; fin_cases a <;> rfl

variable (x0 : Vec F S4x768x129x896 .fp8e4m3) (x1 : Vec F S4x768x129x1 .f32) (x2 : Vec F S5000x896 .fp8e4m3) (x3 x4 : Vec F S1x1x1x5000 .f32) (x5 : Vec F S4x1x128x1 .i32) (x6 x7 : Vec F S4x1x1 .i32)

theorem out_8 : out0_8 x0 x1 x2 x3 x4 x5 x6 x7 = k0_pay7 (k0_pay4 x0 x2 x1 x3 x4) x6 x7 := by
  unfold out0_8
  rw [View.canon_cons_unit_zero z3, View.ld_unit_zero z4, View.ld_unit_zero z2, View.ld_unit_zero z4, View.ld_unit_zero z4, View.ld_unit_zero z4, View.ld_unit_zero z3, View.ld_unit_zero z3]
theorem out_9 : out0_9 x0 x1 x2 x3 x4 x5 x6 x7 = k0_pay8 (k0_pay1 x0 x2 x1 x3 x4) (k0_pay2 x0 x2 x1 x3 x4) (iota .tc S4x768x128x5000 32 [3] iota_S4x768x128x5000_d3_w32) x5 x6 x7 := by
  unfold out0_9
  rw [View.canon_cons_unit_zero z3, View.ld_unit_zero z4, View.ld_unit_zero z2, View.ld_unit_zero z4, View.ld_unit_zero z4, View.ld_unit_zero z4, View.ld_unit_zero z4, View.ld_unit_zero z3, View.ld_unit_zero z3]
theorem out_10 : out0_10 x0 x1 x2 x3 x4 x5 x6 x7 = k0_pay9 (k0_pay3 x0 x2 x1 x3 x4) x6 x7 := by
  unfold out0_10
  rw [View.canon_cons_unit_zero z3, View.ld_unit_zero z4, View.ld_unit_zero z2, View.ld_unit_zero z4, View.ld_unit_zero z4, View.ld_unit_zero z4, View.ld_unit_zero z3, View.ld_unit_zero z3]

theorem arr_8 : (dats m 0 c).arrAt 8 cfg0.N = k0_pay7 (k0_pay4 (V m c main_v1) (V m c main_v3) (V m c main_v4) (V m c main_v5) (V m c main_v6)) (V m c main_v8) (V m c main_v9) := by
  have e : ∀ (t : Fin cfg0.N) (y : S4x768x129.Idx), ((cfg0.win 8).rect t).emb y = y := fun t y =>
    funext fun a => Fin.ext ((cfg0.win 8).rect_emb_val_of_index_zero t a (by fin_cases a <;> rfl) y)
  refine (dats m 0 c).arrAt_eq_of_cover 8 _ (fun t h => ?_) (fun i => ⟨t0_0, by decide, Finset.mem_map.mpr ⟨i, Finset.mem_univ _, e t0_0 i⟩⟩)
  rw [flushed8, out_8, iblk_0, iblk_1, iblk_2, iblk_3, iblk_4, iblk_6, iblk_7]
  generalize k0_pay7 (F := F) _ _ _ = P
  funext y
  show P _ = P (((cfg0.win 8).rect t).emb y)
  rw [e]
theorem arr_9 : (dats m 0 c).arrAt 9 cfg0.N = k0_pay8 (k0_pay1 (V m c main_v1) (V m c main_v3) (V m c main_v4) (V m c main_v5) (V m c main_v6))
    (k0_pay2 (V m c main_v1) (V m c main_v3) (V m c main_v4) (V m c main_v5) (V m c main_v6)) (iota .tc S4x768x128x5000 32 [3] iota_S4x768x128x5000_d3_w32) (V m c main_v7) (V m c main_v8) (V m c main_v9) := by
  have e : ∀ (t : Fin cfg0.N) (y : S4x768x128.Idx), ((cfg0.win 9).rect t).emb y = y := fun t y =>
    funext fun a => Fin.ext ((cfg0.win 9).rect_emb_val_of_index_zero t a (by fin_cases a <;> rfl) y)
  refine (dats m 0 c).arrAt_eq_of_cover 9 _ (fun t h => ?_) (fun i => ⟨t0_0, by decide, Finset.mem_map.mpr ⟨i, Finset.mem_univ _, e t0_0 i⟩⟩)
  rw [flushed9, out_9, iblk_0, iblk_1, iblk_2, iblk_3, iblk_4, iblk_5, iblk_6, iblk_7]
  generalize k0_pay8 (F := F) _ _ _ _ _ _ = P
  funext y
  show P _ = P (((cfg0.win 9).rect t).emb y)
  rw [e]
theorem arr_10 : (dats m 0 c).arrAt 10 cfg0.N = k0_pay9 (k0_pay3 (V m c main_v1) (V m c main_v3) (V m c main_v4) (V m c main_v5) (V m c main_v6)) (V m c main_v8) (V m c main_v9) := by
  have e : ∀ (t : Fin cfg0.N) (y : S4x768x129.Idx), ((cfg0.win 10).rect t).emb y = y := fun t y =>
    funext fun a => Fin.ext ((cfg0.win 10).rect_emb_val_of_index_zero t a (by fin_cases a <;> rfl) y)
  refine (dats m 0 c).arrAt_eq_of_cover 10 _ (fun t h => ?_) (fun i => ⟨t0_0, by decide, Finset.mem_map.mpr ⟨i, Finset.mem_univ _, e t0_0 i⟩⟩)
  rw [flushed10, out_10, iblk_0, iblk_1, iblk_2, iblk_3, iblk_4, iblk_6, iblk_7]
  generalize k0_pay9 (F := F) _ _ _ = P
  funext y
  show P _ = P (((cfg0.win 10).rect t).emb y)
  rw [e]
end

section
variable (m : (ℓ : Loc nD τ sig) → Buf (Elt Ideal) ℓ) (c : Dev nD)

theorem host_v1 (q : Fin 4) (t : Fin 768) (u : Fin 129) (j : Fin 896) : V m c main_v1 (ix4 q t u j) = Ideal.ofBits .fp8e4m3 (m (c, main_arg0) (ix4 q u t j)) := by
  unfold V
  after_reads_at
theorem host_v3 (v : Fin 5000) (j : Fin 896) : V m c main_v3 (ix2 v j) = Ideal.ofBits .fp8e4m3 (m (c, main_arg2) (ix2 v j)) := by
  unfold V
  after_reads_at
theorem host_v4 (q : Fin 4) (t : Fin 768) (u : Fin 129) : V m c main_v4 (ix4 q t u 0) = m (c, main_arg1) (ix3 u q t) := by
  unfold V
  after_reads_at
theorem host_v5 (v : Fin 5000) : V m c main_v5 (ix4 0 0 0 v) = m (c, main_arg3) (ix1 v) := by
  unfold V
  after_reads_at
theorem host_v6 (v : Fin 5000) : V m c main_v6 (ix4 0 0 0 v) = m (c, main_arg4) (ix1 v) := by
  unfold V
  after_reads_at
theorem host_v7 (q : Fin 4) (u : Fin 128) : V m c main_v7 (ix4 q 0 u 0) = m (c, main_arg5) (ix2 q u) := by
  unfold V
  after_reads_at
theorem host_v8 (q : Fin 4) : V m c main_v8 (ix3 q 0 0) = m (c, main_arg6) (ix1 q) := by
  unfold V
  after_reads_at
theorem host_v9 (q : Fin 4) : V m c main_v9 (ix3 q 0 0) = m (c, main_arg7) (ix1 q) := by
  unfold V
  after_reads_at
end

end Cert.ReferenceIdeal.Hand

end
-- ==== Proof.RefValue.lean ====
/- The reference's three results as real numbers of the arguments. -/
module

public import proofs.«01_k».proof.Proof.RefRow
public import proofs.«01_k».proof.Proof.RefArr
public import proofs.«01_k».proof.Proof.PrePre

@[expose] public section

set_option maxHeartbeats 1000000
set_option maxRecDepth 16384

noncomputable section

namespace Cert.ReferenceIdeal.Hand

open Cert.ReferenceIdeal Cert.ReferenceIdeal.Gen
open Idealize.ShloMosaic Idealize.ShloMosaic.TcCoe Cert.Softmax Cert.Args
open Cert.KernelIdeal.Hand (lgt lsum spec13 spec14 spec15 jx kV kV_eq)

section
variable (x0 : FVec Ideal S4x768x129x896 .fp8e4m3) (x2 : FVec Ideal S5000x896 .fp8e4m3) (x1 : FVec Ideal S4x768x129x1 .f32) (x3 x4 : FVec Ideal S1x1x1x5000 .f32)
variable {z : Fin 4 → Fin 129 → Fin 768 → Fin 896 → ℝ} {zs : Fin 4 → Fin 129 → Fin 768 → ℝ} {w : ℕ → Fin 896 → ℝ} {ws b : ℕ → ℝ}
variable (hz : ∀ q t u j, x0 (ix4 q t u j) = ((z q u t j : ℝ) : EReal)) (hw : ∀ v j, x2 (ix2 v j) = ((w v.val j : ℝ) : EReal))
  (hzs : ∀ q t u, x1 (ix4 q t u 0) = ((zs q u t : ℝ) : EReal)) (hws : ∀ v, x3 (ix4 0 0 0 v) = ((ws v.val : ℝ) : EReal)) (hb : ∀ v, x4 (ix4 0 0 0 v) = ((b v.val : ℝ) : EReal))

include hz hw hzs hws hb
theorem logit_eq (q : Fin 4) (t : Fin 768) (u : Fin 129) (v : Fin 5000) : k0_pay1 (F := Ideal) x0 x2 x1 x3 x4 (ix4 q t u v) = ((lgt z zs w ws b q u t v.val : ℝ) : EReal) := by
  rw [pay1_apply, hzs, hws, hb]
  have e : (∑ j : Fin 896, (x0 (ix4 q t u j) : EReal) * x2 (ix2 v j)) = ((∑ j, z q u t j * w v.val j : ℝ) : EReal) := by
    rw [← coe_sum]
    exact Finset.sum_congr rfl fun j _ => by rw [hz, hw, ← EReal.coe_mul]
  rw [e, ← EReal.coe_mul, ← EReal.coe_mul, ← EReal.coe_add]
  rfl

theorem lse_eq (q : Fin 4) (t : Fin 768) (u : Fin 129) : k0_pay2 (F := Ideal) x0 x2 x1 x3 x4 (ix3 q t u) = ((lsum z zs w ws b q u t : ℝ) : EReal) := by
  rw [pay2_apply x0 x2 x1 x3 x4 q t u _ (logit_eq x0 x2 x1 x3 x4 hz hw hzs hws hb q t u),
    lse_once (by norm_num) (fun v : Fin 5000 => lgt z zs w ws b q u t v.val) _ (fun _ => rfl), Fin.sum_univ_eq_sum_range (fun v => Real.exp (lgt z zs w ws b q u t v)) 5000]
  rfl

theorem mean_eq (q : Fin 4) (t : Fin 768) (u : Fin 129) : k0_pay3 (F := Ideal) x0 x2 x1 x3 x4 (ix3 q t u) = ((kV * ∑ v ∈ Finset.range 5000, lgt z zs w ws b q u t v : ℝ) : EReal) := by
  rw [pay3_apply x0 x2 x1 x3 x4 q t u _ (logit_eq x0 x2 x1 x3 x4 hz hw hzs hws hb q t u), coe_sum, kV_eq, ← EReal.coe_mul,
    Fin.sum_univ_eq_sum_range (fun v => lgt z zs w ws b q u t v) 5000]

theorem blank_eq (q : Fin 4) (t : Fin 768) (u : Fin 129) : k0_pay4 (F := Ideal) x0 x2 x1 x3 x4 (ix3 q t u) = ((lgt z zs w ws b q u t 0 - lsum z zs w ws b q u t : ℝ) : EReal) := by
  rw [pay4_apply, logit_eq x0 x2 x1 x3 x4 hz hw hzs hws hb, lse_eq x0 x2 x1 x3 x4 hz hw hzs hws hb, EReal.coe_sub]
  rfl
end

/-- The one-hot sum picks the label's word. -/
theorem pick (y : BitVec 32) (h0 : 0 ≤ y.toInt) (h1 : y.toInt < 5000) (f : ℕ → EReal) :
    (∑ v : Fin 5000, if BitVec.ofNat 32 v.val = y then f v.val else 0) = f y.toNat := by
  have hy : y.toNat < 5000 := by
    rw [BitVec.toInt_eq_toNat_cond] at h0 h1
    have := y.isLt
    split at h0 <;> omega
  have e : ∀ v : Fin 5000, (BitVec.ofNat 32 v.val = y) = (v = ⟨y.toNat, hy⟩) := fun v => propext (by
    rw [← BitVec.toNat_inj, BitVec.toNat_ofNat, Nat.mod_eq_of_lt (by omega), Fin.ext_iff])
  simp only [e]
  rw [Finset.sum_ite_eq' Finset.univ (⟨y.toNat, hy⟩ : Fin 5000) fun v => f v.val, if_pos (Finset.mem_univ _)]

variable (m : (ℓ : Loc nD τ sig) → Buf (Elt Ideal) ℓ) (c : Dev nD)
variable {a0 : IVec S4x129x768x896 8} {a1 : FVec Ideal S129x4x768 .f32} {a2 : IVec S5000x896 8} {a3 a4 : FVec Ideal S5000 .f32}
  {lab : IVec S4x128 32} {el tl : IVec S4 32} (G : Cert.Pre_pre.Hand.Good a0 a1 a2 a3 a4 lab el tl)
  (h0 : m (c, main_arg0) = a0) (h1 : m (c, main_arg1) = a1) (h2 : m (c, main_arg2) = a2) (h3 : m (c, main_arg3) = a3) (h4 : m (c, main_arg4) = a4)
  (h5 : m (c, main_arg5) = lab) (h6 : m (c, main_arg6) = el) (h7 : m (c, main_arg7) = tl)

include G h0 in
theorem in_z (q : Fin 4) (t : Fin 768) (u : Fin 129) (j : Fin 896) : V m c main_v1 (ix4 q t u j) = ((zR a0 q u t j : ℝ) : EReal) := by
  rw [host_v1, h0]; exact dec_eq (G.z127 _) (G.z255 _)
include G h2 in
theorem in_w (v : Fin 5000) (j : Fin 896) : V m c main_v3 (ix2 v j) = ((wR a2 v.val j : ℝ) : EReal) := by
  rw [host_v3, h2]; unfold wR; rw [dif_pos v.isLt]; exact dec_eq (G.w127 _) (G.w255 _)
include G h1 in
theorem in_zs (q : Fin 4) (t : Fin 768) (u : Fin 129) : V m c main_v4 (ix4 q t u 0) = ((zsR a1 q u t : ℝ) : EReal) := by
  rw [host_v4, h1]; exact real_eq (G.zs_fin _)
include G h3 in
theorem in_ws (v : Fin 5000) : V m c main_v5 (ix4 0 0 0 v) = ((vR a3 v.val : ℝ) : EReal) := by
  rw [host_v5, h3]; unfold vR; rw [dif_pos v.isLt]; exact real_eq (G.ws_fin _)
include G h4 in
theorem in_b (v : Fin 5000) : V m c main_v6 (ix4 0 0 0 v) = ((vR a4 v.val : ℝ) : EReal) := by
  rw [host_v6, h4]; unfold vR; rw [dif_pos v.isLt]; exact real_eq (G.b_fin _)

include G h0 h1 h2 h3 h4 h6 h7 in
theorem ref_8 (q : Fin 4) (t : Fin 768) (u : Fin 129) : (dats m 0 c).arrAt 8 cfg0.N (ix3 q t u) = spec13 (zR a0) (zsR a1) (wR a2) (vR a3) (vR a4) el tl u q t := by
  rw [arr_8, pay7_apply, blank_eq _ _ _ _ _ (in_z m c G h0) (in_w m c G h2) (in_zs m c G h1) (in_ws m c G h3) (in_b m c G h4), host_v8, host_v9, h6, h7]
  unfold spec13
  exact if_congr and_comm rfl rfl
include G h0 h1 h2 h3 h4 h6 h7 in
theorem ref_10 (q : Fin 4) (t : Fin 768) (u : Fin 129) : (dats m 0 c).arrAt 10 cfg0.N (ix3 q t u) = spec15 (zR a0) (zsR a1) (wR a2) (vR a3) (vR a4) el tl u q t := by
  rw [arr_10, pay9_apply, mean_eq _ _ _ _ _ (in_z m c G h0) (in_w m c G h2) (in_zs m c G h1) (in_ws m c G h3) (in_b m c G h4), host_v8, host_v9, h6, h7]
  unfold spec15
  exact if_congr and_comm rfl rfl
include G h0 h1 h2 h3 h4 h5 h6 h7 in
theorem ref_9 (q : Fin 4) (t : Fin 768) (u : Fin 128) : (dats m 0 c).arrAt 9 cfg0.N (ix3 q t u) = spec14 (zR a0) (zsR a1) (wR a2) (vR a3) (vR a4) el tl lab u q t := by
  rw [arr_9, pay8_apply, lse_eq _ _ _ _ _ (in_z m c G h0) (in_w m c G h2) (in_zs m c G h1) (in_ws m c G h3) (in_b m c G h4), host_v7, host_v8, host_v9, h5, h6, h7]
  simp only [logit_eq _ _ _ _ _ (in_z m c G h0) (in_w m c G h2) (in_zs m c G h1) (in_ws m c G h3) (in_b m c G h4)]
  rw [pick _ (G.rng.lab_ge _) (G.rng.lab_lt _) (fun v => ((lgt (zR a0) (zsR a1) (wR a2) (vR a3) (vR a4) q (u.castLE (by norm_num)) t v : ℝ) : EReal))]
  unfold spec14
  rw [EReal.coe_sub]
  exact if_congr and_comm rfl rfl

end Cert.ReferenceIdeal.Hand

end
-- ==== Proof.Equal.lean ====
/- From memories that agree on the arguments, the kernel and the reference end with equal results. -/
module

public import proofs.«01_k».proof.Defs
public import proofs.«01_k».proof.Proof.Feed
public import proofs.«01_k».proof.Proof.RefValue
public import proofs.«01_k».proof.Proof.Gen.Pre_pre

@[expose] public section

set_option maxHeartbeats 1000000
set_option maxRecDepth 16384

noncomputable section

namespace Cert.Equal

open Idealize.ShloMosaic Idealize.ShloMosaic.TcCoe Idealize.SL.Sem

/-- The three results, as extended reals, element by element. -/
theorem equal : Cert.algebraic_KernelIdeal_ReferenceIdeal_pre_pre (hKernelIdeal := Cert.KernelIdeal.Gen.facts) (hReferenceIdeal := Cert.ReferenceIdeal.Gen.facts) (hPre_pre := Cert.Pre_pre.Gen.facts) := by
  intro m g m' g' hpre hargs
  have G := Cert.Pre_pre.Hand.good (hpre 0)
  obtain ⟨e0, e1, e2, e3, e4, e5, e6, e7⟩ := hargs 0
  have hr : Cert.KernelIdeal.Hand.RangeOK (Cert.KernelIdeal.Hand.tabs m) := G.rng
  have hok := Cert.KernelIdeal.Hand.ok1_of (F := Ideal) _ hr
  have hT : Cert.KernelIdeal.Hand.TabsOK (Cert.KernelIdeal.Hand.adm1 m hok) := fun i => Cert.KernelIdeal.Hand.tabOK_of _ _ _ hr i
  refine ⟨fun c => Cert.KernelIdeal.Gen.V13 m (Cert.KernelIdeal.Hand.outsF m hok hT) c Cert.KernelIdeal.main_v23,
    fun c => Cert.KernelIdeal.Gen.V13 m (Cert.KernelIdeal.Hand.outsF m hok hT) c Cert.KernelIdeal.main_v24,
    fun c => Cert.KernelIdeal.Gen.V13 m (Cert.KernelIdeal.Hand.outsF m hok hT) c Cert.KernelIdeal.main_v25, ?_, ?_⟩
  · exact (θ_run Cert.KernelIdeal.defs _ _).mono (fun r h c => ⟨(h.1 c).1 Cert.KernelIdeal.main_v23 rfl, (h.1 c).1 Cert.KernelIdeal.main_v24 rfl, (h.1 c).1 Cert.KernelIdeal.main_v25 rfl, (h.1 c).2⟩)
      (Cert.KernelIdeal.Hand.run_main m hok hT g)
  · refine (θ_run Cert.ReferenceIdeal.defs _ _).mono (fun r h c => ?_) (Cert.ReferenceIdeal.Value.run_blocks m' g')
    obtain ⟨k0, k1, k2, rest⟩ := h c
    obtain rfl : c = 0 := Subsingleton.elim _ _
    refine ⟨k0.trans ?_, k1.trans ?_, k2.trans ?_, rest⟩
    · funext i
      rw [eq_ix3 i]
      exact (Cert.ReferenceIdeal.Hand.ref_8 m' 0 G e0 e1 e2 e3 e4 e6 e7 _ _ _).trans (Cert.KernelIdeal.Hand.res_v23 m hok G rfl rfl rfl rfl rfl rfl rfl rfl hT _ _ _).symm
    · funext i
      rw [eq_ix3 i]
      exact (Cert.ReferenceIdeal.Hand.ref_9 m' 0 G e0 e1 e2 e3 e4 e5 e6 e7 _ _ _).trans (Cert.KernelIdeal.Hand.res_v24 m hok G rfl rfl rfl rfl rfl rfl rfl rfl hT _ _ _).symm
    · funext i
      rw [eq_ix3 i]
      exact (Cert.ReferenceIdeal.Hand.ref_10 m' 0 G e0 e1 e2 e3 e4 e6 e7 _ _ _).trans (Cert.KernelIdeal.Hand.res_v25 m hok G rfl rfl rfl rfl rfl rfl rfl rfl hT _ _ _).symm

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_pre_int
public import proofs.«01_k».proof.Proof.Gen.Pre_pre
public import proofs.«01_k».proof.Proof.PrePre
public import proofs.«01_k».proof.Proof.RunAll
public import proofs.«01_k».proof.Proof.RunAllIdeal
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Pre_pre_int.Gen.facts, Cert.Pre_pre.Gen.facts,
  fun m g h => Cert.Kernel.Hand.frame m (Cert.Pre_pre_int.Hand.inRange (h 0)) g,
  fun m g h => Cert.KernelIdeal.Hand.frame m (Cert.Pre_pre_int.Hand.inRange (h 0)) g,
  fun m g h => Cert.KernelIdeal.Hand.frame m (Cert.Pre_pre.Hand.good (h 0)).rng g,
  fun m g _ => Cert.ReferenceIdeal.Gen.frame m g,
  ⟨IdealRules.named_const.statement Cert.KernelIdeal.κ "log2e" .f32 _ _ rfl,
   IdealRules.named_const.statement Cert.KernelIdeal.κ "neg" .f32 _ _ rfl,
   IdealRules.named_const.statement Cert.KernelIdeal.κ "ln2" .f32 _ _ rfl⟩,
  Cert.Equal.equal⟩

end Cert.Proof

end
